-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_routed [hPre_routed : Cert.Pre_routed.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_routed.fn (F := Ideal) (m ((c.tc : Thread Cert.Kernel6Ideal.nD Cert.Kernel6Ideal.τ).loc Cert.Kernel6Ideal.main_arg0))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_routed [hPre_routed : Cert.Pre_routed.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_routed.fn (F := Ideal) (m ((c.tc : Thread Cert.Reference6Ideal.nD Cert.Reference6Ideal.τ).loc Cert.Reference6Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Kernel6Ideal_pre_routed [hKernel6Ideal : Cert.Kernel6Ideal.Facts] [hPre_routed : Cert.Pre_routed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_routed m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Reference6Ideal_pre_routed [hReference6Ideal : Cert.Reference6Ideal.Facts] [hPre_routed : Cert.Pre_routed.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_routed m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v15_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_routed [hKernel6Ideal : Cert.Kernel6Ideal.Facts] [hReference6Ideal : Cert.Reference6Ideal.Facts] [hPre_routed : Cert.Pre_routed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_routed m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_v45) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_tame : Cert.Pre_tame.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Kernel6Ideal_pre_routed (hKernel6Ideal := hKernel6Ideal) (hPre_routed := hPre_routed)
    ∧ quiescent_Reference6Ideal (hReference6Ideal := hReference6Ideal)
    ∧ quiescent_Reference6Ideal_pre_routed (hReference6Ideal := hReference6Ideal) (hPre_routed := hPre_routed)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal_pre_routed (hKernel6Ideal := hKernel6Ideal) (hReference6Ideal := hReference6Ideal) (hPre_routed := hPre_routed)
-- ==== Pre_finite.lean ====
abbrev S16384x1024 : Shape := ⟨2, ![16384, 1024]⟩
abbrev S4x4096x2048 : Shape := ⟨3, ![4, 4096, 2048]⟩
abbrev S2048x2048 : Shape := ⟨2, ![2048, 2048]⟩
abbrev S2048 : Shape := ⟨1, ![2048]⟩
abbrev S2048x64 : Shape := ⟨2, ![2048, 64]⟩
abbrev S64 : Shape := ⟨1, ![64]⟩
abbrev S2048x8 : Shape := ⟨2, ![2048, 8]⟩
abbrev S8 : Shape := ⟨1, ![8]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x4096x2048 : S_.BroadcastsInDim S4x4096x2048 (![] : Fin 0 → Fin S4x4096x2048.rank)
  reducesTo_S4x4096x2048_S_d0_1_2 : S4x4096x2048.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_
  bcast_S_S2048x8 : S_.BroadcastsInDim S2048x8 (![] : Fin 0 → Fin S2048x8.rank)
  reducesTo_S2048x8_S_d0_1 : S2048x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S2048x8 .f32) (main_arg8 : FVec F S8 .f32) (main_v31 : IVec S_ 1) (main_v32 : FVec F S64 .f32) (main_v33 : FVec F S64 .f32) : IVec S_ 1 :=
  let main_v34 : IVec S64 1 := cmpf .olt main_v32 main_v33
  let main_c_12 : IVec S_ 1 := constantI S_ 1 1#1
  let main_v35 : IVec S_ 1 := (fun x v => Host.reduce IntOp.andi x v reducesTo_S64_S_d0 h_S_) main_v34 main_c_12
  let main_v36 : IVec S_ 1 := andi main_v31 main_v35
  let main_v37 : FVec F S2048x8 .f32 := Host.absf main_arg7
  let main_cst_13 : FVec F S_ .f32 := constant S_ .f32 0x7F800000#32
  let main_v38 : FVec F S2048x8 .f32 := broadcastInDim S2048x8 ![] bcast_S_S2048x8 main_cst_13
  let main_v39 : IVec S2048x8 1 := cmpf .olt main_v37 main_v38
  let main_c_14 : IVec S_ 1 := constantI S_ 1 1#1
  let main_v40 : IVec S_ 1 := (fun x v => Host.reduce IntOp.andi x v reducesTo_S2048x8_S_d0_1 h_S_) main_v39 main_c_14
  let main_v41 : IVec S_ 1 := andi main_v36 main_v40
  let main_v42 : FVec F S8 .f32 := Host.absf main_arg8
  let main_cst_15 : FVec F S_ .f32 := constant S_ .f32 0x7F800000#32
  let main_v43 : FVec F S8 .f32 := broadcastInDim S8 ![] bcast_S_S8 main_cst_15
  let main_v44 : IVec S8 1 := cmpf .olt main_v42 main_v43
  let main_c_16 : IVec S_ 1 := constantI S_ 1 1#1
  let main_v45 : IVec S_ 1 := (fun x v => Host.reduce IntOp.andi x v reducesTo_S8_S_d0 h_S_) main_v44 main_c_16
  let main_v46 : IVec S_ 1 := andi main_v41 main_v45
  main_v46

def fn_part1 {F : FTy → Type} [FloatOps F] (main_arg3 : FVec F S2048x2048 .f32) (main_arg4 : FVec F S2048 .f32) (main_arg5 : FVec F S2048x64 .f32) (main_arg6 : FVec F S64 .f32) (main_arg7 : FVec F S2048x8 .f32) (main_arg8 : FVec F S8 .f32) (main_v16 : IVec S_ 1) : IVec S_ 1 :=
  let main_v17 : FVec F S2048x2048 .f32 := Host.absf main_arg3
  let main_cst_5 : FVec F S_ .f32 := constant S_ .f32 0x7F800000#32
  let main_v18 : FVec F S2048x2048 .f32 := broadcastInDim S2048x2048 ![] bcast_S_S2048x2048 main_cst_5
  let main_v19 : IVec S2048x2048 1 := cmpf .olt main_v17 main_v18
  let main_c_6 : IVec S_ 1 := constantI S_ 1 1#1
  let main_v20 : IVec S_ 1 := (fun x v => Host.reduce IntOp.andi x v reducesTo_S2048x2048_S_d0_1 h_S_) main_v19 main_c_6
  let main_v21 : IVec S_ 1 := andi main_v16 main_v20
  let main_v22 : FVec F S2048 .f32 := Host.absf main_arg4
  let main_cst_7 : FVec F S_ .f32 := constant S_ .f32 0x7F800000#32
  let main_v23 : FVec F S2048 .f32 := broadcastInDim S2048 ![] bcast_S_S2048 main_cst_7
  let main_v24 : IVec S2048 1 := cmpf .olt main_v22 main_v23
  let main_c_8 : IVec S_ 1 := constantI S_ 1 1#1
  let main_v25 : IVec S_ 1 := (fun x v => Host.reduce IntOp.andi x v reducesTo_S2048_S_d0 h_S_) main_v24 main_c_8
  let main_v26 : IVec S_ 1 := andi main_v21 main_v25
  let main_v27 : FVec F S2048x64 .f32 := Host.absf main_arg5
  let main_cst_9 : FVec F S_ .f32 := constant S_ .f32 0x7F800000#32
  let main_v28 : FVec F S2048x64 .f32 := broadcastInDim S2048x64 ![] bcast_S_S2048x64 main_cst_9
  let main_v29 : IVec S2048x64 1 := cmpf .olt main_v27 main_v28
  let main_c_10 : IVec S_ 1 := constantI S_ 1 1#1
  let main_v30 : IVec S_ 1 := (fun x v => Host.reduce IntOp.andi x v reducesTo_S2048x64_S_d0_1 h_S_) main_v29 main_c_10
  let main_v31 : IVec S_ 1 := andi main_v26 main_v30
  let main_v32 : FVec F S64 .f32 := Host.absf main_arg6
  let main_cst_11 : FVec F S_ .f32 := constant S_ .f32 0x7F800000#32
  let main_v33 : FVec F S64 .f32 := broadcastInDim S64 ![] bcast_S_S64 main_cst_11
  fn_part2 (F := F) main_arg7 main_arg8 main_v31 main_v32 main_v33

def fn {F : FTy → Type} [FloatOps F] (main_arg0 : FVec F S16384x1024 .bf16) (main_arg1 : FVec F S16384x1024 .bf16) (main_arg2 : FVec F S4x4096x2048 .f32) (main_arg3 : FVec F S2048x2048 .f32) (main_arg4 : FVec F S2048 .f32) (main_arg5 : FVec F S2048x64 .f32) (main_arg6 : FVec F S64 .f32) (main_arg7 : FVec F S2048x8 .f32) (main_arg8 : FVec F S8 .f32) : IVec S_ 1 :=
  let main_v0 : FVec F S16384x1024 .f32 := (extf .f32 · bitsLt_bf16_f32) main_arg0
  let main_v1 : FVec F S16384x1024 .f32 := (extf .f32 · bitsLt_bf16_f32) main_arg1
  let main_v2 : FVec F S16384x1024 .f32 := Host.absf main_v0
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_c : IVec S_ 1 := constantI S_ 1 1#1
  let main_v5 : IVec S_ 1 := (fun x v => Host.reduce IntOp.andi x v reducesTo_S16384x1024_S_d0_1 h_S_) main_v4 main_c
  let main_c_0 : IVec S_ 1 := constantI S_ 1 1#1
  let main_v6 : IVec S_ 1 := andi main_c_0 main_v5
  let main_v7 : FVec F S16384x1024 .f32 := Host.absf main_v1
  let main_cst_1 : FVec F S_ .f32 := constant S_ .f32 0x7F800000#32
  let main_v8 : FVec F S16384x1024 .f32 := broadcastInDim S16384x1024 ![] bcast_S_S16384x1024 main_cst_1
  let main_v9 : IVec S16384x1024 1 := cmpf .olt main_v7 main_v8
  let main_c_2 : IVec S_ 1 := constantI S_ 1 1#1
  let main_v10 : IVec S_ 1 := (fun x v => Host.reduce IntOp.andi x v reducesTo_S16384x1024_S_d0_1 h_S_) main_v9 main_c_2
  let main_v11 : IVec S_ 1 := andi main_v6 main_v10
  let main_v12 : FVec F S4x4096x2048 .f32 := Host.absf main_arg2
  let main_cst_3 : FVec F S_ .f32 := constant S_ .f32 0x7F800000#32
  let main_v13 : FVec F S4x4096x2048 .f32 := broadcastInDim S4x4096x2048 ![] bcast_S_S4x4096x2048 main_cst_3
  let main_v14 : IVec S4x4096x2048 1 := cmpf .olt main_v12 main_v13
  let main_c_4 : IVec S_ 1 := constantI S_ 1 1#1
  let main_v15 : IVec S_ 1 := (fun x v => Host.reduce IntOp.andi x v reducesTo_S4x4096x2048_S_d0_1_2 h_S_) main_v14 main_c_4
  let main_v16 : IVec S_ 1 := andi main_v11 main_v15
  fn_part1 (F := F) main_arg3 main_arg4 main_arg5 main_arg6 main_arg7 main_arg8 main_v16
-- ==== Pre_routed.lean ====
abbrev S16384x128 : Shape := ⟨2, ![16384, 128]⟩
abbrev S16384x2 : Shape := ⟨2, ![16384, 2]⟩
abbrev S_ : Shape := ⟨0, ![]⟩
abbrev S16384x1 : Shape := ⟨2, ![16384, 1]⟩
abbrev S16384 : Shape := ⟨1, ![16384]⟩

class Facts : Prop where
  slices_S16384x128_S16384x2_0_0 : S16384x128.Slices ![0, 0] S16384x2
  bcast_S_S16384x2 : S_.BroadcastsInDim S16384x2 (![] : Fin 0 → Fin S16384x2.rank)
  reducesTo_S16384x2_S_d0_1 : S16384x2.ReducesTo [0, 1] S_
  h_S_ : 0 < S_.numel
  slices_S16384x2_S16384x1_0_0 : S16384x2.Slices ![0, 0] S16384x1
  shapeCasts_S16384x1_S16384 : S16384x1.ShapeCasts S16384
  slices_S16384x2_S16384x1_0_1 : S16384x2.Slices ![0, 1] S16384x1
  reducesTo_S16384_S_d0 : S16384.ReducesTo [0] S_

variable [Facts]

def fn {F : FTy → Type} [FloatOps F] (main_arg0 : FVec F S16384x128 .f32) : IVec S_ 1 :=
  let main_v0 : FVec F S16384x2 .f32 := (extractStridedSlice S16384x2 ![0, 0] · slices_S16384x128_S16384x2_0_0) main_arg0
  let main_v1 : IVec S16384x2 32 := fptosi 32 main_v0
  let main_cst : FVec F S_ .f32 := constant S_ .f32 0x00000000#32
  let main_v2 : FVec F S16384x2 .f32 := broadcastInDim S16384x2 ![] bcast_S_S16384x2 main_cst
  let main_v3 : IVec S16384x2 1 := cmpf .oge main_v0 main_v2
  let main_cst_0 : FVec F S_ .f32 := constant S_ .f32 0x42800000#32
  let main_v4 : FVec F S16384x2 .f32 := broadcastInDim S16384x2 ![] bcast_S_S16384x2 main_cst_0
  let main_v5 : IVec S16384x2 1 := cmpf .olt main_v0 main_v4
  let main_v6 : IVec S16384x2 1 := andi main_v3 main_v5
  let main_c : IVec S_ 1 := constantI S_ 1 1#1
  let main_v7 : IVec S_ 1 := (fun x v => Host.reduce IntOp.andi x v reducesTo_S16384x2_S_d0_1 h_S_) main_v6 main_c
  let main_v8 : IVec S16384x1 32 := (extractStridedSlice S16384x1 ![0, 0] · slices_S16384x2_S16384x1_0_0) main_v1
  let main_v9 : IVec S16384 32 := shapeCast S16384 main_v8 shapeCasts_S16384x1_S16384
  let main_v10 : IVec S16384x1 32 := (extractStridedSlice S16384x1 ![0, 1] · slices_S16384x2_S16384x1_0_1) main_v1
  let main_v11 : IVec S16384 32 := shapeCast S16384 main_v10 shapeCasts_S16384x1_S16384
  let main_v12 : IVec S16384 1 := cmpi .ne main_v9 main_v11
  let main_c_1 : IVec S_ 1 := constantI S_ 1 1#1
  let main_v13 : IVec S_ 1 := (fun x v => Host.reduce IntOp.andi x v reducesTo_S16384_S_d0 h_S_) main_v12 main_c_1
  let main_v14 : IVec S_ 1 := andi main_v7 main_v13
  main_v14
-- ==== Pre_tame.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S4x4096x1024 : Shape := ⟨3, ![4, 4096, 1024]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S64 : S_.BroadcastsInDim S64 (![] : Fin 0 → Fin S64.rank)
  reducesTo_S64_S_d0 : S64.ReducesTo [0] S_
  bcast_S_S64x64x16 : S_.BroadcastsInDim S64x64x16 (![] : Fin 0 → Fin S64x64x16.rank)
  reducesTo_S64x64x16_S_d0_1_2 : S64x64x16.ReducesTo [0, 1, 2] S_
  bcast_S_S64x16x64 : S_.BroadcastsInDim S64x16x64 (![] : Fin 0 → Fin S64x16x64.rank)
  reducesTo_S64x16x64_S_d0_1_2 : S64x16x64.ReducesTo [0, 1, 2] S_
  bcast_S_S4x4096x1024 : S_.BroadcastsInDim S4x4096x1024 (![] : Fin 0 → Fin S4x4096x1024.rank)
  reducesTo_S4x4096x1024_S_d0_1_2 : S4x4096x1024.ReducesTo [0, 1, 2] S_

variable [Facts]

def fn_part2 {F : FTy → Type} [FloatOps F] (main_arg6 : FVec F S64x16x64 .f32) (main_arg7 : FVec F S4x4096x1024 .f32) (main_v30 : IVec S_ 1) (main_v33 : IVec S64x16x64 1) (main_c_11 : IVec S_ 1) : IVec S_ 1 :=
  let main_v34 : IVec S_ 1 := (fun x v => Host.reduce IntOp.andi x v reducesTo_S64x16x64_S_d0_1_2 h_S_) main_v33 main_c_11
  let main_v35 : IVec S_ 1 := andi main_v30 main_v34
  let main_v36 : FVec F S64x16x64 .f32 := Host.absf main_arg6
  let main_cst_12 : FVec F S_ .f32 := constant S_ .f32 0x7F800000#32
  let main_v37 : FVec F S64x16x64 .f32 := broadcastInDim S64x16x64 ![] bcast_S_S64x16x64 main_cst_12
  let main_v38 : IVec S64x16x64 1 := cmpf .olt main_v36 main_v37
  let main_c_13 : IVec S_ 1 := constantI S_ 1 1#1
  let main_v39 : IVec S_ 1 := (fun x v => Host.reduce IntOp.andi x v reducesTo_S64x16x64_S_d0_1_2 h_S_) main_v38 main_c_13
  let main_v40 : IVec S_ 1 := andi main_v35 main_v39
  let main_v41 : FVec F S4x4096x1024 .f32 := Host.absf main_arg7
  let main_cst_14 : FVec F S_ .f32 := constant S_ .f32 0x7F800000#32
  let main_v42 : FVec F S4x4096x1024 .f32 := broadcastInDim S4x4096x1024 ![] bcast_S_S4x4096x1024 main_cst_14
  let main_v43 : IVec S4x4096x1024 1 := cmpf .olt main_v41 main_v42
  let main_c_15 : IVec S_ 1 := constantI S_ 1 1#1
  let main_v44 : IVec S_ 1 := (fun x v => Host.reduce IntOp.andi x v reducesTo_S4x4096x1024_S_d0_1_2 h_S_) main_v43 main_c_15
  let main_v45 : IVec S_ 1 := andi main_v40 main_v44
  main_v45

def fn_part1 {F : FTy → Type} [FloatOps F] (main_arg3 : FVec F S64x64x16 .f32) (main_arg4 : FVec F S64x64x16 .f32) (main_arg5 : FVec F S64x16x64 .f32) (main_arg6 : FVec F S64x16x64 .f32) (main_arg7 : FVec F S4x4096x1024 .f32) (main_v15 : IVec S_ 1) (main_v16 : FVec F S64 .f32) (main_cst_4 : FVec F S_ .f32) : IVec S_ 1 :=
  let main_v17 : FVec F S64 .f32 := broadcastInDim S64 ![] bcast_S_S64 main_cst_4
  let main_v18 : IVec S64 1 := cmpf .olt main_v16 main_v17
  let main_c_5 : IVec S_ 1 := constantI S_ 1 1#1
  let main_v19 : IVec S_ 1 := (fun x v => Host.reduce IntOp.andi x v reducesTo_S64_S_d0 h_S_) main_v18 main_c_5
  let main_v20 : IVec S_ 1 := andi main_v15 main_v19
  let main_v21 : FVec F S64x64x16 .f32 := Host.absf main_arg3
  let main_cst_6 : FVec F S_ .f32 := constant S_ .f32 0x7F800000#32
  let main_v22 : FVec F S64x64x16 .f32 := broadcastInDim S64x64x16 ![] bcast_S_S64x64x16 main_cst_6
  let main_v23 : IVec S64x64x16 1 := cmpf .olt main_v21 main_v22
  let main_c_7 : IVec S_ 1 := constantI S_ 1 1#1
  let main_v24 : IVec S_ 1 := (fun x v => Host.reduce IntOp.andi x v reducesTo_S64x64x16_S_d0_1_2 h_S_) main_v23 main_c_7
  let main_v25 : IVec S_ 1 := andi main_v20 main_v24
  let main_v26 : FVec F S64x64x16 .f32 := Host.absf main_arg4
  let main_cst_8 : FVec F S_ .f32 := constant S_ .f32 0x7F800000#32
  let main_v27 : FVec F S64x64x16 .f32 := broadcastInDim S64x64x16 ![] bcast_S_S64x64x16 main_cst_8
  let main_v28 : IVec S64x64x16 1 := cmpf .olt main_v26 main_v27
  let main_c_9 : IVec S_ 1 := constantI S_ 1 1#1
  let main_v29 : IVec S_ 1 := (fun x v => Host.reduce IntOp.andi x v reducesTo_S64x64x16_S_d0_1_2 h_S_) main_v28 main_c_9
  let main_v30 : IVec S_ 1 := andi main_v25 main_v29
  let main_v31 : FVec F S64x16x64 .f32 := Host.absf main_arg5
  let main_cst_10 : FVec F S_ .f32 := constant S_ .f32 0x7F800000#32
  let main_v32 : FVec F S64x16x64 .f32 := broadcastInDim S64x16x64 ![] bcast_S_S64x16x64 main_cst_10
  let main_v33 : IVec S64x16x64 1 := cmpf .olt main_v31 main_v32
  let main_c_11 : IVec S_ 1 := constantI S_ 1 1#1
  fn_part2 (F := F) main_arg6 main_arg7 main_v30 main_v33 main_c_11

def fn {F : FTy → Type} [FloatOps F] (main_arg0 : FVec F S64x64 .f32) (main_arg1 : FVec F S64x64 .f32) (main_arg2 : FVec F S64 .f32) (main_arg3 : FVec F S64x64x16 .f32) (main_arg4 : FVec F S64x64x16 .f32) (main_arg5 : FVec F S64x16x64 .f32) (main_arg6 : FVec F S64x16x64 .f32) (main_arg7 : FVec F S4x4096x1024 .f32) : IVec S_ 1 :=
  let main_v0 : FVec F S64x64 .f32 := mulf main_arg0 main_arg0
  let main_v1 : FVec F S64x64 .f32 := mulf main_arg1 main_arg1
  let main_v2 : FVec F S64x64 .f32 := addf main_v0 main_v1
  let main_cst : FVec F S_ .f32 := constant S_ .f32 0x00000000#32
  let main_v3 : FVec F S64x64 .f32 := broadcastInDim S64x64 ![] bcast_S_S64x64 main_cst
  let main_v4 : IVec S64x64 1 := cmpf .ogt main_v2 main_v3
  let main_c : IVec S_ 1 := constantI S_ 1 1#1
  let main_v5 : IVec S_ 1 := (fun x v => Host.reduce IntOp.andi x v reducesTo_S64x64_S_d0_1 h_S_) main_v4 main_c
  let main_v6 : FVec F S64x64 .f32 := Host.absf main_arg0
  let main_cst_0 : FVec F S_ .f32 := constant S_ .f32 0x7F800000#32
  let main_v7 : FVec F S64x64 .f32 := broadcastInDim S64x64 ![] bcast_S_S64x64 main_cst_0
  let main_v8 : IVec S64x64 1 := cmpf .olt main_v6 main_v7
  let main_c_1 : IVec S_ 1 := constantI S_ 1 1#1
  let main_v9 : IVec S_ 1 := (fun x v => Host.reduce IntOp.andi x v reducesTo_S64x64_S_d0_1 h_S_) main_v8 main_c_1
  let main_v10 : IVec S_ 1 := andi main_v5 main_v9
  let main_v11 : FVec F S64x64 .f32 := Host.absf main_arg1
  let main_cst_2 : FVec F S_ .f32 := constant S_ .f32 0x7F800000#32
  let main_v12 : FVec F S64x64 .f32 := broadcastInDim S64x64 ![] bcast_S_S64x64 main_cst_2
  let main_v13 : IVec S64x64 1 := cmpf .olt main_v11 main_v12
  let main_c_3 : IVec S_ 1 := constantI S_ 1 1#1
  let main_v14 : IVec S_ 1 := (fun x v => Host.reduce IntOp.andi x v reducesTo_S64x64_S_d0_1 h_S_) main_v13 main_c_3
  let main_v15 : IVec S_ 1 := andi main_v10 main_v14
  let main_v16 : FVec F S64 .f32 := Host.absf main_arg2
  let main_cst_4 : FVec F S_ .f32 := constant S_ .f32 0x7F800000#32
  fn_part1 (F := F) main_arg3 main_arg4 main_arg5 main_arg6 main_arg7 main_v15 main_v16 main_cst_4
-- ==== Kernel.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S4x4096x1024 : Shape := ⟨3, ![4, 4096, 1024]⟩
abbrev S256x64x1024 : Shape := ⟨3, ![256, 64, 1024]⟩
abbrev S64x1024x256 : Shape := ⟨3, ![64, 1024, 256]⟩
abbrev S128x8x1024 : Shape := ⟨3, ![128, 8, 1024]⟩
abbrev S64x128x128 : Shape := ⟨3, ![64, 128, 128]⟩
abbrev S128x1x1024 : Shape := ⟨3, ![128, 1, 1024]⟩
abbrev S128x1024 : Shape := ⟨2, ![128, 1024]⟩
abbrev S1024x128 : Shape := ⟨2, ![1024, 128]⟩
abbrev S64x16x128 : Shape := ⟨3, ![64, 16, 128]⟩
abbrev S64x64x1 : Shape := ⟨3, ![64, 64, 1]⟩
abbrev S64x1x1 : Shape := ⟨3, ![64, 1, 1]⟩
abbrev S2x64x1 : Shape := ⟨3, ![2, 64, 1]⟩
abbrev S2x1x1 : Shape := ⟨3, ![2, 1, 1]⟩
abbrev S2x64x16 : Shape := ⟨3, ![2, 64, 16]⟩
abbrev S2x16x64 : Shape := ⟨3, ![2, 16, 64]⟩
abbrev S2x1024x256 : Shape := ⟨3, ![2, 1024, 256]⟩
abbrev S2x1024x1024 : Shape := ⟨3, ![2, 1024, 1024]⟩
abbrev S2x128x1024 : Shape := ⟨3, ![2, 128, 1024]⟩
abbrev S2x1024x128 : Shape := ⟨3, ![2, 1024, 128]⟩
abbrev S2x128x1 : Shape := ⟨3, ![2, 128, 1]⟩
abbrev S1x1x1 : Shape := ⟨3, ![1, 1, 1]⟩
abbrev S1x1 : Shape := ⟨2, ![1, 1]⟩
abbrev S1x64x1 : Shape := ⟨3, ![1, 64, 1]⟩
abbrev S64x1 : Shape := ⟨2, ![64, 1]⟩
abbrev S64x128 : Shape := ⟨2, ![64, 128]⟩
abbrev S64x1024 : Shape := ⟨2, ![64, 1024]⟩
abbrev S16x1024 : Shape := ⟨2, ![16, 1024]⟩
abbrev S1x64x16 : Shape := ⟨3, ![1, 64, 16]⟩
abbrev S64x16 : Shape := ⟨2, ![64, 16]⟩
abbrev S1x1024x128 : Shape := ⟨3, ![1, 1024, 128]⟩
abbrev S1x128x1024 : Shape := ⟨3, ![1, 128, 1024]⟩
abbrev S1x64x1024 : Shape := ⟨3, ![1, 64, 1024]⟩
abbrev S128x1 : Shape := ⟨2, ![128, 1]⟩
abbrev S1x128x1 : Shape := ⟨3, ![1, 128, 1]⟩
abbrev S1x16x64 : Shape := ⟨3, ![1, 16, 64]⟩
abbrev S16x64 : Shape := ⟨2, ![16, 64]⟩
abbrev S16x2048 : Shape := ⟨2, ![16, 2048]⟩
abbrev S1x1024x1024 : Shape := ⟨3, ![1, 1024, 1024]⟩
abbrev S1024x1024 : Shape := ⟨2, ![1024, 1024]⟩
abbrev S1x16x1024 : Shape := ⟨3, ![1, 16, 1024]⟩
abbrev S1x1024x256 : Shape := ⟨3, ![1, 1024, 256]⟩
abbrev S1024x256 : Shape := ⟨2, ![1024, 256]⟩
abbrev S128x256 : Shape := ⟨2, ![128, 256]⟩
abbrev S64x256 : Shape := ⟨2, ![64, 256]⟩
abbrev S1x256 : Shape := ⟨2, ![1, 256]⟩

abbrev nBuf : Space → Nat
  | .hbm => 18
  | .vmem => 34
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S64x16x64, .f32⟩
  | .hbm, ⟨7, _⟩ => ⟨S4x4096x1024, .f32⟩
  | .hbm, ⟨8, _⟩ => ⟨S64x64x16, .f32⟩
  | .hbm, ⟨9, _⟩ => ⟨S64x64x16, .f32⟩
  | .hbm, ⟨10, _⟩ => ⟨S256x64x1024, .f32⟩
  | .hbm, ⟨11, _⟩ => ⟨S64x1024x256, .bf16⟩
  | .hbm, ⟨12, _⟩ => ⟨S64x64x1, .f32⟩
  | .hbm, ⟨13, _⟩ => ⟨S64x64x1, .f32⟩
  | .hbm, ⟨14, _⟩ => ⟨S64x1x1, .f32⟩
  | .hbm, ⟨15, _⟩ => ⟨S64x1024x256, .f32⟩
  | .hbm, ⟨16, _⟩ => ⟨S256x64x1024, .f32⟩
  | .hbm, ⟨17, _⟩ => ⟨S4x4096x1024, .f32⟩
  | .local _ .vmem, ⟨0, _⟩ => ⟨S128x8x1024, .f32⟩
  | .local _ .vmem, ⟨1, _⟩ => ⟨S128x8x1024, .f32⟩
  | .local _ .vmem, ⟨2, _⟩ => ⟨S64x128x128, .bf16⟩
  | .local _ .vmem, ⟨3, _⟩ => ⟨S64x128x128, .bf16⟩
  | .local _ .vmem, ⟨4, _⟩ => ⟨S2x64x1, .f32⟩
  | .local _ .vmem, ⟨5, _⟩ => ⟨S2x64x1, .f32⟩
  | .local _ .vmem, ⟨6, _⟩ => ⟨S2x64x1, .f32⟩
  | .local _ .vmem, ⟨7, _⟩ => ⟨S2x64x1, .f32⟩
  | .local _ .vmem, ⟨8, _⟩ => ⟨S2x1x1, .f32⟩
  | .local _ .vmem, ⟨9, _⟩ => ⟨S2x1x1, .f32⟩
  | .local _ .vmem, ⟨10, _⟩ => ⟨S2x64x16, .f32⟩
  | .local _ .vmem, ⟨11, _⟩ => ⟨S2x64x16, .f32⟩
  | .local _ .vmem, ⟨12, _⟩ => ⟨S2x64x16, .f32⟩
  | .local _ .vmem, ⟨13, _⟩ => ⟨S2x64x16, .f32⟩
  | .local _ .vmem, ⟨14, _⟩ => ⟨S2x64x16, .f32⟩
  | .local _ .vmem, ⟨15, _⟩ => ⟨S2x64x16, .f32⟩
  | .local _ .vmem, ⟨16, _⟩ => ⟨S2x64x16, .f32⟩
  | .local _ .vmem, ⟨17, _⟩ => ⟨S2x64x16, .f32⟩
  | .local _ .vmem, ⟨18, _⟩ => ⟨S2x16x64, .f32⟩
  | .local _ .vmem, ⟨19, _⟩ => ⟨S2x16x64, .f32⟩
  | .local _ .vmem, ⟨20, _⟩ => ⟨S2x16x64, .f32⟩
  | .local _ .vmem, ⟨21, _⟩ => ⟨S2x16x64, .f32⟩
  | .local _ .vmem, ⟨22, _⟩ => ⟨S2x1024x256, .bf16⟩
  | .local _ .vmem, ⟨23, _⟩ => ⟨S2x1024x256, .bf16⟩
  | .local _ .vmem, ⟨24, _⟩ => ⟨S2x1024x256, .f32⟩
  | .local _ .vmem, ⟨25, _⟩ => ⟨S2x1024x256, .f32⟩
  | .local _ .vmem, ⟨26, _⟩ => ⟨S2x1024x1024, .bf16⟩
  | .local _ .vmem, ⟨27, _⟩ => ⟨S2x128x1024, .bf16⟩
  | .local _ .vmem, ⟨28, _⟩ => ⟨S2x1024x128, .bf16⟩
  | .local _ .vmem, ⟨29, _⟩ => ⟨S2x128x1, .f32⟩
  | .local _ .vmem, ⟨30, _⟩ => ⟨S64x128x128, .f32⟩
  | .local _ .vmem, ⟨31, _⟩ => ⟨S64x128x128, .f32⟩
  | .local _ .vmem, ⟨32, _⟩ => ⟨S128x8x1024, .f32⟩
  | .local _ .vmem, ⟨33, _⟩ => ⟨S128x8x1024, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc1_scratch3 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc2_sem0_0 : DmaSem sig := 26
abbrev cc2_sem0_1 : DmaSem sig := 27
abbrev cc2_sem1_0 : DmaSem sig := 28
abbrev cc2_sem1_1 : DmaSem sig := 29

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S128x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x64x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x64x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x64x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x64x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x64x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x64x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2x16x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2x16x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2x1024x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2x1024x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨2, ![2, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S64x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S128x8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]
-- ==== ReferenceIdeal.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S4x4096x1024 : Shape := ⟨3, ![4, 4096, 1024]⟩
abbrev S4x4096x64x16 : Shape := ⟨4, ![4, 4096, 64, 16]⟩
abbrev S64x1 : Shape := ⟨2, ![64, 1]⟩
abbrev S_ : Shape := ⟨0, ![]⟩
abbrev S64x64x1 : Shape := ⟨3, ![64, 64, 1]⟩
abbrev S64x64x4x4096 : Shape := ⟨4, ![64, 64, 4, 4096]⟩
abbrev S4096x4x64x64 : Shape := ⟨4, ![4096, 4, 64, 64]⟩
abbrev S4x64x64 : Shape := ⟨3, ![4, 64, 64]⟩
abbrev S1x4x64x64 : Shape := ⟨4, ![1, 4, 64, 64]⟩
abbrev S1x64x64 : Shape := ⟨3, ![1, 64, 64]⟩
abbrev S64x4096x4x16 : Shape := ⟨4, ![64, 4096, 4, 16]⟩

abbrev nBuf : Space → Nat
  | .hbm => 112
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S64x16x64, .f32⟩
  | .hbm, ⟨7, _⟩ => ⟨S4x4096x1024, .f32⟩
  | .hbm, ⟨8, _⟩ => ⟨S4x4096x64x16, .f32⟩
  | .hbm, ⟨9, _⟩ => ⟨S64, .f32⟩
  | .hbm, ⟨10, _⟩ => ⟨S64x1, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S_, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64x1, .f32⟩
  | .hbm, ⟨35, _⟩ => ⟨S64x64x1, .f32⟩
  | .hbm, ⟨36, _⟩ => ⟨S64x64x16, .f32⟩
  | .hbm, ⟨37, _⟩ => ⟨S64x64x16, .f32⟩
  | .hbm, ⟨38, _⟩ => ⟨S64x64x16, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S64x64x16, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S64x64x4x4096, .f32⟩
  | .hbm, ⟨47, _⟩ => ⟨S4096x4x64x64, .f32⟩
  | .hbm, ⟨48, _⟩ => ⟨S64x64x4x4096, .f32⟩
  | .hbm, ⟨49, _⟩ => ⟨S4096x4x64x64, .f32⟩
  | .hbm, ⟨50, _⟩ => ⟨S_, .f32⟩
  | .hbm, ⟨51, _⟩ => ⟨S4x64x64, .f32⟩
  | .hbm, ⟨52, _⟩ => ⟨S_, .f32⟩
  | .hbm, ⟨53, _⟩ => ⟨S4096x4x64x64, .f32⟩
  | .hbm, ⟨54, _⟩ => ⟨S_, .f32⟩
  | .hbm, ⟨55, _⟩ => ⟨S4096x4x64x64, .f32⟩
  | .hbm, ⟨56, _⟩ => ⟨S_, .i32⟩
  | .hbm, ⟨57, _⟩ => ⟨S4096x4x64x64, .f32⟩
  | .hbm, ⟨58, _⟩ => ⟨S4096x4x64x64, .f32⟩
  | .hbm, ⟨59, _⟩ => ⟨S64x64, .f32⟩
  | .hbm, ⟨60, _⟩ => ⟨S64x64, .f32⟩
  | .hbm, ⟨61, _⟩ => ⟨S_, .i32⟩
  | .hbm, ⟨62, _⟩ => ⟨S4x64x64, .f32⟩
  | .hbm, ⟨63, _⟩ => ⟨S4x64x64, .f32⟩
  | .hbm, ⟨64, _⟩ => ⟨S4096x4x64x64, .f32⟩
  | .hbm, ⟨65, _⟩ => ⟨S4096x4x64x64, .f32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x4x64x64, .f32⟩
  | .hbm, ⟨72, _⟩ => ⟨S4x64x64, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1x4x64x64, .f32⟩
  | .hbm, ⟨77, _⟩ => ⟨S4x64x64, .f32⟩
  | .hbm, ⟨78, _⟩ => ⟨S1x64x64, .f32⟩
  | .hbm, ⟨79, _⟩ => ⟨S4x64x64, .f32⟩
  | .hbm, ⟨80, _⟩ => ⟨S4x64x64, .f32⟩
  | .hbm, ⟨81, _⟩ => ⟨S1x64x64, .f32⟩
  | .hbm, ⟨82, _⟩ => ⟨S4x64x64, .f32⟩
  | .hbm, ⟨83, _⟩ => ⟨S4x64x64, .f32⟩
  | .hbm, ⟨84, _⟩ => ⟨S4x64x64, .f32⟩
  | .hbm, ⟨85, _⟩ => ⟨S1x64x64, .f32⟩
  | .hbm, ⟨86, _⟩ => ⟨S4x64x64, .f32⟩
  | .hbm, ⟨87, _⟩ => ⟨S4x64x64, .f32⟩
  | .hbm, ⟨88, _⟩ => ⟨S1x64x64, .f32⟩
  | .hbm, ⟨89, _⟩ => ⟨S4x64x64, .f32⟩
  | .hbm, ⟨90, _⟩ => ⟨S4x64x64, .f32⟩
  | .hbm, ⟨91, _⟩ => ⟨S4x64x64, .f32⟩
  | .hbm, ⟨92, _⟩ => ⟨S4x64x64, .f32⟩
  | .hbm, ⟨93, _⟩ => ⟨S4x64x64, .f32⟩
  | .hbm, ⟨94, _⟩ => ⟨S1x4x64x64, .f32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S4096x4x64x64, .f32⟩
  | .hbm, ⟨99, _⟩ => ⟨S1x4x64x64, .f32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S4096x4x64x64, .f32⟩
  | .hbm, ⟨104, _⟩ => ⟨S_, .i32⟩
  | .hbm, ⟨105, _⟩ => ⟨S_, .i32⟩
  | .hbm, ⟨106, _⟩ => ⟨S64x4096x4x16, .f32⟩
  | .hbm, ⟨107, _⟩ => ⟨S4x4096x64x16, .f32⟩
  | .hbm, ⟨108, _⟩ => ⟨S64x4096x4x16, .f32⟩
  | .hbm, ⟨109, _⟩ => ⟨S4x4096x64x16, .f32⟩
  | .hbm, ⟨110, _⟩ => ⟨S4x4096x64x16, .f32⟩
  | .hbm, ⟨111, _⟩ => ⟨S4x4096x1024, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_0 : Ref sig .tc := ⟨.hbm, 50, rfl⟩
abbrev main_v41 : Ref sig .tc := ⟨.hbm, 51, rfl⟩
abbrev main_cst_1 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_c : Ref sig .tc := ⟨.hbm, 56, rfl⟩
abbrev main_v44_0 : Ref sig .tc := ⟨.hbm, 57, rfl⟩
abbrev main_v44_1 : Ref sig .tc := ⟨.hbm, 58, rfl⟩
abbrev main_v44_2 : Ref sig .tc := ⟨.hbm, 59, rfl⟩
abbrev main_v44_3 : Ref sig .tc := ⟨.hbm, 60, rfl⟩
abbrev main_v44_4 : Ref sig .tc := ⟨.hbm, 61, rfl⟩
abbrev main_v44_5 : Ref sig .tc := ⟨.hbm, 62, rfl⟩
abbrev main_v44_6 : Ref sig .tc := ⟨.hbm, 63, rfl⟩
abbrev main_v44_7 : Ref sig .tc := ⟨.hbm, 64, rfl⟩
abbrev main_v44_8 : Ref sig .tc := ⟨.hbm, 65, rfl⟩
abbrev main_while0c_c_11 : Ref sig .tc := ⟨.hbm, 66, rfl⟩
abbrev main_while0c_v51 : Ref sig .tc := ⟨.hbm, 67, rfl⟩
abbrev main_while0b_call0_c : Ref sig .tc := ⟨.hbm, 68, rfl⟩
abbrev main_while0b_call0_c_0 : Ref sig .tc := ⟨.hbm, 69, rfl⟩
abbrev main_while0b_call0_c_1 : Ref sig .tc := ⟨.hbm, 70, rfl⟩
abbrev main_while0b_call0_v0 : Ref sig .tc := ⟨.hbm, 71, rfl⟩
abbrev main_while0b_v51 : Ref sig .tc := ⟨.hbm, 72, rfl⟩
abbrev main_while0b_call1_c : Ref sig .tc := ⟨.hbm, 73, rfl⟩
abbrev main_while0b_call1_c_0 : Ref sig .tc := ⟨.hbm, 74, rfl⟩
abbrev main_while0b_call1_c_1 : Ref sig .tc := ⟨.hbm, 75, rfl⟩
abbrev main_while0b_call1_v0 : Ref sig .tc := ⟨.hbm, 76, rfl⟩
abbrev main_while0b_v52 : Ref sig .tc := ⟨.hbm, 77, rfl⟩
abbrev main_while0b_v53 : Ref sig .tc := ⟨.hbm, 78, rfl⟩
abbrev main_while0b_v54 : Ref sig .tc := ⟨.hbm, 79, rfl⟩
abbrev main_while0b_v55 : Ref sig .tc := ⟨.hbm, 80, rfl⟩
abbrev main_while0b_v56 : Ref sig .tc := ⟨.hbm, 81, rfl⟩
abbrev main_while0b_v57 : Ref sig .tc := ⟨.hbm, 82, rfl⟩
abbrev main_while0b_v58 : Ref sig .tc := ⟨.hbm, 83, rfl⟩
abbrev main_while0b_v59 : Ref sig .tc := ⟨.hbm, 84, rfl⟩
abbrev main_while0b_v60 : Ref sig .tc := ⟨.hbm, 85, rfl⟩
abbrev main_while0b_v61 : Ref sig .tc := ⟨.hbm, 86, rfl⟩
abbrev main_while0b_v62 : Ref sig .tc := ⟨.hbm, 87, rfl⟩
abbrev main_while0b_v63 : Ref sig .tc := ⟨.hbm, 88, rfl⟩
abbrev main_while0b_v64 : Ref sig .tc := ⟨.hbm, 89, rfl⟩
abbrev main_while0b_v65 : Ref sig .tc := ⟨.hbm, 90, rfl⟩
abbrev main_while0b_v66 : Ref sig .tc := ⟨.hbm, 91, rfl⟩
abbrev main_while0b_v67 : Ref sig .tc := ⟨.hbm, 92, rfl⟩
abbrev main_while0b_v68 : Ref sig .tc := ⟨.hbm, 93, rfl⟩
abbrev main_while0b_call2_v0 : Ref sig .tc := ⟨.hbm, 94, rfl⟩
abbrev main_while0b_call2_c : Ref sig .tc := ⟨.hbm, 95, rfl⟩
abbrev main_while0b_call2_c_0 : Ref sig .tc := ⟨.hbm, 96, rfl⟩
abbrev main_while0b_call2_c_1 : Ref sig .tc := ⟨.hbm, 97, rfl⟩
abbrev main_while0b_v69 : Ref sig .tc := ⟨.hbm, 98, rfl⟩
abbrev main_while0b_call3_v0 : Ref sig .tc := ⟨.hbm, 99, rfl⟩
abbrev main_while0b_call3_c : Ref sig .tc := ⟨.hbm, 100, rfl⟩
abbrev main_while0b_call3_c_0 : Ref sig .tc := ⟨.hbm, 101, rfl⟩
abbrev main_while0b_call3_c_1 : Ref sig .tc := ⟨.hbm, 102, rfl⟩
abbrev main_while0b_v70 : Ref sig .tc := ⟨.hbm, 103, rfl⟩
abbrev main_while0b_c_11 : Ref sig .tc := ⟨.hbm, 104, rfl⟩
abbrev main_while0b_v71 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4x4096x2048 : Shape := ⟨3, ![4, 4096, 2048]⟩
abbrev S2048 : Shape := ⟨1, ![2048]⟩
abbrev S2048x4384 : Shape := ⟨2, ![2048, 4384]⟩
abbrev S16384x2048 : Shape := ⟨2, ![16384, 2048]⟩
abbrev S_ : Shape := ⟨0, ![]⟩
abbrev S2048x4608 : Shape := ⟨2, ![2048, 4608]⟩
abbrev S1x2048 : Shape := ⟨2, ![1, 2048]⟩
abbrev S16384x4608 : Shape := ⟨2, ![16384, 4608]⟩
abbrev S1024x2048 : Shape := ⟨2, ![1024, 2048]⟩
abbrev S2048x1152 : Shape := ⟨2, ![2048, 1152]⟩
abbrev S1024x1152 : Shape := ⟨2, ![1024, 1152]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x4384, .f32⟩
  | .hbm, ⟨3, _⟩ => ⟨S16384x2048, .f32⟩
  | .hbm, ⟨4, _⟩ => ⟨S_, .i32⟩
  | .hbm, ⟨5, _⟩ => ⟨S_, .f32⟩
  | .hbm, ⟨6, _⟩ => ⟨S2048x4608, .f32⟩
  | .hbm, ⟨7, _⟩ => ⟨S2048x4608, .bf16⟩
  | .hbm, ⟨8, _⟩ => ⟨S1x2048, .f32⟩
  | .hbm, ⟨9, _⟩ => ⟨S16384x4608, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1152, .bf16⟩
  | .local _ .vmem, ⟨4, _⟩ => ⟨S2048x1152, .bf16⟩
  | .local _ .vmem, ⟨5, _⟩ => ⟨S1024x1152, .f32⟩
  | .local _ .vmem, ⟨6, _⟩ => ⟨S1024x1152, .f32⟩
  | .local _ .vmem, ⟨7, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x2048 : Shape := ⟨3, ![4, 4096, 2048]⟩
abbrev S2048 : Shape := ⟨1, ![2048]⟩
abbrev S2048x4384 : Shape := ⟨2, ![2048, 4384]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x4384 : Shape := ⟨3, ![4, 4096, 4384]⟩
abbrev S16384x4384 : Shape := ⟨2, ![16384, 4384]⟩
abbrev S16384x4608 : Shape := ⟨2, ![16384, 4608]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x4384, .f32⟩
  | .hbm, ⟨3, _⟩ => ⟨S4x4096x2048, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x2048, .f32⟩
  | .hbm, ⟨15, _⟩ => ⟨S4x4096x2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | .hbm, ⟨19, _⟩ => ⟨S4x4096x4384, .f32⟩
  | .hbm, ⟨20, _⟩ => ⟨S16384x4384, .f32⟩
  | .hbm, ⟨21, _⟩ => ⟨S_, .i32⟩
  | .hbm, ⟨22, _⟩ => ⟨S_, .f32⟩
  | .hbm, ⟨23, _⟩ => ⟨S16384x4608, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel3.lean ====
abbrev S16384x1024 : Shape := ⟨2, ![16384, 1024]⟩
abbrev S16384x4608 : Shape := ⟨2, ![16384, 4608]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x4608, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S1024x1024, .bf16⟩
  | .hbm, ⟨7, _⟩ => ⟨S1x1024, .f32⟩
  | .hbm, ⟨8, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S16384x4608 : Shape := ⟨2, ![16384, 4608]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4608, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel4.lean ====
abbrev S16384x1024 : Shape := ⟨2, ![16384, 1024]⟩
abbrev S4x4096x2048 : Shape := ⟨3, ![4, 4096, 2048]⟩
abbrev S2048x2048 : Shape := ⟨2, ![2048, 2048]⟩
abbrev S2048 : Shape := ⟨1, ![2048]⟩
abbrev S2048x64 : Shape := ⟨2, ![2048, 64]⟩
abbrev S64 : Shape := ⟨1, ![64]⟩
abbrev S2048x8 : Shape := ⟨2, ![2048, 8]⟩
abbrev S8 : Shape := ⟨1, ![8]⟩
abbrev S16384x2048 : Shape := ⟨2, ![16384, 2048]⟩
abbrev S2048x72 : Shape := ⟨2, ![2048, 72]⟩
abbrev S_ : Shape := ⟨0, ![]⟩
abbrev S2048x128 : Shape := ⟨2, ![2048, 128]⟩
abbrev S2048x256 : Shape := ⟨2, ![2048, 256]⟩
abbrev S72 : Shape := ⟨1, ![72]⟩
abbrev S1x72 : Shape := ⟨2, ![1, 72]⟩
abbrev S1x128 : Shape := ⟨2, ![1, 128]⟩
abbrev S1024x2048 : Shape := ⟨2, ![1024, 2048]⟩
abbrev S1x2048 : Shape := ⟨2, ![1, 2048]⟩
abbrev S16384x1x2048 : Shape := ⟨3, ![16384, 1, 2048]⟩
abbrev S16384x128 : Shape := ⟨2, ![16384, 128]⟩
abbrev S512x1024 : Shape := ⟨2, ![512, 1024]⟩
abbrev S512x2048 : Shape := ⟨2, ![512, 2048]⟩
abbrev S512x1x2048 : Shape := ⟨3, ![512, 1, 2048]⟩
abbrev S512x128 : Shape := ⟨2, ![512, 128]⟩
abbrev S512 : Shape := ⟨1, ![512]⟩
abbrev S512x1 : Shape := ⟨2, ![512, 1]⟩

abbrev nBuf : Space → Nat
  | .hbm => 31
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x4096x2048, .f32⟩
  | .hbm, ⟨3, _⟩ => ⟨S2048x2048, .f32⟩
  | .hbm, ⟨4, _⟩ => ⟨S2048, .f32⟩
  | .hbm, ⟨5, _⟩ => ⟨S2048x64, .f32⟩
  | .hbm, ⟨6, _⟩ => ⟨S64, .f32⟩
  | .hbm, ⟨7, _⟩ => ⟨S2048x8, .f32⟩
  | .hbm, ⟨8, _⟩ => ⟨S8, .f32⟩
  | .hbm, ⟨9, _⟩ => ⟨S16384x2048, .f32⟩
  | .hbm, ⟨10, _⟩ => ⟨S2048x2048, .bf16⟩
  | .hbm, ⟨11, _⟩ => ⟨S2048x72, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x128, .bf16⟩
  | .hbm, ⟨16, _⟩ => ⟨S2048x128, .f32⟩
  | .hbm, ⟨17, _⟩ => ⟨S2048x128, .f32⟩
  | .hbm, ⟨18, _⟩ => ⟨S2048x128, .bf16⟩
  | .hbm, ⟨19, _⟩ => ⟨S2048x256, .bf16⟩
  | .hbm, ⟨20, _⟩ => ⟨S72, .f32⟩
  | .hbm, ⟨21, _⟩ => ⟨S1x72, .f32⟩
  | .hbm, ⟨22, _⟩ => ⟨S_, .i32⟩
  | .hbm, ⟨23, _⟩ => ⟨S_, .f32⟩
  | .hbm, ⟨24, _⟩ => ⟨S1x128, .f32⟩
  | .hbm, ⟨25, _⟩ => ⟨S1024x2048, .bf16⟩
  | .hbm, ⟨26, _⟩ => ⟨S1024x2048, .bf16⟩
  | .hbm, ⟨27, _⟩ => ⟨S1x2048, .f32⟩
  | .hbm, ⟨28, _⟩ => ⟨S16384x2048, .f32⟩
  | .hbm, ⟨29, _⟩ => ⟨S16384x1x2048, .bf16⟩
  | .hbm, ⟨30, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S2048x256, .bf16⟩
  | .local _ .vmem, ⟨10, _⟩ => ⟨S1x128, .f32⟩
  | .local _ .vmem, ⟨11, _⟩ => ⟨S512x2048, .f32⟩
  | .local _ .vmem, ⟨12, _⟩ => ⟨S512x2048, .f32⟩
  | .local _ .vmem, ⟨13, _⟩ => ⟨S512x1x2048, .bf16⟩
  | .local _ .vmem, ⟨14, _⟩ => ⟨S512x1x2048, .bf16⟩
  | .local _ .vmem, ⟨15, _⟩ => ⟨S512x128, .f32⟩
  | .local _ .vmem, ⟨16, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16384x1024 : Shape := ⟨2, ![16384, 1024]⟩
abbrev S4x4096x2048 : Shape := ⟨3, ![4, 4096, 2048]⟩
abbrev S2048x2048 : Shape := ⟨2, ![2048, 2048]⟩
abbrev S2048 : Shape := ⟨1, ![2048]⟩
abbrev S2048x64 : Shape := ⟨2, ![2048, 64]⟩
abbrev S64 : Shape := ⟨1, ![64]⟩
abbrev S2048x8 : Shape := ⟨2, ![2048, 8]⟩
abbrev S8 : Shape := ⟨1, ![8]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x1x2048 : Shape := ⟨3, ![16384, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x4096x2048, .f32⟩
  | .hbm, ⟨3, _⟩ => ⟨S2048x2048, .f32⟩
  | .hbm, ⟨4, _⟩ => ⟨S2048, .f32⟩
  | .hbm, ⟨5, _⟩ => ⟨S2048x64, .f32⟩
  | .hbm, ⟨6, _⟩ => ⟨S64, .f32⟩
  | .hbm, ⟨7, _⟩ => ⟨S2048x8, .f32⟩
  | .hbm, ⟨8, _⟩ => ⟨S8, .f32⟩
  | .hbm, ⟨9, _⟩ => ⟨S16384x1024, .f32⟩
  | .hbm, ⟨10, _⟩ => ⟨S16384x1024, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S16384x2048, .bf16⟩
  | .hbm, ⟨32, _⟩ => ⟨S16384x1x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Kernel5.lean ====
abbrev S16384x1024 : Shape := ⟨2, ![16384, 1024]⟩
abbrev S4x4096x2048 : Shape := ⟨3, ![4, 4096, 2048]⟩
abbrev S2048x2048 : Shape := ⟨2, ![2048, 2048]⟩
abbrev S2048 : Shape := ⟨1, ![2048]⟩
abbrev S2048x64 : Shape := ⟨2, ![2048, 64]⟩
abbrev S64 : Shape := ⟨1, ![64]⟩
abbrev S2048x8 : Shape := ⟨2, ![2048, 8]⟩
abbrev S8 : Shape := ⟨1, ![8]⟩
abbrev S16384x2048 : Shape := ⟨2, ![16384, 2048]⟩
abbrev S2048x72 : Shape := ⟨2, ![2048, 72]⟩
abbrev S_ : Shape := ⟨0, ![]⟩
abbrev S2048x128 : Shape := ⟨2, ![2048, 128]⟩
abbrev S2048x256 : Shape := ⟨2, ![2048, 256]⟩
abbrev S72 : Shape := ⟨1, ![72]⟩
abbrev S1x72 : Shape := ⟨2, ![1, 72]⟩
abbrev S1x128 : Shape := ⟨2, ![1, 128]⟩
abbrev S1024x2048 : Shape := ⟨2, ![1024, 2048]⟩
abbrev S1x2048 : Shape := ⟨2, ![1, 2048]⟩
abbrev S16384x1x2048 : Shape := ⟨3, ![16384, 1, 2048]⟩
abbrev S16384x128 : Shape := ⟨2, ![16384, 128]⟩
abbrev S512x1024 : Shape := ⟨2, ![512, 1024]⟩
abbrev S512x2048 : Shape := ⟨2, ![512, 2048]⟩
abbrev S512x1x2048 : Shape := ⟨3, ![512, 1, 2048]⟩
abbrev S512x128 : Shape := ⟨2, ![512, 128]⟩
abbrev S512 : Shape := ⟨1, ![512]⟩
abbrev S512x1 : Shape := ⟨2, ![512, 1]⟩

abbrev nBuf : Space → Nat
  | .hbm => 31
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x4096x2048, .f32⟩
  | .hbm, ⟨3, _⟩ => ⟨S2048x2048, .f32⟩
  | .hbm, ⟨4, _⟩ => ⟨S2048, .f32⟩
  | .hbm, ⟨5, _⟩ => ⟨S2048x64, .f32⟩
  | .hbm, ⟨6, _⟩ => ⟨S64, .f32⟩
  | .hbm, ⟨7, _⟩ => ⟨S2048x8, .f32⟩
  | .hbm, ⟨8, _⟩ => ⟨S8, .f32⟩
  | .hbm, ⟨9, _⟩ => ⟨S16384x2048, .f32⟩
  | .hbm, ⟨10, _⟩ => ⟨S2048x2048, .bf16⟩
  | .hbm, ⟨11, _⟩ => ⟨S2048x72, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x128, .bf16⟩
  | .hbm, ⟨16, _⟩ => ⟨S2048x128, .f32⟩
  | .hbm, ⟨17, _⟩ => ⟨S2048x128, .f32⟩
  | .hbm, ⟨18, _⟩ => ⟨S2048x128, .bf16⟩
  | .hbm, ⟨19, _⟩ => ⟨S2048x256, .bf16⟩
  | .hbm, ⟨20, _⟩ => ⟨S72, .f32⟩
  | .hbm, ⟨21, _⟩ => ⟨S1x72, .f32⟩
  | .hbm, ⟨22, _⟩ => ⟨S_, .i32⟩
  | .hbm, ⟨23, _⟩ => ⟨S_, .f32⟩
  | .hbm, ⟨24, _⟩ => ⟨S1x128, .f32⟩
  | .hbm, ⟨25, _⟩ => ⟨S1024x2048, .bf16⟩
  | .hbm, ⟨26, _⟩ => ⟨S1024x2048, .bf16⟩
  | .hbm, ⟨27, _⟩ => ⟨S1x2048, .f32⟩
  | .hbm, ⟨28, _⟩ => ⟨S16384x2048, .f32⟩
  | .hbm, ⟨29, _⟩ => ⟨S16384x1x2048, .bf16⟩
  | .hbm, ⟨30, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S2048x256, .bf16⟩
  | .local _ .vmem, ⟨10, _⟩ => ⟨S1x128, .f32⟩
  | .local _ .vmem, ⟨11, _⟩ => ⟨S512x2048, .f32⟩
  | .local _ .vmem, ⟨12, _⟩ => ⟨S512x2048, .f32⟩
  | .local _ .vmem, ⟨13, _⟩ => ⟨S512x1x2048, .bf16⟩
  | .local _ .vmem, ⟨14, _⟩ => ⟨S512x1x2048, .bf16⟩
  | .local _ .vmem, ⟨15, _⟩ => ⟨S512x128, .f32⟩
  | .local _ .vmem, ⟨16, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S16384x1024 : Shape := ⟨2, ![16384, 1024]⟩
abbrev S4x4096x2048 : Shape := ⟨3, ![4, 4096, 2048]⟩
abbrev S2048x2048 : Shape := ⟨2, ![2048, 2048]⟩
abbrev S2048 : Shape := ⟨1, ![2048]⟩
abbrev S2048x64 : Shape := ⟨2, ![2048, 64]⟩
abbrev S64 : Shape := ⟨1, ![64]⟩
abbrev S2048x8 : Shape := ⟨2, ![2048, 8]⟩
abbrev S8 : Shape := ⟨1, ![8]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8 : Shape := ⟨2, ![16384, 8]⟩
abbrev S1x8 : Shape := ⟨2, ![1, 8]⟩
abbrev S16384x64 : Shape := ⟨2, ![16384, 64]⟩
abbrev S1x64 : Shape := ⟨2, ![1, 64]⟩
abbrev S16384x8x8 : Shape := ⟨3, ![16384, 8, 8]⟩
abbrev S16384x1x1 : Shape := ⟨3, ![16384, 1, 1]⟩
abbrev S1 : Shape := ⟨1, ![1]⟩
abbrev S1x1x1 : Shape := ⟨3, ![1, 1, 1]⟩
abbrev S16384x1x8 : Shape := ⟨3, ![16384, 1, 8]⟩
abbrev S16384x2 : Shape := ⟨2, ![16384, 2]⟩
abbrev S16384x4 : Shape := ⟨2, ![16384, 4]⟩
abbrev S16384x128 : Shape := ⟨2, ![16384, 128]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x4096x2048, .f32⟩
  | .hbm, ⟨3, _⟩ => ⟨S2048x2048, .f32⟩
  | .hbm, ⟨4, _⟩ => ⟨S2048, .f32⟩
  | .hbm, ⟨5, _⟩ => ⟨S2048x64, .f32⟩
  | .hbm, ⟨6, _⟩ => ⟨S64, .f32⟩
  | .hbm, ⟨7, _⟩ => ⟨S2048x8, .f32⟩
  | .hbm, ⟨8, _⟩ => ⟨S8, .f32⟩
  | .hbm, ⟨9, _⟩ => ⟨S16384x1024, .f32⟩
  | .hbm, ⟨10, _⟩ => ⟨S16384x1024, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S16384x8, .f32⟩
  | .hbm, ⟨32, _⟩ => ⟨S1x8, .f32⟩
  | .hbm, ⟨33, _⟩ => ⟨S16384x8, .f32⟩
  | .hbm, ⟨34, _⟩ => ⟨S16384x8, .f32⟩
  | .hbm, ⟨35, _⟩ => ⟨S_, .f32⟩
  | .hbm, ⟨36, _⟩ => ⟨S16384, .f32⟩
  | .hbm, ⟨37, _⟩ => ⟨S_, .f32⟩
  | .hbm, ⟨38, _⟩ => ⟨S16384, .f32⟩
  | .hbm, ⟨39, _⟩ => ⟨S16384, .f32⟩
  | .hbm, ⟨40, _⟩ => ⟨S16384x1, .f32⟩
  | .hbm, ⟨41, _⟩ => ⟨S16384x8, .f32⟩
  | .hbm, ⟨42, _⟩ => ⟨S16384x8, .f32⟩
  | .hbm, ⟨43, _⟩ => ⟨S16384x8, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S16384x8, .f32⟩
  | .hbm, ⟨48, _⟩ => ⟨S16384x8, .f32⟩
  | .hbm, ⟨49, _⟩ => ⟨S16384x1, .f32⟩
  | .hbm, ⟨50, _⟩ => ⟨S16384x1, .i32⟩
  | .hbm, ⟨51, _⟩ => ⟨S16384x64, .f32⟩
  | .hbm, ⟨52, _⟩ => ⟨S1x64, .f32⟩
  | .hbm, ⟨53, _⟩ => ⟨S16384x64, .f32⟩
  | .hbm, ⟨54, _⟩ => ⟨S16384x64, .f32⟩
  | .hbm, ⟨55, _⟩ => ⟨S16384x8x8, .f32⟩
  | .hbm, ⟨56, _⟩ => ⟨S16384x1x1, .i32⟩
  | .hbm, ⟨57, _⟩ => ⟨S_, .i32⟩
  | .hbm, ⟨58, _⟩ => ⟨S16384x1x1, .i32⟩
  | .hbm, ⟨59, _⟩ => ⟨S16384x1x1, .i1⟩
  | .hbm, ⟨60, _⟩ => ⟨S_, .i32⟩
  | .hbm, ⟨61, _⟩ => ⟨S16384x1x1, .i32⟩
  | .hbm, ⟨62, _⟩ => ⟨S16384x1x1, .i32⟩
  | .hbm, ⟨63, _⟩ => ⟨S16384x1x1, .i32⟩
  | .hbm, ⟨64, _⟩ => ⟨S1, .i32⟩
  | .hbm, ⟨65, _⟩ => ⟨S_, .i32⟩
  | .hbm, ⟨66, _⟩ => ⟨S16384x1x1, .i32⟩
  | .hbm, ⟨67, _⟩ => ⟨S16384x1x1, .i1⟩
  | .hbm, ⟨68, _⟩ => ⟨S1x1x1, .i32⟩
  | .hbm, ⟨69, _⟩ => ⟨S16384x1x1, .i32⟩
  | .hbm, ⟨70, _⟩ => ⟨S16384x1x1, .i1⟩
  | .hbm, ⟨71, _⟩ => ⟨S16384x1x1, .i1⟩
  | .hbm, ⟨72, _⟩ => ⟨S_, .i1⟩
  | .hbm, ⟨73, _⟩ => ⟨S16384x1, .i1⟩
  | .hbm, ⟨74, _⟩ => ⟨S16384x1x8, .f32⟩
  | .hbm, ⟨75, _⟩ => ⟨S16384x1x8, .i1⟩
  | .hbm, ⟨76, _⟩ => ⟨S_, .f32⟩
  | .hbm, ⟨77, _⟩ => ⟨S16384x1x8, .f32⟩
  | .hbm, ⟨78, _⟩ => ⟨S16384x1x8, .f32⟩
  | .hbm, ⟨79, _⟩ => ⟨S16384x8, .f32⟩
  | .hbm, ⟨80, _⟩ => ⟨S_, .f32⟩
  | .hbm, ⟨81, _⟩ => ⟨S16384, .f32⟩
  | .hbm, ⟨82, _⟩ => ⟨S_, .f32⟩
  | .hbm, ⟨83, _⟩ => ⟨S16384, .f32⟩
  | .hbm, ⟨84, _⟩ => ⟨S16384, .f32⟩
  | .hbm, ⟨85, _⟩ => ⟨S16384x1, .f32⟩
  | .hbm, ⟨86, _⟩ => ⟨S16384x8, .f32⟩
  | .hbm, ⟨87, _⟩ => ⟨S16384x8, .f32⟩
  | .hbm, ⟨88, _⟩ => ⟨S16384x8, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S16384x8, .f32⟩
  | .hbm, ⟨93, _⟩ => ⟨S16384x8, .f32⟩
  | .hbm, ⟨94, _⟩ => ⟨S16384x2, .f32⟩
  | .hbm, ⟨95, _⟩ => ⟨S16384x2, .i32⟩
  | .hbm, ⟨96, _⟩ => ⟨S_, .f32⟩
  | .hbm, ⟨97, _⟩ => ⟨S16384, .f32⟩
  | .hbm, ⟨98, _⟩ => ⟨S16384x1, .f32⟩
  | .hbm, ⟨99, _⟩ => ⟨S16384x2, .f32⟩
  | .hbm, ⟨100, _⟩ => ⟨S16384x2, .f32⟩
  | .hbm, ⟨101, _⟩ => ⟨S16384x2, .f32⟩
  | .hbm, ⟨102, _⟩ => ⟨S16384x2, .f32⟩
  | .hbm, ⟨103, _⟩ => ⟨S_, .i32⟩
  | .hbm, ⟨104, _⟩ => ⟨S16384x1, .i32⟩
  | .hbm, ⟨105, _⟩ => ⟨S16384x1, .i32⟩
  | .hbm, ⟨106, _⟩ => ⟨S16384x2, .i32⟩
  | .hbm, ⟨107, _⟩ => ⟨S16384x2, .i32⟩
  | .hbm, ⟨108, _⟩ => ⟨S16384x2, .f32⟩
  | .hbm, ⟨109, _⟩ => ⟨S16384x4, .f32⟩
  | .hbm, ⟨110, _⟩ => ⟨S_, .i32⟩
  | .hbm, ⟨111, _⟩ => ⟨S_, .f32⟩
  | .hbm, ⟨112, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_values : Ref sig .tc := ⟨.hbm, 49, rfl⟩
abbrev main_indices : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_c : Ref sig .tc := ⟨.hbm, 57, rfl⟩
abbrev main_call0_v0 : Ref sig .tc := ⟨.hbm, 58, rfl⟩
abbrev main_call0_v1 : Ref sig .tc := ⟨.hbm, 59, rfl⟩
abbrev main_call0_c_0 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_c_1 : Ref sig .tc := ⟨.hbm, 64, rfl⟩
abbrev main_call0_c_2 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_v9 : Ref sig .tc := ⟨.hbm, 70, rfl⟩
abbrev main_call0_v10 : Ref sig .tc := ⟨.hbm, 71, rfl⟩
abbrev main_call0_c_3 : Ref sig .tc := ⟨.hbm, 72, rfl⟩
abbrev main_call0_v11 : Ref sig .tc := ⟨.hbm, 73, rfl⟩
abbrev main_call0_v12 : Ref sig .tc := ⟨.hbm, 74, rfl⟩
abbrev main_call0_v13 : Ref sig .tc := ⟨.hbm, 75, rfl⟩
abbrev main_call0_cst : Ref sig .tc := ⟨.hbm, 76, rfl⟩
abbrev main_call0_v14 : Ref sig .tc := ⟨.hbm, 77, rfl⟩
abbrev main_v40 : Ref sig .tc := ⟨.hbm, 78, rfl⟩
abbrev main_v41 : Ref sig .tc := ⟨.hbm, 79, rfl⟩
abbrev main_cst_5 : Ref sig .tc := ⟨.hbm, 80, rfl⟩
abbrev main_v42 : Ref sig .tc := ⟨.hbm, 81, rfl⟩
abbrev main_cst_6 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_7 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_values_8 : Ref sig .tc := ⟨.hbm, 94, rfl⟩
abbrev main_indices_9 : Ref sig .tc := ⟨.hbm, 95, rfl⟩
abbrev main_cst_10 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_c : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_c_11 : Ref sig .tc := ⟨.hbm, 110, rfl⟩
abbrev main_call1_v0 : Ref sig .tc := ⟨.hbm, 111, rfl⟩
abbrev main_v65 : Ref sig .tc := ⟨.hbm, 112, rfl⟩

abbrev nD : Nat := 1
abbrev τ : Topo := Topo.v7x

variable {F : FTy → Type} [FloatOps F]
-- ==== Kernel6.lean ====
abbrev S16384x128 : Shape := ⟨2, ![16384, 128]⟩
abbrev S8x128 : Shape := ⟨2, ![8, 128]⟩
abbrev S1024x128 : Shape := ⟨2, ![1024, 128]⟩
abbrev S1024x1 : Shape := ⟨2, ![1024, 1]⟩
abbrev S1024x1024 : Shape := ⟨2, ![1024, 1024]⟩
abbrev S1x128 : Shape := ⟨2, ![1, 128]⟩
abbrev S1024 : Shape := ⟨1, ![1024]⟩
abbrev S128 : Shape := ⟨1, ![128]⟩

abbrev nBuf : Space → Nat
  | .hbm => 3
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S8x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S8x128, .f32⟩
  | .local _ .vmem, ⟨5, _⟩ => ⟨S8x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S16384x128 : Shape := ⟨2, ![16384, 128]⟩
abbrev S16384x2 : Shape := ⟨2, ![16384, 2]⟩
abbrev S32768 : Shape := ⟨1, ![32768]⟩
abbrev S_ : Shape := ⟨0, ![]⟩
abbrev S32768x1 : Shape := ⟨2, ![32768, 1]⟩
abbrev S64 : Shape := ⟨1, ![64]⟩
abbrev S128 : Shape := ⟨1, ![128]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x2, .f32⟩
  | .hbm, ⟨2, _⟩ => ⟨S16384x2, .i32⟩
  | .hbm, ⟨3, _⟩ => ⟨S32768, .i32⟩
  | .hbm, ⟨4, _⟩ => ⟨S32768, .i32⟩
  | .hbm, ⟨5, _⟩ => ⟨S32768, .i32⟩
  | .hbm, ⟨6, _⟩ => ⟨S32768, .i32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S32768, .i32⟩
  | .hbm, ⟨16, _⟩ => ⟨S_, .i32⟩
  | .hbm, ⟨17, _⟩ => ⟨S64, .i32⟩
  | .hbm, ⟨18, _⟩ => ⟨S_, .i32⟩
  | .hbm, ⟨19, _⟩ => ⟨S_, .i32⟩
  | .hbm, ⟨20, _⟩ => ⟨S32768, .i32⟩
  | .hbm, ⟨21, _⟩ => ⟨S32768, .i32⟩
  | .hbm, ⟨22, _⟩ => ⟨S_, .i32⟩
  | .hbm, ⟨23, _⟩ => ⟨S32768, .i32⟩
  | .hbm, ⟨24, _⟩ => ⟨S32768, .i1⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S32768x1, .i32⟩
  | .hbm, ⟨30, _⟩ => ⟨S_, .i32⟩
  | .hbm, ⟨31, _⟩ => ⟨S32768, .i32⟩
  | .hbm, ⟨32, _⟩ => ⟨S64, .i32⟩
  | .hbm, ⟨33, _⟩ => ⟨S_, .i32⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S_, .i32⟩
  | .hbm, ⟨38, _⟩ => ⟨S32768, .i32⟩
  | .hbm, ⟨39, _⟩ => ⟨S32768, .i32⟩
  | .hbm, ⟨40, _⟩ => ⟨S_, .i32⟩
  | .hbm, ⟨41, _⟩ => ⟨S32768, .i32⟩
  | .hbm, ⟨42, _⟩ => ⟨S32768, .i1⟩
  | .hbm, ⟨43, _⟩ => ⟨S_, .i32⟩
  | .hbm, ⟨44, _⟩ => ⟨S32768, .i32⟩
  | .hbm, ⟨45, _⟩ => ⟨S32768, .i32⟩
  | .hbm, ⟨46, _⟩ => ⟨S32768, .i32⟩
  | .hbm, ⟨47, _⟩ => ⟨S32768x1, .i32⟩
  | .hbm, ⟨48, _⟩ => ⟨S32768, .i32⟩
  | .hbm, ⟨49, _⟩ => ⟨S32768, .i32⟩
  | .hbm, ⟨50, _⟩ => ⟨S_, .i32⟩
  | .hbm, ⟨51, _⟩ => ⟨S32768, .i32⟩
  | .hbm, ⟨52, _⟩ => ⟨S32768, .i1⟩
  | .hbm, ⟨53, _⟩ => ⟨S_, .i32⟩
  | .hbm, ⟨54, _⟩ => ⟨S32768, .i32⟩
  | .hbm, ⟨55, _⟩ => ⟨S32768, .i32⟩
  | .hbm, ⟨56, _⟩ => ⟨S32768, .i32⟩
  | .hbm, ⟨57, _⟩ => ⟨S32768x1, .i32⟩
  | .hbm, ⟨58, _⟩ => ⟨S32768, .i32⟩
  | .hbm, ⟨59, _⟩ => ⟨S16384x2, .i32⟩
  | .hbm, ⟨60, _⟩ => ⟨S_, .i32⟩
  | .hbm, ⟨61, _⟩ => ⟨S_, .i32⟩
  | .hbm, ⟨62, _⟩ => ⟨S16384x128, .i32⟩
  | .hbm, ⟨63, _⟩ => ⟨S_, .i32⟩
  | .hbm, ⟨64, _⟩ => ⟨S_, .i32⟩
  | .hbm, ⟨65, _⟩ => ⟨S128, .i32⟩
  | .hbm, ⟨66, _⟩ => ⟨S8x128, .i32⟩
  | .hbm, ⟨67, _⟩ => ⟨S16384x128, .f32⟩
  | .hbm, ⟨68, _⟩ => ⟨S8x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1_0 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_call2_call0_c : Ref sig .tc := ⟨.hbm, 33, rfl⟩
abbrev main_call2_call0_v0 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_c_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_11 : Ref sig .tc := ⟨.hbm, 60, rfl⟩
abbrev main_call3_v0 : Ref sig .tc := ⟨.hbm, 61, rfl⟩
abbrev main_v41 : Ref sig .tc := ⟨.hbm, 62, rfl⟩
abbrev main_c_12 : Ref sig .tc := ⟨.hbm, 63, rfl⟩
abbrev main_call4_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]
-- ==== Proof.KernelRun.lean ====
module

public import proofs.«01_k».proof.Proof.Gen.KernelIdeal.Frame

@[expose] public section

/-! The kernel program's run with its result named. -/

noncomputable section
namespace Cert.S5
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

set_option maxRecDepth 16384

section Run
variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the result array at the last host line's contents, and the arguments as launched. -/
theorem run : θ_run defs (onTc (τ := τ) (main (F := F))) ⟨m, fun _ => 0, ρ⟩ (fun r => ∀ c : Dev nD,
      r.2.mem ((c.tc : Thread nD τ).loc main_v9) = W6 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨h c _ (mem_uc main_v9 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Run
end Cert.S5
-- ==== Proof.Layout.lean ====
module

public import proofs.«01_k».proof.Proof.Gen.KernelIdeal.Frame
public import Idealize.ShloMosaic.Lib.Pointwise

@[expose] public section

/-! The two layout kernels on one block: the first puts a block of frames in the groups' layout, the last takes it back. -/

noncomputable section
namespace Cert.S5
open Idealize.ShloMosaic Cert.KernelIdeal Cert.KernelIdeal.Gen

set_option maxRecDepth 16384

/-- A block of frames in the groups' layout. -/
def inBlk (x : Vec Ideal S128x8x1024 .f32) : S64x128x128.Idx → EReal :=
  fun y => x (ix3 (y 2) ⟨(y 1).val / 16, by have := (y 1).isLt; change _ < 128 at this; omega⟩
    ⟨16 * (y 0).val + (y 1).val % 16, by have := (y 0).isLt; change _ < 64 at this; omega⟩)

/-- A block of the groups' layout as frames. -/
def outBlk (x : Vec Ideal S64x128x128 .f32) : S128x8x1024.Idx → EReal :=
  fun y => x (ix3 ⟨(y 2).val / 16, by have := (y 2).isLt; change _ < 1024 at this; omega⟩
    ⟨16 * (y 1).val + (y 2).val % 16, by have := (y 1).isLt; change _ < 8 at this; omega⟩ (y 0))

theorem pay_in (x : Vec Ideal S128x1x1024 .f32) (g : Fin 64) (h : Fin 16) (r : Fin 128) :
    (k0_pay5 x (ix3 g h r) : EReal) = x (ix3 r 0 ⟨16 * g.val + h.val, by omega⟩) := by
  pointwise [k0_pay5]
  exact congrArg (fun k => x (ix3 r 0 k)) (Fin.ext (by show g.val * 16 + h.val = 16 * g.val + h.val; omega))

theorem pay_out (x : Vec Ideal S64x16x128 .f32) (r : Fin 128) (c : Fin 1024) :
    (k2_pay5 x (ix3 r 0 c) : EReal) = x (ix3 ⟨c.val / 16, by omega⟩ ⟨c.val % 16, by omega⟩ r) := by
  pointwise [k2_pay5]

theorem piece_in (x0 : Vec Ideal S128x8x1024 .f32) (f o : ℕ) (ho : o = 16 * f) (inb) (inb')
    (x : S64x16x128.Idx) :
    (k0_pay5 (View.ld x0 (Rect.unit (s := S128x8x1024) ![0, f, 0] S128x1x1024.size inb)) x : EReal)
      = inBlk x0 ((Rect.unit (s := S64x128x128) ![0, o, 0] S64x16x128.size inb').emb x) := by
  subst ho
  obtain ⟨g, h, r, rfl⟩ : ∃ (g : Fin 64) (h : Fin 16) (r : Fin 128), x = ix3 g h r := ⟨x 0, x 1, x 2, by funext a; fin_cases a <;> rfl⟩
  rw [pay_in]
  refine congrArg x0 (funext fun a => Fin.ext ?_)
  have := h.isLt
  match a with
  | ⟨0, _⟩ => show 0 + 1 * r.val = 0 + 1 * r.val; rfl
  | ⟨1, _⟩ => show f + 1 * 0 = (16 * f + 1 * h.val) / 16; omega
  | ⟨2, _⟩ => show 0 + 1 * (16 * g.val + h.val) = 16 * (0 + 1 * g.val) + (16 * f + 1 * h.val) % 16; omega

theorem piece_out (x0 : Vec Ideal S64x128x128 .f32) (f o : ℕ) (ho : o = 16 * f) (inb) (inb')
    (x : S128x1x1024.Idx) :
    (k2_pay5 (View.ld x0 (Rect.unit (s := S64x128x128) ![0, o, 0] S64x16x128.size inb)) x : EReal)
      = outBlk x0 ((Rect.unit (s := S128x8x1024) ![0, f, 0] S128x1x1024.size inb').emb x) := by
  subst ho
  obtain ⟨r, c, rfl⟩ : ∃ (r : Fin 128) (c : Fin 1024), x = ix3 r 0 c := ⟨x 0, x 2, by funext a; fin_cases a <;> first | rfl | exact Subsingleton.elim (α := Fin 1) _ _⟩
  rw [pay_out]
  refine congrArg x0 (funext fun a => Fin.ext ?_)
  match a with
  | ⟨0, _⟩ => show 0 + 1 * (c.val / 16) = (0 + 1 * c.val) / 16; omega
  | ⟨1, _⟩ => show 16 * f + 1 * (c.val % 16) = 16 * (f + 1 * 0) + (0 + 1 * c.val) % 16; omega
  | ⟨2, _⟩ => show 0 + 1 * r.val = 0 + 1 * r.val; rfl

/-- What the first kernel leaves of a block. -/
theorem out_in (x0 : Vec Ideal S128x8x1024 .f32) : out0_1 x0 = inBlk x0 := by
  funext y
  refine View.canon_apply_of_pieces (Val := Elt Ideal) (e := .bf16) (inBlk x0) _ ?_ y (cover0_1 _ _ _ _ _ _ _ _ y)
  intro p hp
  simp only [List.mem_cons, List.not_mem_nil, or_false] at hp
  rcases hp with rfl | rfl | rfl | rfl | rfl | rfl | rfl | rfl
  · exact piece_in x0 7 112 rfl _ inb_S64x128x128_S64x16x128_0_112_0
  · exact piece_in x0 6 96 rfl _ inb_S64x128x128_S64x16x128_0_96_0
  · exact piece_in x0 5 80 rfl _ inb_S64x128x128_S64x16x128_0_80_0
  · exact piece_in x0 4 64 rfl _ inb_S64x128x128_S64x16x128_0_64_0
  · exact piece_in x0 3 48 rfl _ inb_S64x128x128_S64x16x128_0_48_0
  · exact piece_in x0 2 32 rfl _ inb_S64x128x128_S64x16x128_0_32_0
  · exact piece_in x0 1 16 rfl _ inb_S64x128x128_S64x16x128_0_16_0
  · exact piece_in x0 0 0 rfl _ inb_S64x128x128_S64x16x128_0_0_0

/-- What the last kernel leaves of a block. -/
theorem out_out (x0 : Vec Ideal S64x128x128 .f32) : out2_1 x0 = outBlk x0 := by
  funext y
  refine View.canon_apply_of_pieces (Val := Elt Ideal) (e := .f32) (outBlk x0) _ ?_ y (cover2_1 _ _ _ _ _ _ _ _ y)
  intro p hp
  simp only [List.mem_cons, List.not_mem_nil, or_false] at hp
  rcases hp with rfl | rfl | rfl | rfl | rfl | rfl | rfl | rfl
  · exact piece_out x0 7 112 rfl _ inb_S128x8x1024_S128x1x1024_0_7_0
  · exact piece_out x0 6 96 rfl _ inb_S128x8x1024_S128x1x1024_0_6_0
  · exact piece_out x0 5 80 rfl _ inb_S128x8x1024_S128x1x1024_0_5_0
  · exact piece_out x0 4 64 rfl _ inb_S128x8x1024_S128x1x1024_0_4_0
  · exact piece_out x0 3 48 rfl _ inb_S128x8x1024_S128x1x1024_0_3_0
  · exact piece_out x0 2 32 rfl _ inb_S128x8x1024_S128x1x1024_0_2_0
  · exact piece_out x0 1 16 rfl _ inb_S128x8x1024_S128x1x1024_0_1_0
  · exact piece_out x0 0 0 rfl _ inb_S128x8x1024_S128x1x1024_0_0_0

end Cert.S5
-- ==== Proof.Mirror.lean ====
module

public import proofs.«01_k».proof.Proof.Gen.KernelIdeal.Frame

@[expose] public section

/-! The matrices the chunk kernel makes for one group, written over pairs of vectors: a pair holds the real and the imaginary
    part of a complex vector. -/

noncomputable section
namespace Cert.S5
open Idealize.ShloMosaic Cert.KernelIdeal Cert.KernelIdeal.Gen

variable {F : FTy → Type} [FloatOps F]

/-- A complex vector: real part, imaginary part. -/
abbrev CV (F : FTy → Type) [FloatOps F] (s : Shape) := FVec F s .f32 × FVec F s .f32

/-- The product of complex vectors, as the kernel writes it. -/
def cm {s : Shape} (a b : CV F s) : CV F s :=
  (subf (mulf a.1 b.1) (mulf a.2 b.2), addf (mulf a.1 b.2) (mulf a.2 b.1))

/-- A column spread over the lanes. -/
def bl (a : CV F S64x1) : CV F S64x128 :=
  (broadcastTo S64x128 a.1 broadcasts_S64x1_S64x128, broadcastTo S64x128 a.2 broadcasts_S64x1_S64x128)

/-- Choose between complex vectors, entry by entry. -/
def sel {s : Shape} (m : IVec s 1) (a b : CV F s) : CV F s := (select m a.1 b.1, select m a.2 b.2)

/-- One step of raising to a power by its binary digits. -/
def bstep (m : IVec S64x128 1) (p : CV F S64x128) (s : CV F S64x1) : CV F S64x128 := sel m (cm p (bl s)) p

/-- The lane's frame number within a tile. -/
def lane : IVec S64x128 32 := k1_pay15 (iota .tc S64x128 32 [1] iota_S64x128_d1_w32) 16#32 k1_pay13 k1_pay14 1#32

/-- Digit `b` of the exponents `e`. -/
def digit (e : IVec S64x128 32) (b : BitVec 32) : IVec S64x128 1 :=
  cmpi .eq (andi (shrsi e (broadcast S64x128 b)) (broadcast S64x128 1#32)) (broadcast S64x128 1#32)

/-- One, as a complex vector. -/
def one (s : Shape) : CV F s :=
  (broadcast s (Scalar.ofBits .f32 0x3F800000#32), broadcast s (Scalar.ofBits .f32 0x00000000#32))

/-- The powers of `a` with the exponents `e` below 8. -/
def inner (e : IVec S64x128 32) (a : CV F S64x1) : CV F S64x128 :=
  bstep (digit e 2#32) (bstep (digit e 1#32) (bstep (digit e 0#32) (one S64x128) a) (cm a a)) (cm (cm a a) (cm a a))

/-- The eighth power. -/
def eighth (a : CV F S64x1) : CV F S64x1 := cm (cm (cm a a) (cm a a)) (cm (cm a a) (cm a a))

/-- `s` times the `k`-th power of `q`. -/
def outer (q s : CV F S64x1) : ℕ → CV F S64x1
  | 0 => s
  | k + 1 => cm (outer q s k) q

/-- Eight tiles side by side. -/
def tiles (t : ℕ → FVec F S64x128 .f32) : FVec F S64x1024 .f32 :=
  concatenate S64x1024 1 [⟨S64x128, t 0⟩, ⟨S64x128, t 1⟩, ⟨S64x128, t 2⟩, ⟨S64x128, t 3⟩, ⟨S64x128, t 4⟩, ⟨S64x128, t 5⟩,
    ⟨S64x128, t 6⟩, ⟨S64x128, t 7⟩]
    concatenates_S64x128_S64x128_S64x128_S64x128_S64x128_S64x128_S64x128_S64x128_S64x1024_d1

/-- The powers `a ^ (t + 1)` by frame. -/
def fwd (a : CV F S64x1) : CV F S64x1024 :=
  (tiles fun k => (cm (inner lane a) (bl (outer (eighth a) a k))).1,
   tiles fun k => (cm (inner lane a) (bl (outer (eighth a) a k))).2)

/-- The powers `a ^ (63 - t)` by frame. -/
def bwd (a : CV F S64x1) : CV F S64x1024 :=
  (tiles fun k => (cm (inner (subi (broadcast S64x128 7#32) lane) a) (bl (outer (eighth a) (one S64x1) (7 - k)))).1,
   tiles fun k => (cm (inner (subi (broadcast S64x128 7#32) lane) a) (bl (outer (eighth a) (one S64x1) (7 - k)))).2)

/-- The discretised eigenvalues of a group. -/
def abar (dt : FVec F S1x1x1 .f32) (lr li : FVec F S1x64x1 .f32) : CV F S64x1 := (k1_pay7 dt lr li, k1_pay8 dt lr li)

/-- The factor of the input matrix. -/
def zohf (dt : FVec F S1x1x1 .f32) (lr li : FVec F S1x64x1 .f32) : CV F S64x1 := (k1_pay11 dt lr li, k1_pay12 dt lr li)

/-- A group's matrix without its unit axis. -/
def flat (a : FVec F S1x64x16 .f32) : FVec F S64x16 .f32 := shapeCast S64x16 a shapeCasts_S1x64x16_S64x16

/-- The discretised input matrix. -/
def bbar (f : CV F S64x1) (br bi : FVec F S1x64x16 .f32) : CV F S64x16 :=
  cm (flat br, flat bi) (broadcastTo S64x16 f.1 broadcasts_S64x1_S64x16, broadcastTo S64x16 f.2 broadcasts_S64x1_S64x16)

/-- A matrix repeated once per frame. -/
def spread (x : FVec F S64x16 .f32) : FVec F S64x1024 .f32 := k1_pay135 k1_pay125 x

/-- The input matrix with each frame's power. -/
def inm (a f : CV F S64x1) (br bi : FVec F S1x64x16 .f32) : CV F S64x1024 :=
  cm (spread (bbar f br bi).1, spread (bbar f br bi).2) (bwd a)

/-- A half of the input matrix, stored. -/
def wbtHalf (x : FVec F S64x1024 .f32) : FVec F S1x64x1024 .bf16 :=
  shapeCast S1x64x1024 (shapeCast S64x1024 (truncf .bf16 x bitsLt_bf16_f32) shapeCasts_S64x1024_S64x1024) shapeCasts_S64x1024_S1x64x1024

/-- The output matrix with each frame's power, stored: real parts over minus the imaginary parts, transposed. -/
def wctm (a : CV F S64x1) (cr ci : FVec F S1x64x16 .f32) : FVec F S1x1024x128 .bf16 :=
  shapeCast S1x1024x128 (truncf .bf16 (transpose S1024x128 [1, 0]
    (concatenate S128x1024 0
      [⟨S64x1024, (cm (spread (flat cr), spread (flat ci)) (fwd a)).1⟩,
       ⟨S64x1024, subf (broadcast S64x1024 (Scalar.ofBits .f32 0x00000000#32)) (cm (spread (flat cr), spread (flat ci)) (fwd a)).2⟩]
      concatenates_S64x1024_S64x1024_S128x1024_d0) transposes_S128x1024_p1_0_S1024x128) bitsLt_bf16_f32) shapeCasts_S1024x128_S1x1024x128

/-- The square of a complex vector. -/
def sq {s : Shape} (a : CV F s) : CV F s := cm a a

/-- The power 64, stored. -/
def a64m (a : CV F S64x1) : FVec F S1x128x1 .f32 :=
  shapeCast S1x128x1 (concatenate S128x1 0 [⟨S64x1, (sq (sq (sq (sq (sq (sq a)))))).1⟩, ⟨S64x1, (sq (sq (sq (sq (sq (sq a)))))).2⟩]
    concatenates_S64x1_S64x1_S128x1_d0) shapeCasts_S128x1_S1x128x1

/-- The impulse response by lag, with zeros after it. -/
def ext (ab : CV F S64x1024) (cr ci : FVec F S1x16x64 .f32) : FVec F S16x2048 .f32 :=
  k1_pay148 ab.2 (k1_pay144 cr) (k1_pay145 cr) (k1_pay146 ab.1) (k1_pay147 ab.1) (constant S16x1024 .f32 0x00000000#32) ci

theorem fits (n : ℕ) (h : n < 64) : S16x2048.Slices ![0, (63 - n) * 16] S16x1024 := by
  refine ⟨rfl, fun a => ?_⟩
  match a with
  | ⟨0, _⟩ => show 0 + 16 ≤ 16; omega
  | ⟨1, _⟩ => show (63 - n) * 16 + 1024 ≤ 2048; omega

/-- The rows of frame `n` of the in-chunk matrix. -/
def mrow (e : FVec F S16x2048 .f32) (n : ℕ) (h : n < 64) : FVec F S1x16x1024 .bf16 :=
  shapeCast S1x16x1024 (shapeCast S16x1024 (truncf .bf16 (extractStridedSlice S16x1024 ![0, (63 - n) * 16] e
    (fits n h)) bitsLt_bf16_f32) shapeCasts_S16x1024_S16x1024) shapeCasts_S16x1024_S1x16x1024

/-- What the chunk's own input contributes. -/
def yown (z : FVec F S1x1024x256 .bf16) (m : FVec F S1x1024x1024 .bf16) : FVec F S1x1024x256 .f32 := k1_pay227 z m

/-- What each chunk adds to the state. -/
def xin (z : FVec F S1x1024x256 .bf16) (w : FVec F S1x128x1024 .bf16) : CV F S64x256 := (k1_pay228 z w, k1_pay229 z w)

/-- The stored power 64, read back. -/
def a64r (v : FVec F S1x128x1 .f32) : CV F S64x1 := (k1_pay231 v, k1_pay232 v)

/-- Shifted by `n` chunks within a sequence, zeros coming in. -/
def shift (n : BitVec 32) (x : FVec F S64x256 .f32) : FVec F S64x256 .f32 :=
  select (broadcastTo S64x256 (shapeCast S1x256 (cmpi .sge k1_pay233 (broadcast S1x256 n)) shapeCasts_S1x256_S1x256) broadcasts_S1x256_S64x256)
    (dynamicRotate 1 n none x rotates_S64x256_d1) (broadcast S64x256 (Scalar.ofBits .f32 0x00000000#32))

/-- A column spread over the chunks. -/
def bc (a : CV F S64x1) : CV F S64x256 :=
  (broadcastTo S64x256 a.1 broadcasts_S64x1_S64x256, broadcastTo S64x256 a.2 broadcasts_S64x1_S64x256)

/-- One doubling of the prefix sums over chunks. -/
def hstep (n : BitVec 32) (a : CV F S64x1) (x : CV F S64x256) : CV F S64x256 :=
  (addf x.1 (cm (bc a) (shift n x.1, shift n x.2)).1, addf x.2 (cm (bc a) (shift n x.1, shift n x.2)).2)

/-- The square as the prefix sums write it. -/
def sqk (a : CV F S64x1) : CV F S64x1 :=
  (subf (mulf a.1 a.1) (mulf a.2 a.2), mulf (mulf (broadcast S64x1 (Scalar.ofBits .f32 0x40000000#32)) a.1) a.2)

/-- The prefix sums over the chunks of a sequence. -/
def scan (a : CV F S64x1) (x : CV F S64x256) : CV F S64x256 :=
  hstep 32#32 (sqk (sqk (sqk (sqk (sqk a))))) (hstep 16#32 (sqk (sqk (sqk (sqk a)))) (hstep 8#32 (sqk (sqk (sqk a)))
    (hstep 4#32 (sqk (sqk a)) (hstep 2#32 (sqk a) (hstep 1#32 a x)))))

/-- The state each chunk starts from: real parts over imaginary parts. -/
def sin (s : CV F S64x256) : FVec F S128x256 .f32 :=
  concatenate S128x256 0 [⟨S64x256, shift 1#32 s.1⟩, ⟨S64x256, shift 1#32 s.2⟩] concatenates_S64x256_S64x256_S128x256_d0

/-- The chunk's output: its own part and what the state it starts from contributes. -/
def yout (s : FVec F S128x256 .f32) (w : FVec F S1x1024x128 .bf16) (y : FVec F S1x1024x256 .f32) : FVec F S1x1024x256 .f32 :=
  k1_pay1 (truncf .bf16 s bitsLt_bf16_f32)
    (truncf .bf16 (subf s (extf .f32 (truncf .bf16 s bitsLt_bf16_f32) bitsLt_bf16_f32)) bitsLt_bf16_f32) w y

end Cert.S5
-- ==== Proof.Pieces.lean ====
module

public import proofs.«01_k».proof.Proof.Mirror
public import Idealize.ShloMosaic.Lib.Pointwise
public import Idealize.ShloMosaic.Lib.WholeRead

@[expose] public section

/-! What the chunk kernel stores for its two groups, in the terms of `Mirror`: its four scratch matrices and its output block. -/

noncomputable section
namespace Cert.S5
open Idealize.ShloMosaic Cert.KernelIdeal Cert.KernelIdeal.Gen

variable {F : FTy → Type} [FloatOps F]

/-- A run of the chunk kernel: its buffers and its input blocks. -/
structure Env (F : FTy → Type) [FloatOps F] where
  c : Dev nD
  i : grid1.Coords
  m1 : Memref sig .tc .vmem S2x64x1 .f32
  h1 : m1.IsWhole
  m2 : Memref sig .tc .vmem S2x64x1 .f32
  h2 : m2.IsWhole
  m3 : Memref sig .tc .vmem S2x1x1 .f32
  h3 : m3.IsWhole
  m4 : Memref sig .tc .vmem S2x64x16 .f32
  h4 : m4.IsWhole
  m5 : Memref sig .tc .vmem S2x64x16 .f32
  h5 : m5.IsWhole
  m6 : Memref sig .tc .vmem S2x64x16 .f32
  h6 : m6.IsWhole
  m7 : Memref sig .tc .vmem S2x64x16 .f32
  h7 : m7.IsWhole
  m8 : Memref sig .tc .vmem S2x16x64 .f32
  h8 : m8.IsWhole
  m9 : Memref sig .tc .vmem S2x16x64 .f32
  h9 : m9.IsWhole
  m10 : Memref sig .tc .vmem S2x1024x256 .bf16
  h10 : m10.IsWhole
  m11 : Memref sig .tc .vmem S2x1024x256 .f32
  h11 : m11.IsWhole
  m12 : Memref sig .tc .vmem S2x1024x1024 .bf16
  h12 : m12.IsWhole
  m13 : Memref sig .tc .vmem S2x128x1024 .bf16
  h13 : m13.IsWhole
  m14 : Memref sig .tc .vmem S2x1024x128 .bf16
  h14 : m14.IsWhole
  m15 : Memref sig .tc .vmem S2x128x1 .f32
  h15 : m15.IsWhole
  x0 : Vec F S2x64x1 .f32
  x1 : Vec F S2x64x1 .f32
  x2 : Vec F S2x1x1 .f32
  x3 : Vec F S2x64x16 .f32
  x4 : Vec F S2x64x16 .f32
  x5 : Vec F S2x64x16 .f32
  x6 : Vec F S2x64x16 .f32
  x7 : Vec F S2x16x64 .f32
  x8 : Vec F S2x16x64 .f32
  x9 : Vec F S2x1024x256 .bf16

/-- Group `g` of a block. -/
def grp {a b : ℕ} {e : EltTy} (g : Fin 2) (x : Vec F ⟨3, ![2, a, b]⟩ e) : Vec F ⟨3, ![1, a, b]⟩ e :=
  fun i => x (ix3 g (i 1) (i 2))

/-- Group `g` of a block is what a load of that group reads. -/
theorem rd_eq {a b : ℕ} {e : EltTy} (m : Memref sig .tc .vmem ⟨3, ![2, a, b]⟩ e) (h : m.IsWhole) (x : Vec F ⟨3, ![2, a, b]⟩ e)
    (g : Fin 2) (inb) : View.readAt (Elt F) m.view (Rect.unit (s := ⟨3, ![2, a, b]⟩) ![g.val, 0, 0] ![1, a, b] inb).toLoadRect (h.unread x)
      = grp g x := by
  funext i
  refine (Memref.IsWhole.readAt_unread h x _ i).trans (congrArg x ?_)
  funext k
  match k with
  | ⟨0, _⟩ => exact Fin.ext (by show g.val + 1 * (i 0).val = g.val; have := (i 0).isLt; change _ < 1 at this; omega)
  | ⟨1, _⟩ => exact Fin.ext (by show 0 + 1 * (i 1).val = (i 1).val; omega)
  | ⟨2, _⟩ => exact Fin.ext (by show 0 + 1 * (i 2).val = (i 2).val; omega)

variable (E : Env F) (g : Fin 2)

/-- Group `g`'s discretised eigenvalues. -/
def ab : CV F S64x1 := abar (grp g E.x2) (grp g E.x0) (grp g E.x1)
/-- Group `g`'s input factor. -/
def zo : CV F S64x1 := zohf (grp g E.x2) (grp g E.x0) (grp g E.x1)
/-- Group `g`'s input matrix. -/
def im : CV F S64x1024 := inm (ab E g) (zo E g) (grp g E.x5) (grp g E.x6)
/-- Group `g`'s output matrix. -/
def wc : FVec F S1x1024x128 .bf16 := wctm (ab E g) (grp g E.x3) (grp g E.x4)
/-- Group `g`'s impulse response. -/
def ex : FVec F S16x2048 .f32 := ext (im E g) (grp g E.x7) (grp g E.x8)

/-- Frame `n`'s rows lie in the matrix. -/
theorem rowIn (g : Fin 2) (n : ℕ) (h : n < 64) : ∀ a, (![g.val, 16 * n, 0] : Fin 3 → ℕ) a + S1x16x1024.size a ≤ S2x1024x1024.size a := fun a =>
  match a with
  | ⟨0, _⟩ => by show g.val + 1 ≤ 2; omega
  | ⟨1, _⟩ => by show 16 * n + 16 ≤ 1024; omega
  | ⟨2, _⟩ => by show 0 + 1024 ≤ 1024; omega

/-- The rows of frames below `n`, stored last first over `L`. -/
def rows (g : Fin 2) (e : FVec F S16x2048 .f32) (L : List (View.Piece (Elt F) S2x1024x1024 .bf16)) :
    (n : ℕ) → n ≤ 64 → List (View.Piece (Elt F) S2x1024x1024 .bf16)
  | 0, _ => L
  | n + 1, h => ⟨Rect.unit (s := S2x1024x1024) ![g.val, 16 * n, 0] S1x16x1024.size (rowIn g n h), mrow e n h⟩ :: rows g e L n (Nat.le_of_succ_le h)

set_option maxRecDepth 100000

theorem ab_0 : (kernelRun1_A.sl.r E.c E.m1 E.h1 E.m2 E.h2 E.m3 E.h3 E.x0 E.x1 E.x2, kernelRun1_A.sl.r_1 E.c E.m1 E.h1 E.m2 E.h2 E.m3 E.h3 E.x0 E.x1 E.x2) = ab E 0 := by
  unfold ab
  rw [← rd_eq E.m1 E.h1 E.x0 0 (by decide), ← rd_eq E.m2 E.h2 E.x1 0 (by decide), ← rd_eq E.m3 E.h3 E.x2 0 (by decide)]
  rfl

theorem zo_0 : (kernelRun1_A.sl.r_2 E.c E.m1 E.h1 E.m2 E.h2 E.m3 E.h3 E.x0 E.x1 E.x2, kernelRun1_A.sl.r_3 E.c E.m1 E.h1 E.m2 E.h2 E.m3 E.h3 E.x0 E.x1 E.x2) = zo E 0 := by
  unfold zo
  rw [← rd_eq E.m1 E.h1 E.x0 0 (by decide), ← rd_eq E.m2 E.h2 E.x1 0 (by decide), ← rd_eq E.m3 E.h3 E.x2 0 (by decide)]
  rfl

theorem fw_0 : (kernelRun1_A.sl.r_39 E.c E.m1 E.h1 E.m2 E.h2 E.m3 E.h3 E.x0 E.x1 E.x2, kernelRun1_A.sl.r_40 E.c E.m1 E.h1 E.m2 E.h2 E.m3 E.h3 E.x0 E.x1 E.x2) = fwd (ab E 0) := by
  rw [← ab_0]
  rfl

theorem bw_0 : (kernelRun1_A.sl.r_80 E.c E.m1 E.h1 E.m2 E.h2 E.m3 E.h3 E.x0 E.x1 E.x2, kernelRun1_A.sl.r_81 E.c E.m1 E.h1 E.m2 E.h2 E.m3 E.h3 E.x0 E.x1 E.x2) = bwd (ab E 0) := by
  rw [← ab_0]
  rfl

theorem im_0 : (kernelRun1_A.sl.r_86 E.c E.m1 E.h1 E.m2 E.h2 E.m3 E.h3 E.m6 E.h6 E.m7 E.h7 E.x0 E.x1 E.x2 E.x5 E.x6, kernelRun1_A.sl.r_87 E.c E.m1 E.h1 E.m2 E.h2 E.m3 E.h3 E.m6 E.h6 E.m7 E.h7 E.x0 E.x1 E.x2 E.x5 E.x6) = im E 0 := by
  unfold im inm
  rw [← bw_0, ← zo_0, ← rd_eq E.m6 E.h6 E.x5 0 (by decide), ← rd_eq E.m7 E.h7 E.x6 0 (by decide)]
  rfl

theorem ex_0 : kernelRun1_A.sl.r_93 E.c E.m1 E.h1 E.m2 E.h2 E.m3 E.h3 E.m6 E.h6 E.m7 E.h7 E.m8 E.h8 E.m9 E.h9 E.x0 E.x1 E.x2 E.x5 E.x6 E.x7 E.x8 = ex E 0 := by
  unfold ex
  rw [← im_0, ← rd_eq E.m8 E.h8 E.x7 0 (by decide), ← rd_eq E.m9 E.h9 E.x8 0 (by decide)]
  rfl

theorem pieces1_0 : kernelRun1_A.sl.HS1_2 E.c E.m1 E.h1 E.m2 E.h2 E.m3 E.h3 E.m6 E.h6 E.m7 E.h7 E.x0 E.x1 E.x2 E.x5 E.x6
    = ⟨Rect.unit (s := S2x128x1024) ![0, 64, 0] S1x64x1024.size (by decide), wbtHalf (im E 0).2⟩
      :: ⟨Rect.unit (s := S2x128x1024) ![0, 0, 0] S1x64x1024.size (by decide), wbtHalf (im E 0).1⟩ :: [] := by
  rw [← im_0]
  rfl

theorem pieces2_0 : kernelRun1_A.sl.HS2_1 E.c E.m1 E.h1 E.m2 E.h2 E.m3 E.h3 E.m4 E.h4 E.m5 E.h5 E.x0 E.x1 E.x2 E.x3 E.x4
    = ⟨Rect.unit (s := S2x1024x128) ![0, 0, 0] S1x1024x128.size (by decide), wc E 0⟩ :: [] := by
  unfold wc wctm
  rw [← fw_0, ← rd_eq E.m4 E.h4 E.x3 0 (by decide), ← rd_eq E.m5 E.h5 E.x4 0 (by decide)]
  rfl

theorem pieces3_0 : kernelRun1_A.sl.HS3_1 E.c E.m1 E.h1 E.m2 E.h2 E.m3 E.h3 E.x0 E.x1 E.x2
    = ⟨Rect.unit (s := S2x128x1) ![0, 0, 0] S1x128x1.size (by decide), a64m (ab E 0)⟩ :: [] := by
  rw [← ab_0]
  rfl

theorem pieces0_0 : kernelRun1_A.sl.HS0_64 E.c E.m1 E.h1 E.m2 E.h2 E.m3 E.h3 E.m6 E.h6 E.m7 E.h7 E.m8 E.h8 E.m9 E.h9 E.x0 E.x1 E.x2 E.x5 E.x6 E.x7 E.x8
    = rows 0 (ex E 0) [] 64 (le_refl 64) := by
  rw [← ex_0]
  rfl

theorem ab_1 : (kernelRun1_A.sl.r_133 E.c E.m1 E.h1 E.m2 E.h2 E.m3 E.h3 E.x0 E.x1 E.x2, kernelRun1_A.sl.r_134 E.c E.m1 E.h1 E.m2 E.h2 E.m3 E.h3 E.x0 E.x1 E.x2) = ab E 1 := by
  unfold ab
  rw [← rd_eq E.m1 E.h1 E.x0 1 (by decide), ← rd_eq E.m2 E.h2 E.x1 1 (by decide), ← rd_eq E.m3 E.h3 E.x2 1 (by decide)]
  rfl

theorem zo_1 : (kernelRun1_A.sl.r_135 E.c E.m1 E.h1 E.m2 E.h2 E.m3 E.h3 E.x0 E.x1 E.x2, kernelRun1_A.sl.r_136 E.c E.m1 E.h1 E.m2 E.h2 E.m3 E.h3 E.x0 E.x1 E.x2) = zo E 1 := by
  unfold zo
  rw [← rd_eq E.m1 E.h1 E.x0 1 (by decide), ← rd_eq E.m2 E.h2 E.x1 1 (by decide), ← rd_eq E.m3 E.h3 E.x2 1 (by decide)]
  rfl

theorem fw_1 : (kernelRun1_A.sl.r_172 E.c E.m1 E.h1 E.m2 E.h2 E.m3 E.h3 E.x0 E.x1 E.x2, kernelRun1_A.sl.r_173 E.c E.m1 E.h1 E.m2 E.h2 E.m3 E.h3 E.x0 E.x1 E.x2) = fwd (ab E 1) := by
  rw [← ab_1]
  rfl

theorem bw_1 : (kernelRun1_A.sl.r_197 E.c E.m1 E.h1 E.m2 E.h2 E.m3 E.h3 E.x0 E.x1 E.x2, kernelRun1_A.sl.r_198 E.c E.m1 E.h1 E.m2 E.h2 E.m3 E.h3 E.x0 E.x1 E.x2) = bwd (ab E 1) := by
  rw [← ab_1]
  rfl

theorem im_1 : (kernelRun1_A.sl.r_206 E.c E.m1 E.h1 E.m2 E.h2 E.m3 E.h3 E.m6 E.h6 E.m7 E.h7 E.x0 E.x1 E.x2 E.x5 E.x6, kernelRun1_A.sl.r_207 E.c E.m1 E.h1 E.m2 E.h2 E.m3 E.h3 E.m6 E.h6 E.m7 E.h7 E.x0 E.x1 E.x2 E.x5 E.x6) = im E 1 := by
  unfold im inm
  rw [← bw_1, ← zo_1, ← rd_eq E.m6 E.h6 E.x5 1 (by decide), ← rd_eq E.m7 E.h7 E.x6 1 (by decide)]
  rfl

theorem ex_1 : kernelRun1_A.sl.r_216 E.c E.m1 E.h1 E.m2 E.h2 E.m3 E.h3 E.m6 E.h6 E.m7 E.h7 E.m8 E.h8 E.m9 E.h9 E.x0 E.x1 E.x2 E.x5 E.x6 E.x7 E.x8 = ex E 1 := by
  unfold ex
  rw [← im_1, ← rd_eq E.m8 E.h8 E.x7 1 (by decide), ← rd_eq E.m9 E.h9 E.x8 1 (by decide)]
  rfl

theorem pieces1_1 : kernelRun1_A.sl.HS1_4 E.c E.m1 E.h1 E.m2 E.h2 E.m3 E.h3 E.m6 E.h6 E.m7 E.h7 E.x0 E.x1 E.x2 E.x5 E.x6
    = ⟨Rect.unit (s := S2x128x1024) ![1, 64, 0] S1x64x1024.size (by decide), wbtHalf (im E 1).2⟩
      :: ⟨Rect.unit (s := S2x128x1024) ![1, 0, 0] S1x64x1024.size (by decide), wbtHalf (im E 1).1⟩ :: kernelRun1_A.sl.HS1_2 E.c E.m1 E.h1 E.m2 E.h2 E.m3 E.h3 E.m6 E.h6 E.m7 E.h7 E.x0 E.x1 E.x2 E.x5 E.x6 := by
  rw [← im_1]
  rfl

theorem pieces2_1 : kernelRun1_A.sl.HS2_2 E.c E.m1 E.h1 E.m2 E.h2 E.m3 E.h3 E.m4 E.h4 E.m5 E.h5 E.x0 E.x1 E.x2 E.x3 E.x4
    = ⟨Rect.unit (s := S2x1024x128) ![1, 0, 0] S1x1024x128.size (by decide), wc E 1⟩ :: kernelRun1_A.sl.HS2_1 E.c E.m1 E.h1 E.m2 E.h2 E.m3 E.h3 E.m4 E.h4 E.m5 E.h5 E.x0 E.x1 E.x2 E.x3 E.x4 := by
  unfold wc wctm
  rw [← fw_1, ← rd_eq E.m4 E.h4 E.x3 1 (by decide), ← rd_eq E.m5 E.h5 E.x4 1 (by decide)]
  rfl

theorem pieces3_1 : kernelRun1_A.sl.HS3_2 E.c E.m1 E.h1 E.m2 E.h2 E.m3 E.h3 E.x0 E.x1 E.x2
    = ⟨Rect.unit (s := S2x128x1) ![1, 0, 0] S1x128x1.size (by decide), a64m (ab E 1)⟩ :: kernelRun1_A.sl.HS3_1 E.c E.m1 E.h1 E.m2 E.h2 E.m3 E.h3 E.x0 E.x1 E.x2 := by
  rw [← ab_1]
  rfl

theorem pieces0_1 : kernelRun1_A.sl.HS0_128 E.c E.m1 E.h1 E.m2 E.h2 E.m3 E.h3 E.m6 E.h6 E.m7 E.h7 E.m8 E.h8 E.m9 E.h9 E.x0 E.x1 E.x2 E.x5 E.x6 E.x7 E.x8
    = rows 1 (ex E 1) (kernelRun1_A.sl.HS0_64 E.c E.m1 E.h1 E.m2 E.h2 E.m3 E.h3 E.m6 E.h6 E.m7 E.h7 E.m8 E.h8 E.m9 E.h9 E.x0 E.x1 E.x2 E.x5 E.x6 E.x7 E.x8) 64 (le_refl 64) := by
  rw [← ex_1]
  rfl

end Cert.S5
-- ==== Proof.Blocks.lean ====
module

public import proofs.«01_k».proof.Proof.Pieces

@[expose] public section

/-! The chunk kernel's output block, group by group. -/

noncomputable section
namespace Cert.S5
open Idealize.ShloMosaic Cert.KernelIdeal Cert.KernelIdeal.Gen

variable {F : FTy → Type} [FloatOps F] (E : Env F) (g : Fin 2)

/-- The output matrix's two halves, read back together. -/
def halves (w : CV F S64x1024) : FVec F S1x128x1024 .bf16 := fun i =>
  if h : (i 1).val < 64 then wbtHalf w.1 (ix3 0 ⟨(i 1).val, h⟩ (i 2))
  else wbtHalf w.2 (ix3 0 ⟨(i 1).val - 64, by have := (i 1).isLt; change _ < 128 at this; omega⟩ (i 2))

/-- The in-chunk matrix read back. -/
def full (e : FVec F S16x2048 .f32) : FVec F S1x1024x1024 .bf16 := fun i =>
  mrow e ((i 1).val / 16) (by have := (i 1).isLt; change _ < 1024 at this; omega) (ix3 0 ⟨(i 1).val % 16, Nat.mod_lt _ (by norm_num)⟩ (i 2))

/-- Group `g`'s output. -/
def yg : FVec F S1x1024x256 .f32 :=
  yout (sin (scan (a64r (a64m (ab E g))) (xin (grp g E.x9) (halves (im E g))))) (wc E g) (yown (grp g E.x9) (full (ex E g)))

/-- The kernel's output block. -/
def outE : Vec F S2x1024x256 .f32 :=
  out1_A_10 E.c E.i E.m1 E.h1 E.m2 E.h2 E.m3 E.h3 E.m4 E.h4 E.m5 E.h5 E.m6 E.h6 E.m7 E.h7 E.m8 E.h8 E.m9 E.h9 E.m10 E.h10 E.m11 E.h11 E.m12 E.h12 E.m13 E.h13 E.m14 E.h14 E.m15 E.h15 E.x0 E.x1 E.x2 E.x3 E.x4 E.x5 E.x6 E.x7 E.x8 E.x9

/-- Under the last write, at the coordinates it names. -/
theorem canon_at {s : Shape} {e : EltTy} {off size : Fin s.rank → ℕ} (inb : ∀ a, off a + size a ≤ s.size a)
    (w : (Rect.unit off size inb).shape.Idx → Elt F e) (L : List (View.Piece (Elt F) s e)) (y : s.Idx)
    (x : (Rect.unit off size inb).shape.Idx) (h : ∀ a, (y a).val = off a + (x a).val) :
    View.canon (⟨Rect.unit off size inb, w⟩ :: L) y = w x := by
  have hy : y = (Rect.unit off size inb).emb x := funext fun a => Fin.ext (by
    rw [h a]
    show _ = off a + 1 * (x a).val
    rw [Nat.one_mul])
  rw [hy]
  exact View.canon_cons_emb _ w L x

/-- Off the last write, by one coordinate. -/
theorem canon_off {s : Shape} {e : EltTy} {off size : Fin s.rank → ℕ} (inb : ∀ a, off a + size a ≤ s.size a)
    (w : (Rect.unit off size inb).shape.Idx → Elt F e) (L : List (View.Piece (Elt F) s e)) (y : s.Idx)
    (a : Fin s.rank) (h : (y a).val < off a) : View.canon (⟨Rect.unit off size inb, w⟩ :: L) y = View.canon L y :=
  View.canon_cons_of_not_mem _ L fun hm => Nat.not_le_of_lt h ((Rect.mem_set_unit (inb := inb)).mp hm a).1

theorem read_halves {κ sp} (v : View sig κ sp S2x128x1024 .bf16) (w : CV F S64x1024) (L) (i1 i0 i) :
    v.readCov (Val := Elt F) (⟨Rect.unit (s := S2x128x1024) ![g.val, 64, 0] S1x64x1024.size i1, wbtHalf w.2⟩ ::
      ⟨Rect.unit (s := S2x128x1024) ![g.val, 0, 0] S1x64x1024.size i0, wbtHalf w.1⟩ :: L)
      (Rect.unit (s := S2x128x1024) ![g.val, 0, 0] S1x128x1024.size i).toLoadRect = halves w := by
  rw [View.readCov_eq_canon']
  funext j
  have hj := (j 1).isLt
  change _ < 128 at hj
  have h0 := (j 0).isLt
  change _ < 1 at h0
  unfold halves
  by_cases h : (j 1).val < 64
  · rw [dif_pos h]
    refine (canon_off (s := S2x128x1024) (off := ![g.val, 64, 0]) (size := S1x64x1024.size) _ _ _ _ 1 (show 0 + 1 * (j 1).val < 64 by omega)).trans (canon_at (s := S2x128x1024) (off := ![g.val, 0, 0]) (size := S1x64x1024.size) _ _ _ _ (ix3 0 ⟨(j 1).val, h⟩ (j 2)) fun a => ?_)
    match a with
    | ⟨0, _⟩ => show g.val + 1 * (j 0).val = g.val + 0; omega
    | ⟨1, _⟩ => show 0 + 1 * (j 1).val = 0 + (j 1).val; omega
    | ⟨2, _⟩ => show 0 + 1 * (j 2).val = 0 + (j 2).val; omega
  · rw [dif_neg h]
    refine canon_at (s := S2x128x1024) (off := ![g.val, 64, 0]) (size := S1x64x1024.size) _ _ _ _ (ix3 0 ⟨(j 1).val - 64, by omega⟩ (j 2)) fun a => ?_
    match a with
    | ⟨0, _⟩ => show g.val + 1 * (j 0).val = g.val + 0; omega
    | ⟨1, _⟩ => show 0 + 1 * (j 1).val = 64 + ((j 1).val - 64); omega
    | ⟨2, _⟩ => show 0 + 1 * (j 2).val = 0 + (j 2).val; omega

theorem canon_rows (e : FVec F S16x2048 .f32) (L) (n : ℕ) (h : n < 64) (k : Fin 16) (l : Fin 1024) :
    ∀ (m : ℕ) (hm : m ≤ 64), n < m → ∀ y : S2x1024x1024.Idx, (y 0).val = g.val → (y 1).val = 16 * n + k.val → (y 2).val = l.val →
      View.canon (rows g e L m hm) y = mrow e n h (ix3 0 k l)
  | 0, _, hn => absurd hn (Nat.not_lt_zero n)
  | m + 1, hm, hn => fun y y0 y1 y2 => by
    by_cases hk : n = m
    · subst hk
      refine canon_at (s := S2x1024x1024) (off := ![g.val, 16 * n, 0]) (size := S1x16x1024.size) _ _ _ _ (ix3 0 k l) fun a => ?_
      match a with
      | ⟨0, _⟩ => show (y 0).val = g.val + 0; omega
      | ⟨1, _⟩ => show (y 1).val = 16 * n + k.val; omega
      | ⟨2, _⟩ => show (y 2).val = 0 + l.val; omega
    · refine (canon_off (s := S2x1024x1024) (off := ![g.val, 16 * m, 0]) (size := S1x16x1024.size) _ _ _ _ 1 (show (y 1).val < 16 * m by have := k.isLt; omega)).trans ?_
      exact canon_rows e L n h k l m _ (by omega) y y0 y1 y2

theorem read_full {κ sp} (v : View sig κ sp S2x1024x1024 .bf16) (e : FVec F S16x2048 .f32) (L) (i) :
    v.readCov (Val := Elt F) (rows g e L 64 (le_refl 64)) (Rect.unit (s := S2x1024x1024) ![g.val, 0, 0] S1x1024x1024.size i).toLoadRect = full e := by
  rw [View.readCov_eq_canon']
  funext j
  have hj := (j 1).isLt
  change _ < 1024 at hj
  have h0 := (j 0).isLt
  change _ < 1 at h0
  refine canon_rows g e L ((j 1).val / 16) (by omega) ⟨(j 1).val % 16, Nat.mod_lt _ (by norm_num)⟩ (j 2) 64 _ (by omega) _ ?_ ?_ ?_
  · show g.val + 1 * (j 0).val = g.val; omega
  · show 0 + 1 * (j 1).val = 16 * ((j 1).val / 16) + (j 1).val % 16; omega
  · show 0 + 1 * (j 2).val = (j 2).val; omega

set_option maxRecDepth 100000

theorem w_0 : kernelRun1_A.sl.v1146 E.c E.m1 E.h1 E.m2 E.h2 E.m3 E.h3 E.m6 E.h6 E.m7 E.h7 E.m13 E.x0 E.x1 E.x2 E.x5 E.x6 = halves (im E 0) := by
  show E.m13.view.readCov (kernelRun1_A.sl.HS1_2 E.c E.m1 E.h1 E.m2 E.h2 E.m3 E.h3 E.m6 E.h6 E.m7 E.h7 E.x0 E.x1 E.x2 E.x5 E.x6) (Rect.unit (s := S2x128x1024) ![0, 0, 0] S1x128x1024.size (by decide)).toLoadRect = _
  rw [pieces1_0]
  exact read_halves 0 _ _ _ _ _ _

theorem m_0 : kernelRun1_A.sl.v1149 E.c E.m1 E.h1 E.m2 E.h2 E.m3 E.h3 E.m6 E.h6 E.m7 E.h7 E.m8 E.h8 E.m9 E.h9 E.m12 E.x0 E.x1 E.x2 E.x5 E.x6 E.x7 E.x8 = full (ex E 0) := by
  show E.m12.view.readCov (kernelRun1_A.sl.HS0_64 E.c E.m1 E.h1 E.m2 E.h2 E.m3 E.h3 E.m6 E.h6 E.m7 E.h7 E.m8 E.h8 E.m9 E.h9 E.x0 E.x1 E.x2 E.x5 E.x6 E.x7 E.x8) (Rect.unit (s := S2x1024x1024) ![0, 0, 0] S1x1024x1024.size (by decide)).toLoadRect = _
  rw [pieces0_0]
  exact read_full 0 _ _ _ _

theorem q_0 : kernelRun1_A.sl.v1157 E.c E.m1 E.h1 E.m2 E.h2 E.m3 E.h3 E.m15 E.x0 E.x1 E.x2 = a64m (ab E 0) := by
  show E.m15.view.readCov (kernelRun1_A.sl.HS3_1 E.c E.m1 E.h1 E.m2 E.h2 E.m3 E.h3 E.x0 E.x1 E.x2) (Rect.unit (s := S2x128x1) ![0, 0, 0] S1x128x1.size (by decide)).toLoadRect = _
  rw [pieces3_0]
  exact View.readCov_cons_toLoadRect _ _ _ _

theorem t_0 : kernelRun1_A.sl.v1369 E.c E.m1 E.h1 E.m2 E.h2 E.m3 E.h3 E.m4 E.h4 E.m5 E.h5 E.m14 E.x0 E.x1 E.x2 E.x3 E.x4 = wc E 0 := by
  show E.m14.view.readCov (kernelRun1_A.sl.HS2_1 E.c E.m1 E.h1 E.m2 E.h2 E.m3 E.h3 E.m4 E.h4 E.m5 E.h5 E.x0 E.x1 E.x2 E.x3 E.x4) (Rect.unit (s := S2x1024x128) ![0, 0, 0] S1x1024x128.size (by decide)).toLoadRect = _
  rw [pieces2_0]
  exact View.readCov_cons_toLoadRect _ _ _ _

theorem x_0 : (kernelRun1_A.sl.r_108 E.c E.m1 E.h1 E.m2 E.h2 E.m3 E.h3 E.m6 E.h6 E.m7 E.h7 E.m10 E.h10 E.m13 E.x0 E.x1 E.x2 E.x5 E.x6 E.x9, kernelRun1_A.sl.r_109 E.c E.m1 E.h1 E.m2 E.h2 E.m3 E.h3 E.m6 E.h6 E.m7 E.h7 E.m10 E.h10 E.m13 E.x0 E.x1 E.x2 E.x5 E.x6 E.x9)
    = xin (grp 0 E.x9) (halves (im E 0)) := by
  rw [← w_0, ← rd_eq E.m10 E.h10 E.x9 0 (by decide)]
  rfl

theorem a_0 : (kernelRun1_A.sl.r_110 E.c E.m1 E.h1 E.m2 E.h2 E.m3 E.h3 E.m15 E.x0 E.x1 E.x2, kernelRun1_A.sl.r_111 E.c E.m1 E.h1 E.m2 E.h2 E.m3 E.h3 E.m15 E.x0 E.x1 E.x2) = a64r (a64m (ab E 0)) := by
  rw [← q_0]
  rfl

theorem w_1 : kernelRun1_A.sl.v2526 E.c E.m1 E.h1 E.m2 E.h2 E.m3 E.h3 E.m6 E.h6 E.m7 E.h7 E.m13 E.x0 E.x1 E.x2 E.x5 E.x6 = halves (im E 1) := by
  show E.m13.view.readCov (kernelRun1_A.sl.HS1_4 E.c E.m1 E.h1 E.m2 E.h2 E.m3 E.h3 E.m6 E.h6 E.m7 E.h7 E.x0 E.x1 E.x2 E.x5 E.x6) (Rect.unit (s := S2x128x1024) ![1, 0, 0] S1x128x1024.size (by decide)).toLoadRect = _
  rw [pieces1_1]
  exact read_halves 1 _ _ _ _ _ _

theorem m_1 : kernelRun1_A.sl.v2529 E.c E.m1 E.h1 E.m2 E.h2 E.m3 E.h3 E.m6 E.h6 E.m7 E.h7 E.m8 E.h8 E.m9 E.h9 E.m12 E.x0 E.x1 E.x2 E.x5 E.x6 E.x7 E.x8 = full (ex E 1) := by
  show E.m12.view.readCov (kernelRun1_A.sl.HS0_128 E.c E.m1 E.h1 E.m2 E.h2 E.m3 E.h3 E.m6 E.h6 E.m7 E.h7 E.m8 E.h8 E.m9 E.h9 E.x0 E.x1 E.x2 E.x5 E.x6 E.x7 E.x8) (Rect.unit (s := S2x1024x1024) ![1, 0, 0] S1x1024x1024.size (by decide)).toLoadRect = _
  rw [pieces0_1]
  exact read_full 1 _ _ _ _

theorem q_1 : kernelRun1_A.sl.v2537 E.c E.m1 E.h1 E.m2 E.h2 E.m3 E.h3 E.m15 E.x0 E.x1 E.x2 = a64m (ab E 1) := by
  show E.m15.view.readCov (kernelRun1_A.sl.HS3_2 E.c E.m1 E.h1 E.m2 E.h2 E.m3 E.h3 E.x0 E.x1 E.x2) (Rect.unit (s := S2x128x1) ![1, 0, 0] S1x128x1.size (by decide)).toLoadRect = _
  rw [pieces3_1]
  exact View.readCov_cons_toLoadRect _ _ _ _

theorem t_1 : kernelRun1_A.sl.v2749 E.c E.m1 E.h1 E.m2 E.h2 E.m3 E.h3 E.m4 E.h4 E.m5 E.h5 E.m14 E.x0 E.x1 E.x2 E.x3 E.x4 = wc E 1 := by
  show E.m14.view.readCov (kernelRun1_A.sl.HS2_2 E.c E.m1 E.h1 E.m2 E.h2 E.m3 E.h3 E.m4 E.h4 E.m5 E.h5 E.x0 E.x1 E.x2 E.x3 E.x4) (Rect.unit (s := S2x1024x128) ![1, 0, 0] S1x1024x128.size (by decide)).toLoadRect = _
  rw [pieces2_1]
  exact View.readCov_cons_toLoadRect _ _ _ _

theorem x_1 : (kernelRun1_A.sl.r_232 E.c E.m1 E.h1 E.m2 E.h2 E.m3 E.h3 E.m6 E.h6 E.m7 E.h7 E.m10 E.h10 E.m13 E.x0 E.x1 E.x2 E.x5 E.x6 E.x9, kernelRun1_A.sl.r_233 E.c E.m1 E.h1 E.m2 E.h2 E.m3 E.h3 E.m6 E.h6 E.m7 E.h7 E.m10 E.h10 E.m13 E.x0 E.x1 E.x2 E.x5 E.x6 E.x9)
    = xin (grp 1 E.x9) (halves (im E 1)) := by
  rw [← w_1, ← rd_eq E.m10 E.h10 E.x9 1 (by decide)]
  rfl

theorem a_1 : (kernelRun1_A.sl.r_234 E.c E.m1 E.h1 E.m2 E.h2 E.m3 E.h3 E.m15 E.x0 E.x1 E.x2, kernelRun1_A.sl.r_235 E.c E.m1 E.h1 E.m2 E.h2 E.m3 E.h3 E.m15 E.x0 E.x1 E.x2) = a64r (a64m (ab E 1)) := by
  rw [← q_1]
  rfl

end Cert.S5
-- ==== Proof.OutBlock.lean ====
module

public import proofs.«01_k».proof.Proof.Blocks

@[expose] public section

/-! The scan over chunks, stage by stage, and the output block. -/

noncomputable section
namespace Cert.S5
open Idealize.ShloMosaic Cert.KernelIdeal Cert.KernelIdeal.Gen

variable {F : FTy → Type} [FloatOps F] (E : Env F) (g : Fin 2)

/-- Two doublings of the prefix sums. -/
def dbl (m n : BitVec 32) (a : CV F S64x1) (x : CV F S64x256) : CV F S64x256 := hstep n (sqk a) (hstep m a x)

theorem scan_eq (a : CV F S64x1) (x : CV F S64x256) :
    scan a x = dbl 16#32 32#32 (sqk (sqk (sqk (sqk a)))) (dbl 4#32 8#32 (sqk (sqk a)) (dbl 1#32 2#32 a x)) := rfl

set_option maxRecDepth 100000

theorem s1_0 : (kernelRun1_A.sl.r_112 E.c E.m1 E.h1 E.m2 E.h2 E.m3 E.h3 E.m6 E.h6 E.m7 E.h7 E.m10 E.h10 E.m13 E.m15 E.x0 E.x1 E.x2 E.x5 E.x6 E.x9, kernelRun1_A.sl.r_113 E.c E.m1 E.h1 E.m2 E.h2 E.m3 E.h3 E.m6 E.h6 E.m7 E.h7 E.m10 E.h10 E.m13 E.m15 E.x0 E.x1 E.x2 E.x5 E.x6 E.x9) = hstep 1#32 (kernelRun1_A.sl.r_110 E.c E.m1 E.h1 E.m2 E.h2 E.m3 E.h3 E.m15 E.x0 E.x1 E.x2, kernelRun1_A.sl.r_111 E.c E.m1 E.h1 E.m2 E.h2 E.m3 E.h3 E.m15 E.x0 E.x1 E.x2) (kernelRun1_A.sl.r_108 E.c E.m1 E.h1 E.m2 E.h2 E.m3 E.h3 E.m6 E.h6 E.m7 E.h7 E.m10 E.h10 E.m13 E.x0 E.x1 E.x2 E.x5 E.x6 E.x9, kernelRun1_A.sl.r_109 E.c E.m1 E.h1 E.m2 E.h2 E.m3 E.h3 E.m6 E.h6 E.m7 E.h7 E.m10 E.h10 E.m13 E.x0 E.x1 E.x2 E.x5 E.x6 E.x9) := rfl

theorem p2_0 : (kernelRun1_A.sl.r_114 E.c E.m1 E.h1 E.m2 E.h2 E.m3 E.h3 E.m15 E.x0 E.x1 E.x2, mulf (mulf (broadcast S64x1 (Scalar.ofBits .f32 0x40000000#32)) (kernelRun1_A.sl.r_110 E.c E.m1 E.h1 E.m2 E.h2 E.m3 E.h3 E.m15 E.x0 E.x1 E.x2)) (kernelRun1_A.sl.r_111 E.c E.m1 E.h1 E.m2 E.h2 E.m3 E.h3 E.m15 E.x0 E.x1 E.x2))
    = sqk (kernelRun1_A.sl.r_110 E.c E.m1 E.h1 E.m2 E.h2 E.m3 E.h3 E.m15 E.x0 E.x1 E.x2, kernelRun1_A.sl.r_111 E.c E.m1 E.h1 E.m2 E.h2 E.m3 E.h3 E.m15 E.x0 E.x1 E.x2) := rfl

theorem s2_0 : (kernelRun1_A.sl.r_115 E.c E.m1 E.h1 E.m2 E.h2 E.m3 E.h3 E.m6 E.h6 E.m7 E.h7 E.m10 E.h10 E.m13 E.m15 E.x0 E.x1 E.x2 E.x5 E.x6 E.x9, kernelRun1_A.sl.r_116 E.c E.m1 E.h1 E.m2 E.h2 E.m3 E.h3 E.m6 E.h6 E.m7 E.h7 E.m10 E.h10 E.m13 E.m15 E.x0 E.x1 E.x2 E.x5 E.x6 E.x9) = dbl 1#32 2#32 (kernelRun1_A.sl.r_110 E.c E.m1 E.h1 E.m2 E.h2 E.m3 E.h3 E.m15 E.x0 E.x1 E.x2, kernelRun1_A.sl.r_111 E.c E.m1 E.h1 E.m2 E.h2 E.m3 E.h3 E.m15 E.x0 E.x1 E.x2) (kernelRun1_A.sl.r_108 E.c E.m1 E.h1 E.m2 E.h2 E.m3 E.h3 E.m6 E.h6 E.m7 E.h7 E.m10 E.h10 E.m13 E.x0 E.x1 E.x2 E.x5 E.x6 E.x9, kernelRun1_A.sl.r_109 E.c E.m1 E.h1 E.m2 E.h2 E.m3 E.h3 E.m6 E.h6 E.m7 E.h7 E.m10 E.h10 E.m13 E.x0 E.x1 E.x2 E.x5 E.x6 E.x9) := by
  unfold dbl
  rw [← s1_0, ← p2_0]
  rfl

theorem s1_1 : (kernelRun1_A.sl.r_237 E.c E.m1 E.h1 E.m2 E.h2 E.m3 E.h3 E.m6 E.h6 E.m7 E.h7 E.m10 E.h10 E.m13 E.m15 E.x0 E.x1 E.x2 E.x5 E.x6 E.x9, kernelRun1_A.sl.r_238 E.c E.m1 E.h1 E.m2 E.h2 E.m3 E.h3 E.m6 E.h6 E.m7 E.h7 E.m10 E.h10 E.m13 E.m15 E.x0 E.x1 E.x2 E.x5 E.x6 E.x9) = hstep 1#32 (kernelRun1_A.sl.r_234 E.c E.m1 E.h1 E.m2 E.h2 E.m3 E.h3 E.m15 E.x0 E.x1 E.x2, kernelRun1_A.sl.r_235 E.c E.m1 E.h1 E.m2 E.h2 E.m3 E.h3 E.m15 E.x0 E.x1 E.x2) (kernelRun1_A.sl.r_232 E.c E.m1 E.h1 E.m2 E.h2 E.m3 E.h3 E.m6 E.h6 E.m7 E.h7 E.m10 E.h10 E.m13 E.x0 E.x1 E.x2 E.x5 E.x6 E.x9, kernelRun1_A.sl.r_233 E.c E.m1 E.h1 E.m2 E.h2 E.m3 E.h3 E.m6 E.h6 E.m7 E.h7 E.m10 E.h10 E.m13 E.x0 E.x1 E.x2 E.x5 E.x6 E.x9) := rfl

theorem p2_1 : (kernelRun1_A.sl.r_239 E.c E.m1 E.h1 E.m2 E.h2 E.m3 E.h3 E.m15 E.x0 E.x1 E.x2, kernelRun1_A.sl.r_240 E.c E.m1 E.h1 E.m2 E.h2 E.m3 E.h3 E.m15 E.x0 E.x1 E.x2) = sqk (kernelRun1_A.sl.r_234 E.c E.m1 E.h1 E.m2 E.h2 E.m3 E.h3 E.m15 E.x0 E.x1 E.x2, kernelRun1_A.sl.r_235 E.c E.m1 E.h1 E.m2 E.h2 E.m3 E.h3 E.m15 E.x0 E.x1 E.x2) := rfl

theorem s3_1 : (kernelRun1_A.sl.r_244 E.c E.m1 E.h1 E.m2 E.h2 E.m3 E.h3 E.m6 E.h6 E.m7 E.h7 E.m10 E.h10 E.m13 E.m15 E.x0 E.x1 E.x2 E.x5 E.x6 E.x9, kernelRun1_A.sl.r_245 E.c E.m1 E.h1 E.m2 E.h2 E.m3 E.h3 E.m6 E.h6 E.m7 E.h7 E.m10 E.h10 E.m13 E.m15 E.x0 E.x1 E.x2 E.x5 E.x6 E.x9) = dbl 2#32 4#32 (kernelRun1_A.sl.r_239 E.c E.m1 E.h1 E.m2 E.h2 E.m3 E.h3 E.m15 E.x0 E.x1 E.x2, kernelRun1_A.sl.r_240 E.c E.m1 E.h1 E.m2 E.h2 E.m3 E.h3 E.m15 E.x0 E.x1 E.x2) (kernelRun1_A.sl.r_237 E.c E.m1 E.h1 E.m2 E.h2 E.m3 E.h3 E.m6 E.h6 E.m7 E.h7 E.m10 E.h10 E.m13 E.m15 E.x0 E.x1 E.x2 E.x5 E.x6 E.x9, kernelRun1_A.sl.r_238 E.c E.m1 E.h1 E.m2 E.h2 E.m3 E.h3 E.m6 E.h6 E.m7 E.h7 E.m10 E.h10 E.m13 E.m15 E.x0 E.x1 E.x2 E.x5 E.x6 E.x9) := rfl

theorem p8_1 : (kernelRun1_A.sl.r_246 E.c E.m1 E.h1 E.m2 E.h2 E.m3 E.h3 E.m15 E.x0 E.x1 E.x2, kernelRun1_A.sl.r_247 E.c E.m1 E.h1 E.m2 E.h2 E.m3 E.h3 E.m15 E.x0 E.x1 E.x2) = sqk (sqk (kernelRun1_A.sl.r_239 E.c E.m1 E.h1 E.m2 E.h2 E.m3 E.h3 E.m15 E.x0 E.x1 E.x2, kernelRun1_A.sl.r_240 E.c E.m1 E.h1 E.m2 E.h2 E.m3 E.h3 E.m15 E.x0 E.x1 E.x2)) := rfl

theorem s5_1 : (kernelRun1_A.sl.r_251 E.c E.m1 E.h1 E.m2 E.h2 E.m3 E.h3 E.m6 E.h6 E.m7 E.h7 E.m10 E.h10 E.m13 E.m15 E.x0 E.x1 E.x2 E.x5 E.x6 E.x9, kernelRun1_A.sl.r_252 E.c E.m1 E.h1 E.m2 E.h2 E.m3 E.h3 E.m6 E.h6 E.m7 E.h7 E.m10 E.h10 E.m13 E.m15 E.x0 E.x1 E.x2 E.x5 E.x6 E.x9) = dbl 8#32 16#32 (kernelRun1_A.sl.r_246 E.c E.m1 E.h1 E.m2 E.h2 E.m3 E.h3 E.m15 E.x0 E.x1 E.x2, kernelRun1_A.sl.r_247 E.c E.m1 E.h1 E.m2 E.h2 E.m3 E.h3 E.m15 E.x0 E.x1 E.x2) (kernelRun1_A.sl.r_244 E.c E.m1 E.h1 E.m2 E.h2 E.m3 E.h3 E.m6 E.h6 E.m7 E.h7 E.m10 E.h10 E.m13 E.m15 E.x0 E.x1 E.x2 E.x5 E.x6 E.x9, kernelRun1_A.sl.r_245 E.c E.m1 E.h1 E.m2 E.h2 E.m3 E.h3 E.m6 E.h6 E.m7 E.h7 E.m10 E.h10 E.m13 E.m15 E.x0 E.x1 E.x2 E.x5 E.x6 E.x9) := rfl

theorem p16_1 : (kernelRun1_A.sl.r_249 E.c E.m1 E.h1 E.m2 E.h2 E.m3 E.h3 E.m15 E.x0 E.x1 E.x2, kernelRun1_A.sl.r_250 E.c E.m1 E.h1 E.m2 E.h2 E.m3 E.h3 E.m15 E.x0 E.x1 E.x2) = sqk (kernelRun1_A.sl.r_246 E.c E.m1 E.h1 E.m2 E.h2 E.m3 E.h3 E.m15 E.x0 E.x1 E.x2, kernelRun1_A.sl.r_247 E.c E.m1 E.h1 E.m2 E.h2 E.m3 E.h3 E.m15 E.x0 E.x1 E.x2) := rfl

theorem scan_1 : hstep 32#32 (sqk (kernelRun1_A.sl.r_249 E.c E.m1 E.h1 E.m2 E.h2 E.m3 E.h3 E.m15 E.x0 E.x1 E.x2, kernelRun1_A.sl.r_250 E.c E.m1 E.h1 E.m2 E.h2 E.m3 E.h3 E.m15 E.x0 E.x1 E.x2)) (kernelRun1_A.sl.r_251 E.c E.m1 E.h1 E.m2 E.h2 E.m3 E.h3 E.m6 E.h6 E.m7 E.h7 E.m10 E.h10 E.m13 E.m15 E.x0 E.x1 E.x2 E.x5 E.x6 E.x9, kernelRun1_A.sl.r_252 E.c E.m1 E.h1 E.m2 E.h2 E.m3 E.h3 E.m6 E.h6 E.m7 E.h7 E.m10 E.h10 E.m13 E.m15 E.x0 E.x1 E.x2 E.x5 E.x6 E.x9) = scan (a64r (a64m (ab E 1))) (xin (grp 1 E.x9) (halves (im E 1))) := by
  rw [p16_1, s5_1, p8_1, s3_1, p2_1, s1_1, x_1, a_1]
  rfl

theorem q4_0 : (kernelRun1_A.sl.r_117 E.c E.m1 E.h1 E.m2 E.h2 E.m3 E.h3 E.m15 E.x0 E.x1 E.x2, kernelRun1_A.sl.r_118 E.c E.m1 E.h1 E.m2 E.h2 E.m3 E.h3 E.m15 E.x0 E.x1 E.x2) = sqk (sqk (kernelRun1_A.sl.r_110 E.c E.m1 E.h1 E.m2 E.h2 E.m3 E.h3 E.m15 E.x0 E.x1 E.x2, kernelRun1_A.sl.r_111 E.c E.m1 E.h1 E.m2 E.h2 E.m3 E.h3 E.m15 E.x0 E.x1 E.x2)) := rfl

theorem s8_0 : (kernelRun1_A.sl.r_122 E.c E.m1 E.h1 E.m2 E.h2 E.m3 E.h3 E.m6 E.h6 E.m7 E.h7 E.m10 E.h10 E.m13 E.m15 E.x0 E.x1 E.x2 E.x5 E.x6 E.x9, kernelRun1_A.sl.r_123 E.c E.m1 E.h1 E.m2 E.h2 E.m3 E.h3 E.m6 E.h6 E.m7 E.h7 E.m10 E.h10 E.m13 E.m15 E.x0 E.x1 E.x2 E.x5 E.x6 E.x9) = dbl 4#32 8#32 (kernelRun1_A.sl.r_117 E.c E.m1 E.h1 E.m2 E.h2 E.m3 E.h3 E.m15 E.x0 E.x1 E.x2, kernelRun1_A.sl.r_118 E.c E.m1 E.h1 E.m2 E.h2 E.m3 E.h3 E.m15 E.x0 E.x1 E.x2) (kernelRun1_A.sl.r_115 E.c E.m1 E.h1 E.m2 E.h2 E.m3 E.h3 E.m6 E.h6 E.m7 E.h7 E.m10 E.h10 E.m13 E.m15 E.x0 E.x1 E.x2 E.x5 E.x6 E.x9, kernelRun1_A.sl.r_116 E.c E.m1 E.h1 E.m2 E.h2 E.m3 E.h3 E.m6 E.h6 E.m7 E.h7 E.m10 E.h10 E.m13 E.m15 E.x0 E.x1 E.x2 E.x5 E.x6 E.x9) := rfl

theorem q16_0 : (kernelRun1_A.sl.r_124 E.c E.m1 E.h1 E.m2 E.h2 E.m3 E.h3 E.m15 E.x0 E.x1 E.x2, kernelRun1_A.sl.r_125 E.c E.m1 E.h1 E.m2 E.h2 E.m3 E.h3 E.m15 E.x0 E.x1 E.x2) = sqk (sqk (kernelRun1_A.sl.r_117 E.c E.m1 E.h1 E.m2 E.h2 E.m3 E.h3 E.m15 E.x0 E.x1 E.x2, kernelRun1_A.sl.r_118 E.c E.m1 E.h1 E.m2 E.h2 E.m3 E.h3 E.m15 E.x0 E.x1 E.x2)) := rfl

theorem scan_0 : dbl 16#32 32#32 (kernelRun1_A.sl.r_124 E.c E.m1 E.h1 E.m2 E.h2 E.m3 E.h3 E.m15 E.x0 E.x1 E.x2, kernelRun1_A.sl.r_125 E.c E.m1 E.h1 E.m2 E.h2 E.m3 E.h3 E.m15 E.x0 E.x1 E.x2) (kernelRun1_A.sl.r_122 E.c E.m1 E.h1 E.m2 E.h2 E.m3 E.h3 E.m6 E.h6 E.m7 E.h7 E.m10 E.h10 E.m13 E.m15 E.x0 E.x1 E.x2 E.x5 E.x6 E.x9, kernelRun1_A.sl.r_123 E.c E.m1 E.h1 E.m2 E.h2 E.m3 E.h3 E.m6 E.h6 E.m7 E.h7 E.m10 E.h10 E.m13 E.m15 E.x0 E.x1 E.x2 E.x5 E.x6 E.x9) = scan (a64r (a64m (ab E 0))) (xin (grp 0 E.x9) (halves (im E 0))) := by
  rw [scan_eq, q16_0, s8_0, q4_0, s2_0, x_0, a_0]

theorem fin_0 (t : FVec F S1x1024x128 .bf16) (y : FVec F S1x1024x256 .f32) :
    k1_pay277 (kernelRun1_A.sl.r_127 E.c E.m1 E.h1 E.m2 E.h2 E.m3 E.h3 E.m6 E.h6 E.m7 E.h7 E.m10 E.h10 E.m13 E.m15 E.x0 E.x1 E.x2 E.x5 E.x6 E.x9) (k1_pay275 k1_pay233) (kernelRun1_A.sl.r_128 E.c E.m1 E.h1 E.m2 E.h2 E.m3 E.h3 E.m6 E.h6 E.m7 E.h7 E.m10 E.h10 E.m13 E.m15 E.x0 E.x1 E.x2 E.x5 E.x6 E.x9) t y
    = yout (sin (dbl 16#32 32#32 (kernelRun1_A.sl.r_124 E.c E.m1 E.h1 E.m2 E.h2 E.m3 E.h3 E.m15 E.x0 E.x1 E.x2, kernelRun1_A.sl.r_125 E.c E.m1 E.h1 E.m2 E.h2 E.m3 E.h3 E.m15 E.x0 E.x1 E.x2) (kernelRun1_A.sl.r_122 E.c E.m1 E.h1 E.m2 E.h2 E.m3 E.h3 E.m6 E.h6 E.m7 E.h7 E.m10 E.h10 E.m13 E.m15 E.x0 E.x1 E.x2 E.x5 E.x6 E.x9, kernelRun1_A.sl.r_123 E.c E.m1 E.h1 E.m2 E.h2 E.m3 E.h3 E.m6 E.h6 E.m7 E.h7 E.m10 E.h10 E.m13 E.m15 E.x0 E.x1 E.x2 E.x5 E.x6 E.x9))) t y := rfl

theorem fin_1 (t : FVec F S1x1024x128 .bf16) (y : FVec F S1x1024x256 .f32) :
    k1_pay1 (kernelRun1_A.sl.r_255 E.c E.m1 E.h1 E.m2 E.h2 E.m3 E.h3 E.m6 E.h6 E.m7 E.h7 E.m10 E.h10 E.m13 E.m15 E.x0 E.x1 E.x2 E.x5 E.x6 E.x9) (kernelRun1_A.sl.r_256 E.c E.m1 E.h1 E.m2 E.h2 E.m3 E.h3 E.m6 E.h6 E.m7 E.h7 E.m10 E.h10 E.m13 E.m15 E.x0 E.x1 E.x2 E.x5 E.x6 E.x9) t y
    = yout (sin (hstep 32#32 (sqk (kernelRun1_A.sl.r_249 E.c E.m1 E.h1 E.m2 E.h2 E.m3 E.h3 E.m15 E.x0 E.x1 E.x2, kernelRun1_A.sl.r_250 E.c E.m1 E.h1 E.m2 E.h2 E.m3 E.h3 E.m15 E.x0 E.x1 E.x2)) (kernelRun1_A.sl.r_251 E.c E.m1 E.h1 E.m2 E.h2 E.m3 E.h3 E.m6 E.h6 E.m7 E.h7 E.m10 E.h10 E.m13 E.m15 E.x0 E.x1 E.x2 E.x5 E.x6 E.x9, kernelRun1_A.sl.r_252 E.c E.m1 E.h1 E.m2 E.h2 E.m3 E.h3 E.m6 E.h6 E.m7 E.h7 E.m10 E.h10 E.m13 E.m15 E.x0 E.x1 E.x2 E.x5 E.x6 E.x9))) t y := rfl

theorem y_0 : kernelRun1_A.sl.v1371 E.c E.m1 E.h1 E.m2 E.h2 E.m3 E.h3 E.m6 E.h6 E.m7 E.h7 E.m8 E.h8 E.m9 E.h9 E.m10 E.h10 E.m11 E.m12 E.x0 E.x1 E.x2 E.x5 E.x6 E.x7 E.x8 E.x9 = yown (grp 0 E.x9) (full (ex E 0)) := by
  show E.m11.view.readCov (kernelRun1_A.sl.H10_1 E.c E.m1 E.h1 E.m2 E.h2 E.m3 E.h3 E.m6 E.h6 E.m7 E.h7 E.m8 E.h8 E.m9 E.h9 E.m10 E.h10 E.m12 E.x0 E.x1 E.x2 E.x5 E.x6 E.x7 E.x8 E.x9) (Rect.unit (s := S2x1024x256) ![0, 0, 0] S1x1024x256.size (by decide)).toLoadRect = _
  rw [← m_0, ← rd_eq E.m10 E.h10 E.x9 0 (by decide)]
  exact View.readCov_cons_toLoadRect _ _ _ _

theorem y_1 : kernelRun1_A.sl.v2751 E.c E.m1 E.h1 E.m2 E.h2 E.m3 E.h3 E.m4 E.h4 E.m5 E.h5 E.m6 E.h6 E.m7 E.h7 E.m8 E.h8 E.m9 E.h9 E.m10 E.h10 E.m11 E.m12 E.m13 E.m14 E.m15 E.x0 E.x1 E.x2 E.x3 E.x4 E.x5 E.x6 E.x7 E.x8 E.x9 = yown (grp 1 E.x9) (full (ex E 1)) := by
  show E.m11.view.readCov (kernelRun1_A.sl.H10_3 E.c E.m1 E.h1 E.m2 E.h2 E.m3 E.h3 E.m4 E.h4 E.m5 E.h5 E.m6 E.h6 E.m7 E.h7 E.m8 E.h8 E.m9 E.h9 E.m10 E.h10 E.m11 E.m12 E.m13 E.m14 E.m15 E.x0 E.x1 E.x2 E.x3 E.x4 E.x5 E.x6 E.x7 E.x8 E.x9) (Rect.unit (s := S2x1024x256) ![1, 0, 0] S1x1024x256.size (by decide)).toLoadRect = _
  rw [← m_1, ← rd_eq E.m10 E.h10 E.x9 1 (by decide)]
  exact View.readCov_cons_toLoadRect _ _ _ _

theorem yg_0 : k1_pay277 (kernelRun1_A.sl.r_127 E.c E.m1 E.h1 E.m2 E.h2 E.m3 E.h3 E.m6 E.h6 E.m7 E.h7 E.m10 E.h10 E.m13 E.m15 E.x0 E.x1 E.x2 E.x5 E.x6 E.x9) (k1_pay275 k1_pay233) (kernelRun1_A.sl.r_128 E.c E.m1 E.h1 E.m2 E.h2 E.m3 E.h3 E.m6 E.h6 E.m7 E.h7 E.m10 E.h10 E.m13 E.m15 E.x0 E.x1 E.x2 E.x5 E.x6 E.x9) (kernelRun1_A.sl.v1369 E.c E.m1 E.h1 E.m2 E.h2 E.m3 E.h3 E.m4 E.h4 E.m5 E.h5 E.m14 E.x0 E.x1 E.x2 E.x3 E.x4) (kernelRun1_A.sl.v1371 E.c E.m1 E.h1 E.m2 E.h2 E.m3 E.h3 E.m6 E.h6 E.m7 E.h7 E.m8 E.h8 E.m9 E.h9 E.m10 E.h10 E.m11 E.m12 E.x0 E.x1 E.x2 E.x5 E.x6 E.x7 E.x8 E.x9) = yg E 0 := by
  rw [fin_0, scan_0, t_0, y_0]
  rfl

theorem yg_1 : k1_pay1 (kernelRun1_A.sl.r_255 E.c E.m1 E.h1 E.m2 E.h2 E.m3 E.h3 E.m6 E.h6 E.m7 E.h7 E.m10 E.h10 E.m13 E.m15 E.x0 E.x1 E.x2 E.x5 E.x6 E.x9) (kernelRun1_A.sl.r_256 E.c E.m1 E.h1 E.m2 E.h2 E.m3 E.h3 E.m6 E.h6 E.m7 E.h7 E.m10 E.h10 E.m13 E.m15 E.x0 E.x1 E.x2 E.x5 E.x6 E.x9) (kernelRun1_A.sl.v2749 E.c E.m1 E.h1 E.m2 E.h2 E.m3 E.h3 E.m4 E.h4 E.m5 E.h5 E.m14 E.x0 E.x1 E.x2 E.x3 E.x4) (kernelRun1_A.sl.v2751 E.c E.m1 E.h1 E.m2 E.h2 E.m3 E.h3 E.m4 E.h4 E.m5 E.h5 E.m6 E.h6 E.m7 E.h7 E.m8 E.h8 E.m9 E.h9 E.m10 E.h10 E.m11 E.m12 E.m13 E.m14 E.m15 E.x0 E.x1 E.x2 E.x3 E.x4 E.x5 E.x6 E.x7 E.x8 E.x9) = yg E 1 := by
  rw [fin_1, scan_1, t_1, y_1]
  rfl

/-- The output block is, group by group, that group's output. -/
theorem outE_eq : outE E = fun i => yg E (i 0) (ix3 0 (i 1) (i 2)) := by
  funext i
  show VO1_10.read (Elt F) (VO1_10.writes (Elt F) VO1_10.junk
    (⟨Rect.unit (s := S2x1024x256) ![1, 0, 0] S1x1024x256.size (by decide),
        k1_pay1 (kernelRun1_A.sl.r_255 E.c E.m1 E.h1 E.m2 E.h2 E.m3 E.h3 E.m6 E.h6 E.m7 E.h7 E.m10 E.h10 E.m13 E.m15 E.x0 E.x1 E.x2 E.x5 E.x6 E.x9) (kernelRun1_A.sl.r_256 E.c E.m1 E.h1 E.m2 E.h2 E.m3 E.h3 E.m6 E.h6 E.m7 E.h7 E.m10 E.h10 E.m13 E.m15 E.x0 E.x1 E.x2 E.x5 E.x6 E.x9) (kernelRun1_A.sl.v2749 E.c E.m1 E.h1 E.m2 E.h2 E.m3 E.h3 E.m4 E.h4 E.m5 E.h5 E.m14 E.x0 E.x1 E.x2 E.x3 E.x4) (kernelRun1_A.sl.v2751 E.c E.m1 E.h1 E.m2 E.h2 E.m3 E.h3 E.m4 E.h4 E.m5 E.h5 E.m6 E.h6 E.m7 E.h7 E.m8 E.h8 E.m9 E.h9 E.m10 E.h10 E.m11 E.m12 E.m13 E.m14 E.m15 E.x0 E.x1 E.x2 E.x3 E.x4 E.x5 E.x6 E.x7 E.x8 E.x9)⟩ ::
      ⟨Rect.unit (s := S2x1024x256) ![1, 0, 0] S1x1024x256.size (by decide), yown _ (kernelRun1_A.sl.v2529 E.c E.m1 E.h1 E.m2 E.h2 E.m3 E.h3 E.m6 E.h6 E.m7 E.h7 E.m8 E.h8 E.m9 E.h9 E.m12 E.x0 E.x1 E.x2 E.x5 E.x6 E.x7 E.x8)⟩ ::
      ⟨Rect.unit (s := S2x1024x256) ![0, 0, 0] S1x1024x256.size (by decide),
        k1_pay277 (kernelRun1_A.sl.r_127 E.c E.m1 E.h1 E.m2 E.h2 E.m3 E.h3 E.m6 E.h6 E.m7 E.h7 E.m10 E.h10 E.m13 E.m15 E.x0 E.x1 E.x2 E.x5 E.x6 E.x9) (k1_pay275 k1_pay233) (kernelRun1_A.sl.r_128 E.c E.m1 E.h1 E.m2 E.h2 E.m3 E.h3 E.m6 E.h6 E.m7 E.h7 E.m10 E.h10 E.m13 E.m15 E.x0 E.x1 E.x2 E.x5 E.x6 E.x9) (kernelRun1_A.sl.v1369 E.c E.m1 E.h1 E.m2 E.h2 E.m3 E.h3 E.m4 E.h4 E.m5 E.h5 E.m14 E.x0 E.x1 E.x2 E.x3 E.x4) (kernelRun1_A.sl.v1371 E.c E.m1 E.h1 E.m2 E.h2 E.m3 E.h3 E.m6 E.h6 E.m7 E.h7 E.m8 E.h8 E.m9 E.h9 E.m10 E.h10 E.m11 E.m12 E.x0 E.x1 E.x2 E.x5 E.x6 E.x7 E.x8 E.x9)⟩ ::
      kernelRun1_A.sl.H10_1 E.c E.m1 E.h1 E.m2 E.h2 E.m3 E.h3 E.m6 E.h6 E.m7 E.h7 E.m8 E.h8 E.m9 E.h9 E.m10 E.h10 E.m12 E.x0 E.x1 E.x2 E.x5 E.x6 E.x7 E.x8 E.x9)) i = _
  rw [View.read_writes_junk_eq_canon, yg_1, yg_0]
  by_cases h : (i 0).val = 0
  · refine (canon_off (s := S2x1024x256) (off := ![1, 0, 0]) (size := S1x1024x256.size) _ _ _ _ 0 (show (i 0).val < 1 by omega)).trans
      ((canon_off (s := S2x1024x256) (off := ![1, 0, 0]) (size := S1x1024x256.size) _ _ _ _ 0 (show (i 0).val < 1 by omega)).trans ?_)
    rw [show i 0 = (0 : Fin 2) from Fin.ext h]
    refine canon_at (s := S2x1024x256) (off := ![0, 0, 0]) (size := S1x1024x256.size) _ _ _ _ (ix3 0 (i 1) (i 2)) fun a => ?_
    match a with
    | ⟨0, _⟩ => show (i 0).val = 0 + 0; omega
    | ⟨1, _⟩ => show (i 1).val = 0 + (i 1).val; omega
    | ⟨2, _⟩ => show (i 2).val = 0 + (i 2).val; omega
  · have h1 : (i 0).val = 1 := by have := (i 0).isLt; change _ < 2 at this; omega
    rw [show i 0 = (1 : Fin 2) from Fin.ext h1]
    refine canon_at (s := S2x1024x256) (off := ![1, 0, 0]) (size := S1x1024x256.size) _ _ _ _ (ix3 0 (i 1) (i 2)) fun a => ?_
    match a with
    | ⟨0, _⟩ => show (i 0).val = 1 + 0; omega
    | ⟨1, _⟩ => show (i 1).val = 0 + (i 1).val; omega
    | ⟨2, _⟩ => show (i 2).val = 0 + (i 2).val; omega

end Cert.S5
-- ==== Proof.Regions.lean ====
module

public import proofs.«01_k».proof.Proof.Layout
public import proofs.«01_k».proof.Proof.OutBlock
public import Idealize.ShloMosaic.Lib.Pipeline.Value

@[expose] public section

/-! The arrays the three kernels leave, each as one function of the arrays it reads. -/

noncomputable section
namespace Cert.S5
open Idealize.ShloMosaic Idealize.ShloMosaic.TcCoe Cert.KernelIdeal Cert.KernelIdeal.Gen

set_option maxRecDepth 16384

variable (V : (c : Dev nD) → (b : Ref sig .tc) → Buf (Elt Ideal) ((c : Thread nD τ).loc b)) (c : Dev nD)

/-- All frames in the groups' layout. -/
def toGroups (X : S256x64x1024.Idx → EReal) : S64x1024x256.Idx → EReal :=
  fun y => X (ix3 (y 2) ⟨(y 1).val / 16, by have := (y 1).isLt; change _ < 1024 at this; omega⟩
    ⟨16 * (y 0).val + (y 1).val % 16, by have := (y 0).isLt; change _ < 64 at this; omega⟩)

/-- The groups' layout as frames. -/
def ofGroups (Y : S64x1024x256.Idx → EReal) : S256x64x1024.Idx → EReal :=
  fun y => Y (ix3 ⟨(y 2).val / 16, by have := (y 2).isLt; change _ < 1024 at this; omega⟩
    ⟨16 * (y 1).val + (y 2).val % 16, by have := (y 1).isLt; change _ < 64 at this; omega⟩ (y 0))

theorem idx0 : ∀ t : Fin grid0.N, win0_1.index t 0 = 0 ∧ win0_1.index t 1 = win0_0.index t 1 ∧ win0_1.index t 2 = win0_0.index t 0 ∧ win0_0.index t 2 = 0 := by
  decide +kernel
theorem pts0 : ∀ (a : Fin 8) (b : Fin 2), ∃ t : Fin grid0.N, win0_1.index t 1 = a.val ∧ win0_1.index t 2 = b.val := by decide +kernel
theorem flush0 : ∀ t : Fin grid0.N, win0_1.flush t = true := by decide +kernel

theorem arr0 : (dat0 V c).arrAt 1 cfg0.N = toGroups (V c main_v2) := by
  refine (dat0 V c).arrAt_eq_of_cover 1 (toGroups (V c main_v2)) (fun t _ => ?_) (fun i => ?_)
  · show (cfg0.win 1).cut (grid0.coords t) ((dat0 V c).after 1 t) = _
    rw [after0_1, out_in]
    funext y
    have hy1 := (y 1).isLt
    change _ < 128 at hy1
    have e := win0_1.rect_emb_val t y
    have e' := win0_0.rect_emb_val t (ix3 (y 2) ⟨(y 1).val / 16, by omega⟩
      ⟨16 * (y 0).val + (y 1).val % 16, by have := (y 0).isLt; change _ < 64 at this; omega⟩)
    obtain ⟨i0, i1, i2, i3⟩ := idx0 t
    refine congrArg (V c main_v2 : S256x64x1024.Idx → EReal) (funext fun a => Fin.ext ?_)
    have e0 := e 0; have e1 := e 1; have e2 := e 2
    refine (e' a).trans ?_
    match a with
    | ⟨0, _⟩ =>
      refine Eq.trans ?_ e2.symm
      show win0_0.index t 0 * 128 + (y 2).val = win0_1.index t 2 * 128 + (y 2).val
      rw [i2]
    | ⟨1, _⟩ =>
      show win0_0.index t 1 * 8 + (y 1).val / 16 = ((win0_1.rect t).emb y 1).val / 16
      rw [e1]
      show _ = (win0_1.index t 1 * 128 + (y 1).val) / 16
      rw [i1]; omega
    | ⟨2, _⟩ =>
      show win0_0.index t 2 * 1024 + (16 * (y 0).val + (y 1).val % 16) = 16 * ((win0_1.rect t).emb y 0).val + ((win0_1.rect t).emb y 1).val % 16
      rw [e0, e1]
      show _ = 16 * (win0_1.index t 0 * 64 + (y 0).val) + (win0_1.index t 1 * 128 + (y 1).val) % 16
      rw [i0, i3]; omega
  · have h1 := (i 1).isLt
    change _ < 1024 at h1
    have h2 := (i 2).isLt
    change _ < 256 at h2
    obtain ⟨t, p1, p2⟩ := pts0 ⟨(i 1).val / 128, by omega⟩ ⟨(i 2).val / 128, by omega⟩
    refine ⟨t, flush0 t, ?_⟩
    have e := win0_1.rect_emb_val t (ix3 (i 0) ⟨(i 1).val % 128, by omega⟩ ⟨(i 2).val % 128, by omega⟩)
    have hi : i = (win0_1.rect t).emb (ix3 (i 0) ⟨(i 1).val % 128, by omega⟩ ⟨(i 2).val % 128, by omega⟩) := by
      funext a
      refine Fin.ext (Eq.trans ?_ (e a).symm)
      match a with
      | ⟨0, _⟩ => show (i 0).val = win0_1.index t 0 * 64 + (i 0).val; rw [(idx0 t).1]; omega
      | ⟨1, _⟩ => show (i 1).val = win0_1.index t 1 * 128 + (i 1).val % 128; rw [p1]; show _ = (i 1).val / 128 * 128 + _; omega
      | ⟨2, _⟩ => show (i 2).val = win0_1.index t 2 * 128 + (i 2).val % 128; rw [p2]; show _ = (i 2).val / 128 * 128 + _; omega
    rw [hi]
    exact ((cfg0.win 1).blk t).view.emb_mem_set _

theorem idx2 : ∀ t : Fin grid2.N, win2_0.index t 0 = 0 ∧ win2_1.index t 1 = win2_0.index t 1 ∧ win2_1.index t 0 = win2_0.index t 2 ∧ win2_1.index t 2 = 0 := by
  decide +kernel
theorem pts2 : ∀ (a : Fin 2) (b : Fin 8), ∃ t : Fin grid2.N, win2_1.index t 0 = a.val ∧ win2_1.index t 1 = b.val := by decide +kernel
theorem flush2 : ∀ t : Fin grid2.N, win2_1.flush t = true := by decide +kernel

theorem arr2 : (dat2 V c).arrAt 1 cfg2.N = ofGroups (V c main_v7) := by
  refine (dat2 V c).arrAt_eq_of_cover 1 (ofGroups (V c main_v7)) (fun t _ => ?_) (fun i => ?_)
  · show (cfg2.win 1).cut (grid2.coords t) ((dat2 V c).after 1 t) = _
    rw [after2_1, out_out]
    funext y
    have hy1 := (y 1).isLt
    change _ < 8 at hy1
    have hy2 := (y 2).isLt
    change _ < 1024 at hy2
    have e := win2_1.rect_emb_val t y
    have e' := win2_0.rect_emb_val t (ix3 ⟨(y 2).val / 16, by omega⟩ ⟨16 * (y 1).val + (y 2).val % 16, by omega⟩ (y 0))
    obtain ⟨i0, i1, i2, i3⟩ := idx2 t
    refine congrArg (V c main_v7 : S64x1024x256.Idx → EReal) (funext fun a => Fin.ext ?_)
    have e0 := e 0; have e1 := e 1; have e2 := e 2
    refine (e' a).trans ?_
    match a with
    | ⟨0, _⟩ =>
      show win2_0.index t 0 * 64 + (y 2).val / 16 = ((win2_1.rect t).emb y 2).val / 16
      rw [e2]
      show _ = (win2_1.index t 2 * 1024 + (y 2).val) / 16
      rw [i0, i3]; omega
    | ⟨1, _⟩ =>
      show win2_0.index t 1 * 128 + (16 * (y 1).val + (y 2).val % 16) = 16 * ((win2_1.rect t).emb y 1).val + ((win2_1.rect t).emb y 2).val % 16
      rw [e1, e2]
      show _ = 16 * (win2_1.index t 1 * 8 + (y 1).val) + (win2_1.index t 2 * 1024 + (y 2).val) % 16
      rw [i1, i3]; omega
    | ⟨2, _⟩ =>
      refine Eq.trans ?_ e0.symm
      show win2_0.index t 2 * 128 + (y 0).val = win2_1.index t 0 * 128 + (y 0).val
      rw [i2]
  · have h1 := (i 1).isLt
    change _ < 64 at h1
    have h0 := (i 0).isLt
    change _ < 256 at h0
    obtain ⟨t, p1, p2⟩ := pts2 ⟨(i 0).val / 128, by omega⟩ ⟨(i 1).val / 8, by omega⟩
    refine ⟨t, flush2 t, ?_⟩
    have e := win2_1.rect_emb_val t (ix3 ⟨(i 0).val % 128, by omega⟩ ⟨(i 1).val % 8, by omega⟩ (i 2))
    have hi : i = (win2_1.rect t).emb (ix3 ⟨(i 0).val % 128, by omega⟩ ⟨(i 1).val % 8, by omega⟩ (i 2)) := by
      funext a
      refine Fin.ext (Eq.trans ?_ (e a).symm)
      match a with
      | ⟨0, _⟩ => show (i 0).val = win2_1.index t 0 * 128 + (i 0).val % 128; rw [p1]; show _ = (i 0).val / 128 * 128 + _; omega
      | ⟨1, _⟩ => show (i 1).val = win2_1.index t 1 * 8 + (i 1).val % 8; rw [p2]; show _ = (i 1).val / 8 * 8 + _; omega
      | ⟨2, _⟩ => show (i 2).val = win2_1.index t 2 * 1024 + (i 2).val; rw [(idx2 t).2.2.2]; omega
    rw [hi]
    exact ((cfg2.win 1).blk t).view.emb_mem_set _

end Cert.S5
-- ==== Proof.Region1.lean ====
module

public import proofs.«01_k».proof.Proof.Regions

@[expose] public section

/-! The array the chunk kernel leaves, and the blocks it reads: point `t` takes groups `2 t` and `2 t + 1`. -/

noncomputable section
namespace Cert.S5
open Idealize.ShloMosaic Idealize.ShloMosaic.TcCoe Cert.KernelIdeal Cert.KernelIdeal.Gen

set_option maxRecDepth 16384

variable (V : (c : Dev nD) → (b : Ref sig .tc) → Buf (Elt Ideal) ((c : Thread nD τ).loc b)) (c : Dev nD)

/-- The chunk kernel's run at point `t`. -/
def envOf (t : Fin cfg1.N) : Env Ideal :=
  { c := c, i := grid1.coords t,
    m1 := ms1_0 t, h1 := hs1_0 t, m2 := ms1_1 t, h2 := hs1_1 t, m3 := ms1_2 t, h3 := hs1_2 t, m4 := ms1_3 t, h4 := hs1_3 t,
    m5 := ms1_4 t, h5 := hs1_4 t, m6 := ms1_5 t, h6 := hs1_5 t, m7 := ms1_6 t, h7 := hs1_6 t, m8 := ms1_7 t, h8 := hs1_7 t,
    m9 := ms1_8 t, h9 := hs1_8 t, m10 := ms1_9 t, h10 := hs1_9 t, m11 := ms1_10 t, h11 := hs1_10 t,
    m12 := scM1_0, h12 := Memref.isWhole_whole _, m13 := scM1_1, h13 := Memref.isWhole_whole _,
    m14 := scM1_2, h14 := Memref.isWhole_whole _, m15 := scM1_3, h15 := Memref.isWhole_whole _,
    x0 := iblk1 V c 0 t, x1 := iblk1 V c 1 t, x2 := iblk1 V c 2 t, x3 := iblk1 V c 3 t, x4 := iblk1 V c 4 t,
    x5 := iblk1 V c 5 t, x6 := iblk1 V c 6 t, x7 := iblk1 V c 7 t, x8 := iblk1 V c 8 t, x9 := iblk1 V c 9 t }

theorem outs_eq (t : Fin cfg1.N) : outsAt1 V c t = outE (envOf V c t) := rfl

theorem idx1 : ∀ t : Fin grid1.N, win1_0.index t = ![t.val, 0, 0] ∧ win1_1.index t = ![t.val, 0, 0] ∧ win1_2.index t = ![t.val, 0, 0]
    ∧ win1_3.index t = ![t.val, 0, 0] ∧ win1_4.index t = ![t.val, 0, 0] ∧ win1_5.index t = ![t.val, 0, 0] ∧ win1_6.index t = ![t.val, 0, 0]
    ∧ win1_7.index t = ![t.val, 0, 0] ∧ win1_8.index t = ![t.val, 0, 0] ∧ win1_9.index t = ![t.val, 0, 0] ∧ win1_10.index t = ![t.val, 0, 0] := by
  decide +kernel
theorem flush1 : ∀ t : Fin grid1.N, win1_10.flush t = true := by decide +kernel

/-- Group `g` of point `t`, among all groups. -/
def gOf (t : Fin 32) (g : Fin 2) : Fin 64 := ⟨2 * t.val + g.val, by omega⟩

/-- Where an element of a block of two groups lies. -/
theorem at3 {A B : ℕ} (t : Fin 32) (idx : Fin 3 → ℕ) (h : idx = ![t.val, 0, 0]) (g : Fin 2) (a : Fin A) (b : Fin B) (k : Fin 3) :
    idx k * (![2, A, B] : Fin 3 → ℕ) k + (ix3 g a b k).val = (ix3 (gOf t g) a b k).val := by
  subst h
  match k with
  | ⟨0, _⟩ => show t.val * 2 + g.val = 2 * t.val + g.val; omega
  | ⟨1, _⟩ => show 0 * A + a.val = a.val; omega
  | ⟨2, _⟩ => show 0 * B + b.val = b.val; omega

variable (t : Fin 32) (g : Fin 2)

theorem x0_at (a : Fin 64) (b : Fin 1) : ((envOf V c t).x0 (ix3 g a b) : EReal) = V c main_v4 (ix3 (gOf t g) a b) :=
  congrArg (V c main_v4) (funext fun k => Fin.ext ((win1_0.rect_emb_val t (ix3 g a b) k).trans (at3 t _ (idx1 t).1 g a b k)))
theorem x1_at (a : Fin 64) (b : Fin 1) : ((envOf V c t).x1 (ix3 g a b) : EReal) = V c main_v5 (ix3 (gOf t g) a b) :=
  congrArg (V c main_v5) (funext fun k => Fin.ext ((win1_1.rect_emb_val t (ix3 g a b) k).trans (at3 t _ (idx1 t).2.1 g a b k)))
theorem x2_at (a b : Fin 1) : ((envOf V c t).x2 (ix3 g a b) : EReal) = V c main_v6 (ix3 (gOf t g) a b) :=
  congrArg (V c main_v6) (funext fun k => Fin.ext ((win1_2.rect_emb_val t (ix3 g a b) k).trans (at3 t _ (idx1 t).2.2.1 g a b k)))
theorem x3_at (a : Fin 64) (b : Fin 16) : ((envOf V c t).x3 (ix3 g a b) : EReal) = V c main_v0 (ix3 (gOf t g) a b) :=
  congrArg (V c main_v0) (funext fun k => Fin.ext ((win1_3.rect_emb_val t (ix3 g a b) k).trans (at3 t _ (idx1 t).2.2.2.1 g a b k)))
theorem x4_at (a : Fin 64) (b : Fin 16) : ((envOf V c t).x4 (ix3 g a b) : EReal) = V c main_v1 (ix3 (gOf t g) a b) :=
  congrArg (V c main_v1) (funext fun k => Fin.ext ((win1_4.rect_emb_val t (ix3 g a b) k).trans (at3 t _ (idx1 t).2.2.2.2.1 g a b k)))
theorem x5_at (a : Fin 64) (b : Fin 16) : ((envOf V c t).x5 (ix3 g a b) : EReal) = V c main_arg3 (ix3 (gOf t g) a b) :=
  congrArg (V c main_arg3) (funext fun k => Fin.ext ((win1_5.rect_emb_val t (ix3 g a b) k).trans (at3 t _ (idx1 t).2.2.2.2.2.1 g a b k)))
theorem x6_at (a : Fin 64) (b : Fin 16) : ((envOf V c t).x6 (ix3 g a b) : EReal) = V c main_arg4 (ix3 (gOf t g) a b) :=
  congrArg (V c main_arg4) (funext fun k => Fin.ext ((win1_6.rect_emb_val t (ix3 g a b) k).trans (at3 t _ (idx1 t).2.2.2.2.2.2.1 g a b k)))
theorem x7_at (a : Fin 16) (b : Fin 64) : ((envOf V c t).x7 (ix3 g a b) : EReal) = V c main_arg5 (ix3 (gOf t g) a b) :=
  congrArg (V c main_arg5) (funext fun k => Fin.ext ((win1_7.rect_emb_val t (ix3 g a b) k).trans (at3 t _ (idx1 t).2.2.2.2.2.2.2.1 g a b k)))
theorem x8_at (a : Fin 16) (b : Fin 64) : ((envOf V c t).x8 (ix3 g a b) : EReal) = V c main_arg6 (ix3 (gOf t g) a b) :=
  congrArg (V c main_arg6) (funext fun k => Fin.ext ((win1_8.rect_emb_val t (ix3 g a b) k).trans (at3 t _ (idx1 t).2.2.2.2.2.2.2.2.1 g a b k)))
theorem x9_at (a : Fin 1024) (b : Fin 256) : ((envOf V c t).x9 (ix3 g a b) : EReal) = V c main_v3 (ix3 (gOf t g) a b) :=
  congrArg (V c main_v3) (funext fun k => Fin.ext ((win1_9.rect_emb_val t (ix3 g a b) k).trans (at3 t _ (idx1 t).2.2.2.2.2.2.2.2.2.1 g a b k)))

/-- The array of every group's outputs. -/
def groups : S64x1024x256.Idx → EReal := fun y =>
  yg (envOf V c (⟨(y 0).val / 2, by have := (y 0).isLt; change _ < 64 at this; omega⟩ : Fin 32)) ⟨(y 0).val % 2, by omega⟩ (ix3 0 (y 1) (y 2))

theorem arr1 : (dat1 V c).arrAt 10 cfg1.N = groups V c := by
  refine (dat1 V c).arrAt_eq_of_cover 10 (groups V c) (fun (t : Fin 32) _ => ?_) (fun i => ?_)
  · show (cfg1.win 10).cut (grid1.coords t) ((dat1 V c).after 10 t) = _
    refine (congrArg ((cfg1.win 10).cut (grid1.coords t)) ((after1_10 V c t).trans ((outs_eq V c t).trans (outE_eq _)))).trans ?_
    funext y
    obtain ⟨g, a, b, rfl⟩ : ∃ (g : Fin 2) (a : Fin 1024) (b : Fin 256), y = ix3 g a b := ⟨y 0, y 1, y 2, by funext a; fin_cases a <;> rfl⟩
    show _ = groups V c ((win1_10.rect t).emb (ix3 g a b))
    have e : (win1_10.rect t).emb (ix3 g a b) = ix3 (gOf t g) a b :=
      funext fun k => Fin.ext ((win1_10.rect_emb_val t (ix3 g a b) k).trans (at3 t _ (idx1 t).2.2.2.2.2.2.2.2.2.2 g a b k))
    rw [e]
    show yg (envOf V c t) g (ix3 0 a b) = yg (envOf V c (⟨(2 * t.val + g.val) / 2, _⟩ : Fin 32)) ⟨(2 * t.val + g.val) % 2, _⟩ (ix3 0 a b)
    have h1 : (⟨(2 * t.val + g.val) / 2, by omega⟩ : Fin 32) = t := Fin.ext (by show (2 * t.val + g.val) / 2 = t.val; omega)
    have h2 : (⟨(2 * t.val + g.val) % 2, by omega⟩ : Fin 2) = g := Fin.ext (by show (2 * t.val + g.val) % 2 = g.val; omega)
    rw [h1, h2]
  · have h0 := (i 0).isLt
    change _ < 64 at h0
    obtain ⟨t, ht⟩ : ∃ t : Fin 32, t.val = (i 0).val / 2 := ⟨⟨(i 0).val / 2, by omega⟩, rfl⟩
    obtain ⟨g, hg⟩ : ∃ g : Fin 2, g.val = (i 0).val % 2 := ⟨⟨(i 0).val % 2, by omega⟩, rfl⟩
    have hi : i = (win1_10.rect t).emb (ix3 g (i 1) (i 2)) := by
      funext k
      refine Fin.ext (Eq.trans ?_ ((win1_10.rect_emb_val _ _ k).trans (at3 _ _ (idx1 _).2.2.2.2.2.2.2.2.2.2 _ (i 1) (i 2) k)).symm)
      match k with
      | ⟨0, _⟩ => show (i 0).val = 2 * t.val + g.val; omega
      | ⟨1, _⟩ => rfl
      | ⟨2, _⟩ => rfl
    refine ⟨t, flush1 t, ?_⟩
    rw [hi]
    exact ((cfg1.win 10).blk t).view.emb_mem_set _

end Cert.S5
-- ==== Proof.Meaning.lean ====
module

public import proofs.«01_k».proof.Proof.Mirror
public import Idealize.ShloMosaic.Lib.Pointwise

@[expose] public section

/-! What the chunk kernel's matrices hold when the operations are exact: complex vectors read as complex numbers. -/

noncomputable section
namespace Cert.S5
open Idealize.ShloMosaic Cert.KernelIdeal Cert.KernelIdeal.Gen

/-- A vector holds the real numbers `f`. -/
def IsR {s : Shape} {φ : FTy} (v : FVec Ideal s φ) (f : s.Idx → ℝ) : Prop := ∀ i, v i = ((f i : ℝ) : EReal)

/-- A complex vector holds the complex numbers `f`. -/
def IsC {s : Shape} (a : CV Ideal s) (f : s.Idx → ℂ) : Prop := (∀ i, a.1 i = (((f i).re : ℝ) : EReal)) ∧ ∀ i, a.2 i = (((f i).im : ℝ) : EReal)

/-- The value of a finite sum of reals. -/
theorem coe_sum {ι : Type} [Fintype ι] (f : ι → ℝ) : ((∑ i, f i : ℝ) : EReal) = ∑ i, ((f i : ℝ) : EReal) :=
  map_sum (⟨⟨Real.toEReal, EReal.coe_zero⟩, EReal.coe_add⟩ : ℝ →+ EReal) f Finset.univ

theorem IsC.congr {s : Shape} {a : CV Ideal s} {f g : s.Idx → ℂ} (h : IsC a f) (e : ∀ i, f i = g i) : IsC a g := by
  rwa [← funext e]

theorem IsR.congr {s : Shape} {φ : FTy} {a : FVec Ideal s φ} {f g : s.Idx → ℝ} (h : IsR a f) (e : ∀ i, f i = g i) : IsR a g := by
  rwa [← funext e]

theorem IsC.cm {s : Shape} {a b : CV Ideal s} {f g : s.Idx → ℂ} (ha : IsC a f) (hb : IsC b g) : IsC (cm a b) (fun i => f i * g i) := by
  refine ⟨fun i => ?_, fun i => ?_⟩
  · show a.1 i * b.1 i - a.2 i * b.2 i = _
    rw [ha.1 i, hb.1 i, ha.2 i, hb.2 i, Complex.mul_re]
    norm_cast
  · show a.1 i * b.2 i + a.2 i * b.1 i = _
    rw [ha.1 i, hb.1 i, ha.2 i, hb.2 i, Complex.mul_im]
    norm_cast

theorem IsC.sq {s : Shape} {a : CV Ideal s} {f : s.Idx → ℂ} (ha : IsC a f) : IsC (sq a) (fun i => f i ^ 2) :=
  (ha.cm ha).congr fun _ => (pow_two _).symm

theorem IsC.bl {a : CV Ideal S64x1} {f : Fin 64 → ℂ} (ha : IsC a (fun i => f (i 0))) : IsC (bl a) (fun i => f (i 0)) := by
  refine ⟨fun i => ?_, fun i => ?_⟩
  · unfold Cert.S5.bl; pointwise; exact ha.1 _
  · unfold Cert.S5.bl; pointwise; exact ha.2 _

theorem IsC.sel {s : Shape} (m : IVec s 1) {a b : CV Ideal s} {f g : s.Idx → ℂ} (ha : IsC a f) (hb : IsC b g) :
    IsC (sel m a b) (fun i => if m i = 1#1 then f i else g i) := by
  refine ⟨fun i => ?_, fun i => ?_⟩
  · show (if m i = 1#1 then a.1 i else b.1 i) = (((if m i = 1#1 then f i else g i : ℂ).re : ℝ) : EReal)
    by_cases h : m i = 1#1
    · rw [if_pos h, if_pos h]; exact ha.1 i
    · rw [if_neg h, if_neg h]; exact hb.1 i
  · show (if m i = 1#1 then a.2 i else b.2 i) = (((if m i = 1#1 then f i else g i : ℂ).im : ℝ) : EReal)
    by_cases h : m i = 1#1
    · rw [if_pos h, if_pos h]; exact ha.2 i
    · rw [if_neg h, if_neg h]; exact hb.2 i

theorem isC_one (s : Shape) : IsC (one s) (fun _ => 1) := by
  refine ⟨fun i => ?_, fun i => ?_⟩
  · show Ideal.ofBits .f32 0x3F800000#32 = _
    simp
  · show Ideal.ofBits .f32 0x00000000#32 = _
    simp

theorem IsC.bstep (m : IVec S64x128 1) {p : CV Ideal S64x128} {s : CV Ideal S64x1} {P : S64x128.Idx → ℂ} {f : Fin 64 → ℂ} (hp : IsC p P)
    (hs : IsC s (fun i => f (i 0))) : IsC (bstep m p s) (fun i => if m i = 1#1 then P i * f (i 0) else P i) :=
  IsC.sel m (hp.cm hs.bl) hp

/-- The powers read off three binary digits. -/
theorem IsC.inner (e : IVec S64x128 32) (n : S64x128.Idx → ℕ) (hn : ∀ i, n i < 8)
    (he : ∀ i, e i = BitVec.ofNat 32 (n i)) {a : CV Ideal S64x1} {f : Fin 64 → ℂ} (ha : IsC a (fun i => f (i 0))) :
    IsC (inner e a) (fun i => f (i 0) ^ n i) := by
  have h := ((((isC_one S64x128).bstep (digit e 0#32) ha).bstep (digit e 1#32) (f := fun p => f p ^ 2) ha.sq).bstep (digit e 2#32)
    (f := fun p => (f p ^ 2) ^ 2) (IsC.sq ha.sq))
  refine h.congr fun i => ?_
  have d : ∀ (k : Fin 8) (b : Fin 3), digit (broadcast S64x128 (BitVec.ofNat 32 k.val)) (BitVec.ofNat 32 b.val) i
      = if k.val.testBit b.val then 1#1 else 0#1 := fun k b => by
    have h : ∀ (k : Fin 8) (b : Fin 3), digit (broadcast S64x128 (BitVec.ofNat 32 k.val)) (BitVec.ofNat 32 b.val) (ix2 0 0)
      = if k.val.testBit b.val then 1#1 else 0#1 := by decide +kernel
    exact h k b
  have d' : ∀ b : Fin 3, digit e (BitVec.ofNat 32 b.val) i = if (n i).testBit b.val then 1#1 else 0#1 := fun b => by
    refine Eq.trans ?_ (d ⟨n i, hn i⟩ b)
    show digit (broadcast S64x128 (e i)) _ i = _
    rw [he i]
  rw [show digit e 0#32 i = _ from d' 0, show digit e 1#32 i = _ from d' 1, show digit e 2#32 i = _ from d' 2]
  have := hn i
  generalize n i = k at this ⊢
  interval_cases k <;> simp [Nat.testBit] <;> ring

/-- The lane's frame number within a tile. -/
theorem lane_at (i : S64x128.Idx) : lane i = BitVec.ofNat 32 ((i 1).val / 16) := by
  have h : ∀ l : Fin 128, lane (ix2 0 l) = BitVec.ofNat 32 (l.val / 16) := by decide +kernel
  exact h (i 1)

/-- The reversed frame number within a tile. -/
theorem lane_rev (i : S64x128.Idx) : (subi (broadcast S64x128 7#32) lane) i = BitVec.ofNat 32 (7 - (i 1).val / 16) := by
  have h : ∀ l : Fin 128, 7#32 - BitVec.ofNat 32 (l.val / 16) = BitVec.ofNat 32 (7 - l.val / 16) := by decide +kernel
  show 7#32 - lane i = _
  rw [lane_at]
  exact h (i 1)

theorem IsC.eighth {a : CV Ideal S64x1} {f : S64x1.Idx → ℂ} (ha : IsC a f) : IsC (eighth a) (fun i => f i ^ 8) :=
  (IsC.cm (IsC.cm (ha.cm ha) (ha.cm ha)) (IsC.cm (ha.cm ha) (ha.cm ha))).congr fun i => by ring

theorem IsC.outer {q s : CV Ideal S64x1} {f g : S64x1.Idx → ℂ} (hq : IsC q f) (hs : IsC s g) : ∀ k, IsC (outer q s k) (fun i => g i * f i ^ k)
  | 0 => hs.congr fun i => by ring
  | k + 1 => ((IsC.outer hq hs k).cm hq).congr fun i => by ring

/-- Eight tiles side by side, at a lane. -/
theorem tiles_at (t : ℕ → FVec Ideal S64x128 .f32) (p : Fin 64) (l : Fin 1024) :
    tiles t (ix2 p l) = t (l.val / 128) (ix2 p ⟨l.val % 128, Nat.mod_lt _ (by norm_num)⟩) := by
  have hl := l.isLt
  unfold tiles
  pointwise
  generalize hq : l.val / 128 = q
  have hq' : q < 8 := by omega
  interval_cases q
  all_goals
    (repeat rw [dif_neg (by omega)]) <;> (try rw [dif_pos (by omega)]) <;> (congr 2; exact Fin.ext (by simp only []; omega))

end Cert.S5
-- ==== Proof.Matrices.lean ====
module

public import proofs.«01_k».proof.Proof.Meaning

@[expose] public section

/-! The chunk kernel's matrices, entry by entry, as numbers. -/

noncomputable section
namespace Cert.S5
open Idealize.ShloMosaic Cert.KernelIdeal Cert.KernelIdeal.Gen

/-- The discretised eigenvalue. -/
def lamBar (lr li ls : ℝ) : ℂ :=
  ⟨Real.exp (lr * Real.exp ls) * Real.cos (li * Real.exp ls), Real.exp (lr * Real.exp ls) * Real.sin (li * Real.exp ls)⟩

/-- The input factor. -/
def zoh (lr li ls : ℝ) : ℂ :=
  ⟨(((lamBar lr li ls).re - 1) * lr + (lamBar lr li ls).im * li) / (lr * lr + li * li),
   ((lamBar lr li ls).im * lr - ((lamBar lr li ls).re - 1) * li) / (lr * lr + li * li)⟩

theorem div_real (x y : ℝ) (h : y ≠ 0) : Ideal.div (x : EReal) (y : EReal) = ((x / y : ℝ) : EReal) := by
  rw [Ideal.div_coe h, ← EReal.coe_mul, mul_one_div]

section
variable {dt : FVec Ideal S1x1x1 .f32} {lr li : FVec Ideal S1x64x1 .f32} {LS : ℝ} {LR LI : Fin 64 → ℝ}
  (hdt : dt (ix3 0 0 0) = (LS : EReal)) (hlr : ∀ p, lr (ix3 0 p 0) = (LR p : EReal)) (hli : ∀ p, li (ix3 0 p 0) = (LI p : EReal))
include hdt hlr hli

theorem isC_abar : IsC (abar dt lr li) (fun i => lamBar (LR (i 0)) (LI (i 0)) LS) := by
  refine ⟨fun i => ?_, fun i => ?_⟩ <;>
  · idx_vars i
    unfold abar lamBar
    unfold_payloads
    pointwise
    rw [hdt, hlr, hli]
    rfl

theorem isC_zohf (h0 : ∀ p, LR p * LR p + LI p * LI p ≠ 0) : IsC (zohf dt lr li) (fun i => zoh (LR (i 0)) (LI (i 0)) LS) := by
  refine ⟨fun i => ?_, fun i => ?_⟩
  · obtain ⟨i0, rfl⟩ : ∃ p : Fin 64, i = ix2 p 0 := ⟨i 0, by rw [eq_ix2 i]; congr 1; exact Subsingleton.elim (α := Fin 1) _ _⟩
    unfold zohf
    unfold_payloads
    pointwise
    rw [hdt, hlr, hli]
    exact (div_real ((((lamBar (LR i0) (LI i0) LS).re - 1) * LR i0 + (lamBar (LR i0) (LI i0) LS).im * LI i0)) _ (h0 i0))
  · obtain ⟨i0, rfl⟩ : ∃ p : Fin 64, i = ix2 p 0 := ⟨i 0, by rw [eq_ix2 i]; congr 1; exact Subsingleton.elim (α := Fin 1) _ _⟩
    unfold zohf
    unfold_payloads
    pointwise
    rw [hdt, hlr, hli]
    exact (div_real ((((lamBar (LR i0) (LI i0) LS).im) * LR i0 - ((lamBar (LR i0) (LI i0) LS).re - 1) * LI i0)) _ (h0 i0))
end

theorem IsC.tiles {t : ℕ → CV Ideal S64x128} {T : ℕ → S64x128.Idx → ℂ} (h : ∀ k, IsC (t k) (T k)) :
    IsC (s := S64x1024) (tiles fun k => (t k).1, tiles fun k => (t k).2)
      (fun i => T ((i 1).val / 128) (ix2 (i 0) ⟨(i 1).val % 128, Nat.mod_lt _ (by norm_num)⟩)) := by
  refine ⟨fun i => ?_, fun i => ?_⟩
  · rw [eq_ix2 i]; exact (tiles_at (fun k => (t k).1) (i 0) (i 1)).trans ((h _).1 _)
  · rw [eq_ix2 i]; exact (tiles_at (fun k => (t k).2) (i 0) (i 1)).trans ((h _).2 _)

/-- The powers by frame. -/
theorem IsC.fwd {a : CV Ideal S64x1} {f : Fin 64 → ℂ} (ha : IsC a (fun i => f (i 0))) :
    IsC (fwd a) (fun i => f (i 0) ^ ((i 1).val / 16 + 1)) := by
  have hi := ha.inner lane (fun i => (i 1).val / 16) (fun i => by have := (i 1).isLt; change _ < 128 at this; omega) lane_at
  refine (IsC.tiles fun k => hi.cm (IsC.bl (f := fun p => f p * (f p ^ 8) ^ k) (IsC.outer ha.eighth ha k))).congr fun i => ?_
  have := (i 1).isLt
  change _ < 1024 at this
  show f (i 0) ^ ((i 1).val % 128 / 16) * (f (i 0) * (f (i 0) ^ 8) ^ ((i 1).val / 128)) = _
  rw [← pow_mul, ← pow_succ', ← pow_add]
  congr 1
  omega

/-- The powers by frame from the chunk's end. -/
theorem IsC.bwd {a : CV Ideal S64x1} {f : Fin 64 → ℂ} (ha : IsC a (fun i => f (i 0))) :
    IsC (bwd a) (fun i => f (i 0) ^ (63 - (i 1).val / 16)) := by
  have hi := ha.inner (subi (broadcast S64x128 7#32) lane) (fun i => 7 - (i 1).val / 16) (fun i => by omega) lane_rev
  refine (IsC.tiles fun k => hi.cm (IsC.bl (f := fun p => 1 * (f p ^ 8) ^ (7 - k)) (IsC.outer ha.eighth (isC_one _) (7 - k)))).congr fun i => ?_
  have := (i 1).isLt
  change _ < 1024 at this
  show f (i 0) ^ (7 - (i 1).val % 128 / 16) * (1 * (f (i 0) ^ 8) ^ (7 - (i 1).val / 128)) = _
  rw [one_mul, ← pow_mul, ← pow_add]
  congr 1
  omega

theorem flat_at (a : FVec Ideal S1x64x16 .f32) (p : Fin 64) (h : Fin 16) : flat a (ix2 p h) = a (ix3 0 p h) := by
  unfold flat
  pointwise

/-- The discretised input matrix. -/
theorem isC_bbar {f : CV Ideal S64x1} {br bi : FVec Ideal S1x64x16 .f32} {fz : Fin 64 → ℂ} {B : Fin 64 → Fin 16 → ℂ}
    (hf : IsC f (fun i => fz (i 0))) (hr : ∀ p h, br (ix3 0 p h) = ((B p h).re : EReal)) (hi : ∀ p h, bi (ix3 0 p h) = ((B p h).im : EReal)) :
    IsC (bbar f br bi) (fun i => B (i 0) (i 1) * fz (i 0)) := by
  have hb : IsC (s := S64x16) (flat br, flat bi) (fun i => B (i 0) (i 1)) :=
    ⟨fun i => by rw [eq_ix2 i]; exact (flat_at _ _ _).trans (hr _ _), fun i => by rw [eq_ix2 i]; exact (flat_at _ _ _).trans (hi _ _)⟩
  refine hb.cm (g := fun i => fz (i 0)) ⟨fun i => ?_, fun i => ?_⟩
  · pointwise; exact hf.1 _
  · pointwise; exact hf.2 _

/-- The matrix that picks a column. -/
theorem pick_at (k : Fin 16) (l : Fin 1024) : (k1_pay125 (F := Ideal)) (ix2 k l) = if k.val = l.val % 16 then (1 : EReal) else 0 := by
  have h1 : ∀ l : Fin 1024, Scalar.select (IntOp.andi
      (IntOp.xori (IntOp.cmpi CmpIPredicate.slt (IntOp.remsi ArithUnit.vector (BitVec.ofNat 32 l.val) (Scalar.select (Scalar.cmpi CmpIPredicate.eq 16#32 0#32) 1#32 16#32)) 0#32) (Scalar.cmpi CmpIPredicate.slt (Scalar.select (Scalar.cmpi CmpIPredicate.eq 16#32 0#32) 1#32 16#32) 0#32))
      (IntOp.cmpi CmpIPredicate.ne (IntOp.remsi ArithUnit.vector (BitVec.ofNat 32 l.val) (Scalar.select (Scalar.cmpi CmpIPredicate.eq 16#32 0#32) 1#32 16#32)) 0#32)) (IntOp.addi (IntOp.remsi ArithUnit.vector (BitVec.ofNat 32 l.val) (Scalar.select (Scalar.cmpi CmpIPredicate.eq 16#32 0#32) 1#32 16#32)) (Scalar.select (Scalar.cmpi CmpIPredicate.eq 16#32 0#32) 1#32 16#32)) (IntOp.remsi ArithUnit.vector (BitVec.ofNat 32 l.val) (Scalar.select (Scalar.cmpi CmpIPredicate.eq 16#32 0#32) 1#32 16#32)) = BitVec.ofNat 32 (l.val % 16) := by decide +kernel
  have h2 : ∀ k m : Fin 16, BitVec.setWidth 32 (IntOp.cmpi CmpIPredicate.eq (BitVec.ofNat 32 m.val) (BitVec.ofNat 32 k.val))
      = if k.val = m.val then 1#32 else 0#32 := by decide +kernel
  unfold k1_pay125
  pointwise
  rw [h1 l]
  refine (congrArg (FloatOps.sitofp (F := Ideal) .f32) (h2 k ⟨l.val % 16, Nat.mod_lt _ (by norm_num)⟩)).trans ?_
  show FloatOps.sitofp (F := Ideal) .f32 (if k.val = l.val % 16 then 1#32 else 0#32) = _
  split
  · show (((1#32 : BitVec 32).toInt : ℝ) : EReal) = 1
    simp
  · show (((0#32 : BitVec 32).toInt : ℝ) : EReal) = 0
    simp

/-- A real number less itself. -/
theorem sub_self_real (r : ℝ) : (r : EReal) - (r : EReal) = 0 := by
  rw [← EReal.coe_sub, sub_self, EReal.coe_zero]

/-- A matrix repeated once per frame. -/
theorem spread_at {x : FVec Ideal S64x16 .f32} {f : Fin 64 → Fin 16 → ℝ} (hx : ∀ p h, x (ix2 p h) = (f p h : EReal)) (p : Fin 64) (l : Fin 1024) :
    spread x (ix2 p l) = (f p ⟨l.val % 16, Nat.mod_lt _ (by norm_num)⟩ : EReal) := by
  have key : ∀ g : Fin 16 → ℝ, (∑ k : Fin 16, ((g k : ℝ) : EReal) * (k1_pay125 (F := Ideal)) (ix2 k l)) = (g ⟨l.val % 16, Nat.mod_lt _ (by norm_num)⟩ : EReal) := fun g => by
    rw [Finset.sum_eq_single (⟨l.val % 16, Nat.mod_lt _ (by norm_num)⟩ : Fin 16)]
    · rw [pick_at, if_pos rfl, mul_one]
    · intro k _ hk
      rw [pick_at, if_neg (fun e => hk (Fin.ext e)), mul_zero]
    · exact fun h => absurd (Finset.mem_univ _) h
  unfold spread k1_pay135
  pointwise
  simp only [hx, sub_self_real]
  rw [key]
  simp only [zero_mul, sub_zero, Finset.sum_const_zero, add_zero]

theorem IsC.spread {x : CV Ideal S64x16} {f : Fin 64 → Fin 16 → ℂ} (hx : IsC x (fun i => f (i 0) (i 1))) :
    IsC (s := S64x1024) (spread x.1, spread x.2) (fun i => f (i 0) ⟨(i 1).val % 16, Nat.mod_lt _ (by norm_num)⟩) :=
  ⟨fun i => by rw [eq_ix2 i]; exact spread_at (fun p h => hx.1 (ix2 p h)) _ _,
   fun i => by rw [eq_ix2 i]; exact spread_at (fun p h => hx.2 (ix2 p h)) _ _⟩

/-- The input matrix with each frame's power. -/
theorem isC_inm {a f : CV Ideal S64x1} {br bi : FVec Ideal S1x64x16 .f32} {fa fz : Fin 64 → ℂ} {B : Fin 64 → Fin 16 → ℂ}
    (ha : IsC a (fun i => fa (i 0))) (hf : IsC f (fun i => fz (i 0)))
    (hr : ∀ p h, br (ix3 0 p h) = ((B p h).re : EReal)) (hi : ∀ p h, bi (ix3 0 p h) = ((B p h).im : EReal)) :
    IsC (inm a f br bi) (fun i => B (i 0) ⟨(i 1).val % 16, Nat.mod_lt _ (by norm_num)⟩ * fz (i 0) * fa (i 0) ^ (63 - (i 1).val / 16)) :=
  (IsC.spread (f := fun p h => B p h * fz p) (isC_bbar hf hr hi)).cm ha.bwd

theorem wbtHalf_at (x : FVec Ideal S64x1024 .f32) (p : Fin 64) (l : Fin 1024) : wbtHalf x (ix3 0 p l) = x (ix2 p l) := by
  unfold wbtHalf
  pointwise

/-- The output matrix: real parts, then the negated imaginary parts. -/
theorem wctm_at {a : CV Ideal S64x1} {cr ci : FVec Ideal S1x64x16 .f32} {fa : Fin 64 → ℂ} {C : Fin 64 → Fin 16 → ℂ}
    (ha : IsC a (fun i => fa (i 0)))
    (hr : ∀ p h, cr (ix3 0 p h) = ((C p h).re : EReal)) (hi : ∀ p h, ci (ix3 0 p h) = ((C p h).im : EReal)) (l : Fin 1024) (q : Fin 128) :
    wctm a cr ci (ix3 0 l q) = ((if h : q.val < 64 then (C ⟨q.val, h⟩ ⟨l.val % 16, Nat.mod_lt _ (by norm_num)⟩ * fa ⟨q.val, h⟩ ^ (l.val / 16 + 1)).re
      else -(C ⟨q.val - 64, by omega⟩ ⟨l.val % 16, Nat.mod_lt _ (by norm_num)⟩ * fa ⟨q.val - 64, by omega⟩ ^ (l.val / 16 + 1)).im : ℝ) : EReal) := by
  have hc : IsC (s := S64x16) (flat cr, flat ci) (fun i => C (i 0) (i 1)) :=
    ⟨fun i => by rw [eq_ix2 i]; exact (flat_at _ _ _).trans (hr _ _), fun i => by rw [eq_ix2 i]; exact (flat_at _ _ _).trans (hi _ _)⟩
  have hm := (IsC.spread hc).cm ha.fwd
  unfold wctm
  generalize cm (spread (flat cr), spread (flat ci)) (fwd a) = M at hm ⊢
  pointwise
  split
  · exact hm.1 _
  · rw [hm.2, zero_sub, ← EReal.coe_neg]
    rfl

/-- The power 64: real parts, then imaginary parts. -/
theorem a64m_at {a : CV Ideal S64x1} {fa : Fin 64 → ℂ} (ha : IsC a (fun i => fa (i 0))) (q : Fin 128) :
    a64m a (ix3 0 q 0) = ((if h : q.val < 64 then (fa ⟨q.val, h⟩ ^ 64).re else (fa ⟨q.val - 64, by omega⟩ ^ 64).im : ℝ) : EReal) := by
  have hm : IsC (sq (sq (sq (sq (sq (sq a)))))) (fun i => fa (i 0) ^ 64) :=
    (IsC.sq (IsC.sq (IsC.sq (IsC.sq (IsC.sq (IsC.sq ha)))))).congr fun i => by ring
  unfold a64m
  generalize sq (sq (sq (sq (sq (sq a))))) = M at hm ⊢
  pointwise
  split
  · exact hm.1 _
  · exact hm.2 _

theorem isC_a64r {a : CV Ideal S64x1} {fa : Fin 64 → ℂ} (ha : IsC a (fun i => fa (i 0))) : IsC (a64r (a64m a)) (fun i => fa (i 0) ^ 64) := by
  have hm := a64m_at ha
  refine ⟨fun i => ?_, fun i => ?_⟩
  · obtain ⟨i0, rfl⟩ : ∃ p : Fin 64, i = ix2 p 0 := ⟨i 0, by rw [eq_ix2 i]; congr 1; exact Subsingleton.elim (α := Fin 1) _ _⟩
    unfold a64r
    unfold_payloads
    pointwise
    rw [hm, dif_pos i0.isLt]
  · obtain ⟨i0, rfl⟩ : ∃ p : Fin 64, i = ix2 p 0 := ⟨i 0, by rw [eq_ix2 i]; congr 1; exact Subsingleton.elim (α := Fin 1) _ _⟩
    unfold a64r
    unfold_payloads
    pointwise
    rw [hm, dif_neg (by simp)]
    simp

/-- The impulse response: the real part of output times input. -/
theorem ext_at {ab : CV Ideal S64x1024} {cr ci : FVec Ideal S1x16x64 .f32} {M : Fin 64 → Fin 1024 → ℂ} {C : Fin 16 → Fin 64 → ℂ}
    (hm : IsC ab (fun i => M (i 0) (i 1)))
    (hr : ∀ h p, cr (ix3 0 h p) = ((C h p).re : EReal)) (hi : ∀ h p, ci (ix3 0 h p) = ((C h p).im : EReal)) (h : Fin 16) (l : Fin 2048) :
    ext ab cr ci (ix2 h l) = ((if hl : l.val < 1024 then ∑ p, (C h p * M p ⟨l.val, hl⟩).re else 0 : ℝ) : EReal) := by
  unfold ext
  unfold_payloads
  pointwise
  split
  · simp only [hr, hi, hm.1 _, hm.2 _, sub_self_real, zero_mul, mul_zero, Finset.sum_const_zero, add_zero]
    simp only [← EReal.coe_mul, ← coe_sum, ← EReal.coe_sub, ← Finset.sum_sub_distrib, ← Complex.mul_re]
    rfl
  · rfl

end Cert.S5
-- ==== Proof.Values.lean ====
module

public import proofs.«01_k».proof.Proof.Matrices
public import proofs.«01_k».proof.Proof.Blocks

@[expose] public section

/-! The chunk kernel's output over the reals. -/

noncomputable section
namespace Cert.S5
open Idealize.ShloMosaic Cert.KernelIdeal Cert.KernelIdeal.Gen

set_option maxRecDepth 16384

/-- A complex vector of states by chunk column holds `f`. -/
def IsS (x : CV Ideal S64x256) (f : Fin 64 → ℕ → ℂ) : Prop :=
  ∀ (p : Fin 64) (c : Fin 256), x.1 (ix2 p c) = (((f p c.val).re : ℝ) : EReal) ∧ x.2 (ix2 p c) = (((f p c.val).im : ℝ) : EReal)

/-- The first `n` terms of the prefix sum within a sequence. -/
def pre (α : ℂ) (X : ℕ → ℂ) (n col : ℕ) : ℂ := ∑ k ∈ Finset.range n, if k ≤ col % 64 then α ^ k * X (col - k) else 0

theorem pre_one (α : ℂ) (X : ℕ → ℂ) (col : ℕ) : pre α X 1 col = X col := by
  simp [pre]

theorem pre_double (α : ℂ) (X : ℕ → ℂ) (n m col : ℕ) (h : m = n + n) :
    pre α X m col = pre α X n col + α ^ n * (if n ≤ col % 64 then pre α X n (col - n) else 0) := by
  subst h
  unfold pre
  rw [Finset.sum_range_add]
  congr 1
  split_ifs with hn
  · rw [Finset.mul_sum]
    refine Finset.sum_congr rfl fun k _ => ?_
    have e : (col - n) % 64 = col % 64 - n := by omega
    rw [e]
    by_cases hk : n + k ≤ col % 64
    · rw [if_pos hk, if_pos (by omega), pow_add, mul_assoc, Nat.sub_sub]
    · rw [if_neg hk, if_neg (by omega), mul_zero]
  · rw [mul_zero]
    exact Finset.sum_eq_zero fun k _ => if_neg (by omega)

theorem col_at : ∀ c : Fin 256, k1_pay233 (ix2 0 c) = BitVec.ofNat 32 (c.val % 64) := by
  decide +kernel

theorem sge_at : ∀ c m : Fin 64, IntOp.cmpi .sge (BitVec.ofNat 32 c.val) (BitVec.ofNat 32 m.val) = if m.val ≤ c.val then 1#1 else 0#1 := by
  decide +kernel

theorem shift_at (m : Fin 64) (x : FVec Ideal S64x256 .f32) (p : Fin 64) (c : Fin 256) :
    shift (BitVec.ofNat 32 m.val) x (ix2 p c) = if m.val ≤ c.val % 64 then x (ix2 p ⟨c.val - m.val, by omega⟩) else 0 := by
  unfold shift
  pointwise
  rw [col_at c, show BitVec.ofNat 32 (c.val % 64) = BitVec.ofNat 32 (⟨c.val % 64, Nat.mod_lt _ (by norm_num)⟩ : Fin 64).val from rfl, sge_at]
  show Scalar.select (if m.val ≤ c.val % 64 then 1#1 else 0#1) _ _ = _
  by_cases h : m.val ≤ c.val % 64
  · rw [if_pos h, if_pos h]
    show x _ = x _
    congr 2
    apply Fin.ext
    show (c.val + 256 - m.val % 2 ^ 32 % 256) % 256 = c.val - m.val
    omega
  · rw [if_neg h, if_neg h]
    rfl

/-- The shift of complex states. -/
theorem IsS.shift {x : CV Ideal S64x256} {f : Fin 64 → ℕ → ℂ} (hx : IsS x f) (m : Fin 64) :
    IsS (shift (BitVec.ofNat 32 m.val) x.1, shift (BitVec.ofNat 32 m.val) x.2) (fun p c => if m.val ≤ c % 64 then f p (c - m.val) else 0) := by
  refine fun p c => ⟨(shift_at m _ p c).trans ?_, (shift_at m _ p c).trans ?_⟩ <;> beta_reduce <;> split
  · exact (hx _ _).1
  · rfl
  · exact (hx _ _).2
  · rfl

theorem IsS.isC {x : CV Ideal S64x256} {f : Fin 64 → ℕ → ℂ} (hx : IsS x f) : IsC x (fun i => f (i 0) (i 1).val) :=
  ⟨fun i => by rw [eq_ix2 i]; exact (hx _ _).1, fun i => by rw [eq_ix2 i]; exact (hx _ _).2⟩

theorem IsC.bc {a : CV Ideal S64x1} {fa : Fin 64 → ℂ} (ha : IsC a (fun i => fa (i 0))) : IsC (bc a) (fun i => fa (i 0)) := by
  refine ⟨fun i => ?_, fun i => ?_⟩ <;>
  · rw [eq_ix2 i]
    unfold Cert.S5.bc
    pointwise
    first | exact ha.1 _ | exact ha.2 _

theorem two_bits : Ideal.ofBits FTy.f32 0x40000000#32 = ((2 : ℝ) : EReal) := by
  simp [Ideal.ofBits, Ideal.ieee, -EReal.coe_mul]
  norm_num

theorem IsC.sqk {a : CV Ideal S64x1} {fa : Fin 64 → ℂ} (ha : IsC a (fun i => fa (i 0))) : IsC (sqk a) (fun i => fa (i 0) ^ 2) := by
  refine ⟨fun i => ?_, fun i => ?_⟩
  · rw [eq_ix2 i]
    unfold Cert.S5.sqk
    pointwise
    rw [ha.1, ha.2, ← EReal.coe_mul, ← EReal.coe_mul, ← EReal.coe_sub, pow_two, Complex.mul_re]
  · rw [eq_ix2 i]
    unfold Cert.S5.sqk
    pointwise
    rw [ha.1, ha.2, two_bits, ← EReal.coe_mul, ← EReal.coe_mul, pow_two, Complex.mul_im]
    congr 1
    ring

/-- One doubling of the prefix sums. -/
theorem IsS.hstep {x : CV Ideal S64x256} {a : CV Ideal S64x1} {fa : Fin 64 → ℂ} {X : Fin 64 → ℕ → ℂ} {n : ℕ} (m : Fin 64)
    (hx : IsS x (fun p => pre (fa p) (X p) m.val)) (ha : IsC a (fun i => fa (i 0) ^ m.val)) (hn : n = m.val + m.val) :
    IsS (hstep (BitVec.ofNat 32 m.val) a x) (fun p => pre (fa p) (X p) n) := by
  have hs := (IsC.bc (fa := fun p => fa p ^ m.val) ha).cm (hx.shift m).isC
  intro p c
  beta_reduce
  rw [pre_double _ _ _ _ _ hn]
  constructor
  · show x.1 (ix2 p c) + _ = _
    rw [(hx p c).1, hs.1 (ix2 p c), ← EReal.coe_add, ← Complex.add_re]
    rfl
  · show x.2 (ix2 p c) + _ = _
    rw [(hx p c).2, hs.2 (ix2 p c), ← EReal.coe_add, ← Complex.add_im]
    rfl

/-- The prefix sums over the chunks of a sequence. -/
theorem IsS.scan {x : CV Ideal S64x256} {a : CV Ideal S64x1} {fa : Fin 64 → ℂ} {X : Fin 64 → ℕ → ℂ}
    (hx : IsS x X) (ha : IsC a (fun i => fa (i 0))) : IsS (scan a x) (fun p => pre (fa p) (X p) 64) := by
  have h0 : IsS x (fun p => pre (fa p) (X p) 1) := fun p c => by beta_reduce; rw [pre_one]; exact hx p c
  have a0 : IsC a (fun i => fa (i 0) ^ 1) := ha.congr fun i => (pow_one _).symm
  have a1 : IsC (sqk a) (fun i => fa (i 0) ^ 2) := ha.sqk
  have a2 : IsC (sqk (sqk a)) (fun i => fa (i 0) ^ 4) := (IsC.sqk (fa := fun p => fa p ^ 2) a1).congr fun i => by ring
  have a3 : IsC (sqk (sqk (sqk a))) (fun i => fa (i 0) ^ 8) := (IsC.sqk (fa := fun p => fa p ^ 4) a2).congr fun i => by ring
  have a4 : IsC (sqk (sqk (sqk (sqk a)))) (fun i => fa (i 0) ^ 16) := (IsC.sqk (fa := fun p => fa p ^ 8) a3).congr fun i => by ring
  have a5 : IsC (sqk (sqk (sqk (sqk (sqk a))))) (fun i => fa (i 0) ^ 32) := (IsC.sqk (fa := fun p => fa p ^ 16) a4).congr fun i => by ring
  have h1 := IsS.hstep (n := 2) ⟨1, by norm_num⟩ h0 a0 rfl
  have h2 := IsS.hstep (n := 4) ⟨2, by norm_num⟩ h1 a1 rfl
  have h3 := IsS.hstep (n := 8) ⟨4, by norm_num⟩ h2 a2 rfl
  have h4 := IsS.hstep (n := 16) ⟨8, by norm_num⟩ h3 a3 rfl
  have h5 := IsS.hstep (n := 32) ⟨16, by norm_num⟩ h4 a4 rfl
  exact IsS.hstep (n := 64) ⟨32, by norm_num⟩ h5 a5 rfl

/-- The state a chunk starts from. -/
theorem sin_at {s : CV Ideal S64x256} {f : Fin 64 → ℕ → ℂ} (hs : IsS s f) (q : Fin 128) (c : Fin 256) :
    sin s (ix2 q c) = ((if h : q.val < 64 then (if 1 ≤ c.val % 64 then f ⟨q.val, h⟩ (c.val - 1) else 0 : ℂ).re
      else (if 1 ≤ c.val % 64 then f ⟨q.val - 64, by omega⟩ (c.val - 1) else 0 : ℂ).im : ℝ) : EReal) := by
  have h1 := hs.shift ⟨1, by norm_num⟩
  unfold sin
  pointwise
  split
  · exact (h1 _ _).1
  · exact (h1 _ _).2

/-- What each chunk adds to the state, over the reals. -/
theorem isS_xin {z : FVec Ideal S1x1024x256 .bf16} {w : CV Ideal S64x1024} {Z : Fin 1024 → ℕ → ℝ} {M : Fin 64 → Fin 1024 → ℂ}
    (hz : ∀ k c, z (ix3 0 k c) = (Z k c.val : EReal)) (hw : IsC w (fun i => M (i 0) (i 1))) :
    IsS (xin z (halves w)) (fun p c => ∑ k, M p k * (Z k c : ℂ)) := by
  have hh : ∀ (q : Fin 128) (k : Fin 1024), halves w (ix3 0 q k) = ((if h : q.val < 64 then (M ⟨q.val, h⟩ k).re else (M ⟨q.val - 64, by omega⟩ k).im : ℝ) : EReal) := by
    intro q k
    show (if h : q.val < 64 then wbtHalf w.1 (ix3 0 ⟨q.val, h⟩ k) else wbtHalf w.2 (ix3 0 ⟨q.val - 64, _⟩ k)) = _
    split
    · exact (wbtHalf_at _ _ _).trans (hw.1 _)
    · exact (wbtHalf_at _ _ _).trans (hw.2 _)
  refine fun p c => ⟨?_, ?_⟩
  · unfold xin
    unfold_payloads
    pointwise
    simp only [hh, hz]
    rw [Complex.re_sum, coe_sum]
    refine Finset.sum_congr rfl fun k _ => ?_
    rw [dif_pos p.isLt, ← EReal.coe_mul, Complex.re_mul_ofReal]
  · unfold xin
    unfold_payloads
    pointwise
    simp only [hh, hz]
    rw [Complex.im_sum, coe_sum]
    refine Finset.sum_congr rfl fun k _ => ?_
    rw [dif_neg (by omega), ← EReal.coe_mul, Complex.im_mul_ofReal]
    simp

/-- The in-chunk matrix, over the reals. -/
theorem full_at (e : FVec Ideal S16x2048 .f32) (r k : Fin 1024) :
    full e (ix3 0 r k) = e (ix2 ⟨r.val % 16, Nat.mod_lt _ (by norm_num)⟩ ⟨(63 - r.val / 16) * 16 + k.val, by omega⟩) := by
  show mrow e (r.val / 16) _ (ix3 0 ⟨r.val % 16, _⟩ k) = _
  unfold mrow
  pointwise

theorem yown_at (z : FVec Ideal S1x1024x256 .bf16) (m : FVec Ideal S1x1024x1024 .bf16) (r : Fin 1024) (c : Fin 256) :
    yown z m (ix3 0 r c) = ∑ k, m (ix3 0 r k) * z (ix3 0 k c) := by
  unfold yown
  unfold_payloads
  pointwise

theorem yout_at (s : FVec Ideal S128x256 .f32) (f : Fin 128 → Fin 256 → ℝ) (hs : ∀ q c, s (ix2 q c) = (f q c : EReal))
   (w : FVec Ideal S1x1024x128 .bf16) (y : FVec Ideal S1x1024x256 .f32) (r : Fin 1024) (c : Fin 256) :
    yout s w y (ix3 0 r c) = y (ix3 0 r c) + ∑ q, w (ix3 0 r q) * s (ix2 q c) := by
  unfold yout
  unfold_payloads
  pointwise
  simp only [hs, sub_self_real, mul_zero, Finset.sum_const_zero, add_zero]

end Cert.S5
-- ==== Proof.Chunk.lean ====
module

public import proofs.«01_k».proof.Proof.Values

@[expose] public section

/-! The chunk kernel's sums are the states of the recurrence. -/

noncomputable section
namespace Cert.S5
open Idealize.ShloMosaic Cert.KernelIdeal Cert.KernelIdeal.Gen

/-- The state after `n` inputs. -/
def st (a : ℂ) (V : ℕ → ℂ) : ℕ → ℂ
  | 0 => 0
  | n + 1 => a * st a V n + V n

theorem st_add (a : ℂ) (V : ℕ → ℂ) (n m : ℕ) : st a V (n + m) = a ^ m * st a V n + ∑ j ∈ Finset.range m, a ^ (m - 1 - j) * V (n + j) := by
  induction m with
  | zero => simp
  | succ m ih =>
    rw [← Nat.add_assoc, st, ih, Finset.sum_range_succ, mul_add, ← mul_assoc, ← pow_succ', Finset.mul_sum, add_assoc]
    congr 2
    · refine Finset.sum_congr rfl fun j hj => ?_
      have := Finset.mem_range.mp hj
      rw [← mul_assoc, ← pow_succ', show m + 1 - 1 - j = m - 1 - j + 1 by omega]
    · simp

/-- The state before chunk `c`, from what each chunk adds. -/
theorem st_chunk (a : ℂ) (V : ℕ → ℂ) (c : ℕ) : st a V (64 * c) =
    ∑ k ∈ Finset.range c, (a ^ 64) ^ k * ∑ j ∈ Finset.range 64, a ^ (63 - j) * V (64 * (c - 1 - k) + j) := by
  induction c with
  | zero => simp [st]
  | succ c ih =>
    rw [Nat.mul_succ, st_add, ih, Finset.sum_range_succ' _ c]
    refine congrArg₂ (fun x y : ℂ => x + y) ?_ ?_
    · rw [Finset.mul_sum]
      refine Finset.sum_congr rfl fun k _ => ?_
      rw [← mul_assoc, ← pow_succ', show c + 1 - 1 - (k + 1) = c - 1 - k by omega]
    · simp

theorem sum_frames {M : Type} [AddCommMonoid M] (f : Fin 1024 → M) :
    ∑ k, f k = ∑ j : Fin 64, ∑ h : Fin 16, f ⟨16 * j.val + h.val, by omega⟩ := by
  refine Eq.trans ?_ (Fintype.sum_prod_type' (fun (j : Fin 64) (h : Fin 16) => f ⟨16 * j.val + h.val, by omega⟩))
  refine (Fintype.sum_equiv (finProdFinEquiv (m := 64) (n := 16)) _ _ fun x => ?_).symm
  congr 1
  apply Fin.ext
  show 16 * x.1.val + x.2.val = x.2.val + 16 * x.1.val
  omega

/-- What one input adds to a state. -/
def inp (B : Fin 16 → ℂ) (U : ℕ → Fin 16 → ℝ) (n : ℕ) : ℂ := ∑ h, B h * (U n h : ℂ)

/-- A chunk's input sum, frame by frame. -/
theorem chunk_sum (a : ℂ) (B : Fin 16 → ℂ) (U : ℕ → Fin 16 → ℝ) (c : ℕ) :
    ∑ k : Fin 1024, B ⟨k.val % 16, Nat.mod_lt _ (by norm_num)⟩ * a ^ (63 - k.val / 16) * (U (64 * c + k.val / 16) ⟨k.val % 16, Nat.mod_lt _ (by norm_num)⟩ : ℂ)
      = ∑ j ∈ Finset.range 64, a ^ (63 - j) * inp B U (64 * c + j) := by
  rw [sum_frames, ← Fin.sum_univ_eq_sum_range (fun j => a ^ (63 - j) * inp B U (64 * c + j)) 64]
  refine Finset.sum_congr rfl fun j _ => ?_
  unfold inp
  rw [Finset.mul_sum]
  refine Finset.sum_congr rfl fun h _ => ?_
  have e1 : (16 * j.val + h.val) / 16 = j.val := by omega
  have e2 : (⟨(16 * j.val + h.val) % 16, Nat.mod_lt _ (by norm_num)⟩ : Fin 16) = h := Fin.ext (by show (16 * j.val + h.val) % 16 = h.val; omega)
  simp only [e1, e2]
  ring

/-- A chunk's own part of the state, frame by frame. -/
theorem own_sum (a : ℂ) (B : Fin 16 → ℂ) (U : ℕ → Fin 16 → ℝ) (c t : ℕ) (ht : t < 64) :
    ∑ k : Fin 1024, (if (63 - t) * 16 + k.val < 1024 then
        B ⟨((63 - t) * 16 + k.val) % 16, Nat.mod_lt _ (by norm_num)⟩ * a ^ (63 - ((63 - t) * 16 + k.val) / 16)
          * (U (64 * c + k.val / 16) ⟨k.val % 16, Nat.mod_lt _ (by norm_num)⟩ : ℂ) else 0)
      = ∑ j ∈ Finset.range (t + 1), a ^ (t + 1 - 1 - j) * inp B U (64 * c + j) := by
  have hs : ∑ j ∈ Finset.range (t + 1), a ^ (t + 1 - 1 - j) * inp B U (64 * c + j)
      = ∑ j ∈ Finset.range 64, if j ≤ t then a ^ (t - j) * inp B U (64 * c + j) else 0 := by
    rw [← Finset.sum_filter]
    refine Finset.sum_congr ?_ fun j _ => rfl
    ext j
    simp only [Finset.mem_range, Finset.mem_filter]
    omega
  rw [hs, sum_frames, ← Fin.sum_univ_eq_sum_range (fun j => if j ≤ t then a ^ (t - j) * inp B U (64 * c + j) else 0) 64]
  refine Finset.sum_congr rfl fun j _ => ?_
  by_cases hj : j.val ≤ t
  · rw [if_pos hj]
    unfold inp
    rw [Finset.mul_sum]
    refine Finset.sum_congr rfl fun h _ => ?_
    have e0 : (63 - t) * 16 + (16 * j.val + h.val) < 1024 := by omega
    have e1 : (16 * j.val + h.val) / 16 = j.val := by omega
    have e2 : (⟨(16 * j.val + h.val) % 16, Nat.mod_lt _ (by norm_num)⟩ : Fin 16) = h := Fin.ext (by show (16 * j.val + h.val) % 16 = h.val; omega)
    have e3 : (⟨((63 - t) * 16 + (16 * j.val + h.val)) % 16, Nat.mod_lt _ (by norm_num)⟩ : Fin 16) = h :=
      Fin.ext (by show ((63 - t) * 16 + (16 * j.val + h.val)) % 16 = h.val; omega)
    have e4 : 63 - ((63 - t) * 16 + (16 * j.val + h.val)) / 16 = t - j.val := by omega
    simp only [if_pos e0, e1, e2, e3, e4]
    ring
  · rw [if_neg hj]
    refine Finset.sum_eq_zero fun h _ => if_neg ?_
    show ¬ ((63 - t) * 16 + (16 * j.val + h.val) < 1024)
    omega

/-- The prefix sum before a chunk is the state before it. -/
theorem pre_state (a : ℂ) (B : Fin 16 → ℂ) (U : ℕ → ℕ → Fin 16 → ℝ) (col : ℕ) (h : 1 ≤ col % 64) :
    pre (a ^ 64) (fun c => ∑ j ∈ Finset.range 64, a ^ (63 - j) * inp B (U (c / 64)) (64 * (c % 64) + j)) 64 (col - 1)
      = st a (inp B (U (col / 64))) (64 * (col % 64)) := by
  rw [st_chunk]
  unfold pre
  rw [← Finset.sum_filter]
  have hf : (Finset.range 64).filter (fun k => k ≤ (col - 1) % 64) = Finset.range (col % 64) := by
    ext k
    simp only [Finset.mem_range, Finset.mem_filter]
    omega
  rw [hf]
  refine Finset.sum_congr rfl fun k hk => ?_
  have := Finset.mem_range.mp hk
  have e1 : (col - 1 - k) / 64 = col / 64 := by omega
  have e2 : (col - 1 - k) % 64 = col % 64 - 1 - k := by omega
  beta_reduce
  rw [e1, e2]

end Cert.S5
-- ==== Proof.Group.lean ====
module

public import proofs.«01_k».proof.Proof.Chunk

@[expose] public section

/-! One group's output block over the reals: the output projection of the recurrence's states. -/

noncomputable section
namespace Cert.S5
open Idealize.ShloMosaic Cert.KernelIdeal Cert.KernelIdeal.Gen

set_option maxRecDepth 16384

/-- A group's arguments are these reals. -/
structure Reals (E : Env Ideal) (g : Fin 2) (LR LI : Fin 64 → ℝ) (LS : ℝ) (Bc : Fin 64 → Fin 16 → ℂ) (Cc : Fin 16 → Fin 64 → ℂ)
    (U : ℕ → ℕ → Fin 16 → ℝ) : Prop where
  lr : ∀ p, E.x0 (ix3 g p 0) = (LR p : EReal)
  li : ∀ p, E.x1 (ix3 g p 0) = (LI p : EReal)
  ls : E.x2 (ix3 g 0 0) = (LS : EReal)
  tr : ∀ p h, E.x3 (ix3 g p h) = ((Cc h p).re : EReal)
  ti : ∀ p h, E.x4 (ix3 g p h) = ((Cc h p).im : EReal)
  br : ∀ p h, E.x5 (ix3 g p h) = ((Bc p h).re : EReal)
  bi : ∀ p h, E.x6 (ix3 g p h) = ((Bc p h).im : EReal)
  cr : ∀ h p, E.x7 (ix3 g h p) = ((Cc h p).re : EReal)
  ci : ∀ h p, E.x8 (ix3 g h p) = ((Cc h p).im : EReal)
  z : ∀ (k : Fin 1024) (c : Fin 256), E.x9 (ix3 g k c) = (U (c.val / 64) (64 * (c.val % 64) + k.val / 16) ⟨k.val % 16, Nat.mod_lt _ (by norm_num)⟩ : EReal)
  h0 : ∀ p, LR p * LR p + LI p * LI p ≠ 0

variable {E : Env Ideal} {g : Fin 2} {LR LI : Fin 64 → ℝ} {LS : ℝ} {Bc : Fin 64 → Fin 16 → ℂ} {Cc : Fin 16 → Fin 64 → ℂ}
    {U : ℕ → ℕ → Fin 16 → ℝ} (H : Reals E g LR LI LS Bc Cc U)
include H

/-- A group's output. -/
theorem yg_at (r : Fin 1024) (c : Fin 256) : yg E g (ix3 0 r c)
    = ((∑ p, (Cc ⟨r.val % 16, Nat.mod_lt _ (by norm_num)⟩ p * st (lamBar (LR p) (LI p) LS) (inp (fun h => Bc p h * zoh (LR p) (LI p) LS) (U (c.val / 64)))
        (64 * (c.val % 64) + (r.val / 16 + 1))).re : ℝ) : EReal) := by
  have hA : IsC (ab E g) (fun i => lamBar (LR (i 0)) (LI (i 0)) LS) := isC_abar (LR := LR) (LI := LI) H.ls H.lr H.li
  have hF : IsC (zo E g) (fun i => zoh (LR (i 0)) (LI (i 0)) LS) := isC_zohf (LR := LR) (LI := LI) H.ls H.lr H.li H.h0
  generalize hα : (fun p => lamBar (LR p) (LI p) LS) = α at *
  generalize hζ : (fun p => zoh (LR p) (LI p) LS) = ζ at *
  replace hA : IsC (ab E g) (fun i => α (i 0)) := by rw [← hα]; exact hA
  replace hF : IsC (zo E g) (fun i => ζ (i 0)) := by rw [← hζ]; exact hF
  have eα : ∀ p, lamBar (LR p) (LI p) LS = α p := fun p => congrFun hα p
  have eζ : ∀ p, zoh (LR p) (LI p) LS = ζ p := fun p => congrFun hζ p
  simp only [eα, eζ]
  have hM := isC_inm (B := Bc) hA hF (br := grp g E.x5) (bi := grp g E.x6) H.br H.bi
  have hM' : IsC (im E g) (fun i => (fun p (l : Fin 1024) => Bc p ⟨l.val % 16, Nat.mod_lt _ (by norm_num)⟩ * ζ p * α p ^ (63 - l.val / 16)) (i 0) (i 1)) := hM
  have hX := isS_xin (z := grp g E.x9) (w := im E g) (M := fun p (l : Fin 1024) => Bc p ⟨l.val % 16, Nat.mod_lt _ (by norm_num)⟩ * ζ p * α p ^ (63 - l.val / 16))
    (Z := fun k c => U (c / 64) (64 * (c % 64) + k.val / 16) ⟨k.val % 16, Nat.mod_lt _ (by norm_num)⟩) H.z hM'
  have hS := sin_at (hX.scan (fa := fun p => α p ^ 64) (isC_a64r hA))
  unfold yg
  rw [yout_at _ _ hS, yown_at]
  have hw := wctm_at (C := fun p h => Cc h p) hA (cr := grp g E.x3) (ci := grp g E.x4) H.tr H.ti
  have he := ext_at (M := fun p (l : Fin 1024) => Bc p ⟨l.val % 16, Nat.mod_lt _ (by norm_num)⟩ * ζ p * α p ^ (63 - l.val / 16)) hM' (cr := grp g E.x7) (ci := grp g E.x8) (C := Cc) H.cr H.ci
  have hq : (∑ q, wc E g (ix3 0 r q) * sin (scan (a64r (a64m (ab E g))) (xin (grp g E.x9) (halves (im E g)))) (ix2 q c))
    = ((∑ p, (Cc ⟨r.val % 16, Nat.mod_lt _ (by norm_num)⟩ p * (α p ^ (r.val / 16 + 1) * st (α p) (inp (fun h => Bc p h * ζ p) (U (c.val / 64))) (64 * (c.val % 64)))).re : ℝ) : EReal) := by
    have hstate : ∀ p : Fin 64, (if 1 ≤ c.val % 64 then pre (α p ^ 64) (fun c => ∑ k : Fin 1024, Bc p ⟨k.val % 16, Nat.mod_lt _ (by norm_num)⟩ * ζ p * α p ^ (63 - k.val / 16)
        * ((U (c / 64) (64 * (c % 64) + k.val / 16) ⟨k.val % 16, Nat.mod_lt _ (by norm_num)⟩ : ℝ) : ℂ)) 64 (c.val - 1) else 0)
        = st (α p) (inp (fun h => Bc p h * ζ p) (U (c.val / 64))) (64 * (c.val % 64)) := by
      intro p
      split
      · rename_i h
        rw [← pre_state _ _ _ _ h]
        congr 1
        funext c'
        exact chunk_sum (α p) (fun h => Bc p h * ζ p) (U (c' / 64)) (c' % 64)
      · rename_i h
        rw [show c.val % 64 = 0 by omega]
        rfl
    have hS' : ∀ q : Fin 128, sin (scan (a64r (a64m (ab E g))) (xin (grp g E.x9) (halves (im E g)))) (ix2 q c)
        = ((if h : q.val < 64 then (st (α ⟨q.val, h⟩) (inp (fun h' => Bc ⟨q.val, h⟩ h' * ζ ⟨q.val, h⟩) (U (c.val / 64))) (64 * (c.val % 64))).re
          else (st (α ⟨q.val - 64, by omega⟩) (inp (fun h' => Bc ⟨q.val - 64, by omega⟩ h' * ζ ⟨q.val - 64, by omega⟩) (U (c.val / 64))) (64 * (c.val % 64))).im : ℝ) : EReal) := by
      intro q
      rw [hS q c]
      congr 1
      split
      · exact congrArg Complex.re (hstate _)
      · exact congrArg Complex.im (hstate _)
    have hw' : ∀ q, wc E g (ix3 0 r q) = _ := hw r
    simp only [hw', hS', ← EReal.coe_mul, ← coe_sum]
    congr 1
    rw [show (∑ q : Fin 128, _) = _ from Fin.sum_univ_add (a := 64) (b := 64) _, ← Finset.sum_add_distrib]
    refine Finset.sum_congr rfl fun p _ => ?_
    have e1 : (Fin.castAdd 64 p).val < 64 := p.isLt
    have e2 : ¬ (Fin.natAdd 64 p).val < 64 := by show ¬ 64 + p.val < 64; omega
    have e3 : (⟨(Fin.natAdd 64 p).val - 64, by show 64 + p.val - 64 < 64; omega⟩ : Fin 64) = p := Fin.ext (by show 64 + p.val - 64 = p.val; omega)
    rw [dif_pos e1, dif_pos e1, dif_neg e2, dif_neg e2, e3, ← mul_assoc, Complex.mul_re (_ * _), neg_mul, sub_eq_add_neg]
    rfl
  have hm : (∑ k, full (ex E g) (ix3 0 r k) * grp g E.x9 (ix3 0 k c))
    = ((∑ p, (Cc ⟨r.val % 16, Nat.mod_lt _ (by norm_num)⟩ p * ∑ j ∈ Finset.range (r.val / 16 + 1), α p ^ (r.val / 16 + 1 - 1 - j) * inp (fun h => Bc p h * ζ p) (U (c.val / 64)) (64 * (c.val % 64) + j)).re : ℝ) : EReal) := by
    have hz : ∀ k : Fin 1024, grp g E.x9 (ix3 0 k c) = _ := fun k => H.z k c
    have he' : ∀ h l, ex E g (ix2 h l) = _ := he
    simp only [full_at, he', hz, ← EReal.coe_mul, ← coe_sum]
    congr 1
    have ht : r.val / 16 < 64 := by omega
    simp only [← own_sum (α _) (fun h => Bc _ h * ζ _) (U (c.val / 64)) (c.val % 64) (r.val / 16) ht, Finset.mul_sum, Complex.re_sum]
    rw [Finset.sum_comm]
    refine Finset.sum_congr rfl fun k _ => ?_
    split
    · rw [Finset.sum_mul]
      refine Finset.sum_congr rfl fun p _ => ?_
      rw [← Complex.re_mul_ofReal]
      congr 1
      ring
    · simp
  rw [hq, hm, ← EReal.coe_add, ← Finset.sum_add_distrib]
  congr 1
  refine Finset.sum_congr rfl fun p _ => ?_
  rw [st_add, mul_add, Complex.add_re, add_comm]

end Cert.S5
-- ==== Proof.RefRun.lean ====
module

public import proofs.«01_k».proof.Proof.Gen.ReferenceIdeal.Run
public import proofs.«01_k».proof.Proof.Gen.ReferenceIdeal.Step

@[expose] public section

/-! The reference's run: its result is read off the state its loop's step reaches after all frames. -/

noncomputable section
namespace Cert.S5.Ref
open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's buffers hold the state `s` and the frame number `j`. -/
structure Holds (V : Valuation τ sig (Elt F)) (s : State F) (j : ℕ) : Prop where
  sr : V (Proc.devRef .tc main_v44_5) = s.main_v44_5
  si : V (Proc.devRef .tc main_v44_6) = s.main_v44_6
  hr : V (Proc.devRef .tc main_v44_7) = s.main_v44_7
  hi : V (Proc.devRef .tc main_v44_8) = s.main_v44_8
  ur : V (Proc.devRef .tc main_v44_0) = s.main_v44_0
  ui : V (Proc.devRef .tc main_v44_1) = s.main_v44_1
  ar : V (Proc.devRef .tc main_v44_2) = s.main_v44_2
  ai : V (Proc.devRef .tc main_v44_3) = s.main_v44_3
  n : V (Proc.devRef .tc main_v44_4) = constantI S_ 32 (BitVec.ofNat 32 j)

variable {V : Valuation τ sig (Elt F)} {s : State F} {j : ℕ}

set_option maxRecDepth 8192 in
theorem next_sr (h : Holds V s j) : res_main_while0b_v67 V = Step.b24 j s := by
  unfold res_main_while0b_v67
  rw [h.sr, h.si, h.ur, h.ar, h.ai, h.n]
  rfl

set_option maxRecDepth 8192 in
theorem next_si (h : Holds V s j) : res_main_while0b_v68 V = Step.b25 j s := by
  unfold res_main_while0b_v68
  rw [h.sr, h.si, h.ui, h.ar, h.ai, h.n]
  rfl

set_option maxRecDepth 8192 in
theorem next_hr (h : Holds V s j) : step_main_v44_7 V = Step.b30 j s := by
  unfold step_main_v44_7
  show Host.dynamicUpdateSlice (V (Proc.devRef .tc main_v44_7)) (broadcastInDim S1x4x64x64 ![1, 2, 3] bcast_S4x64x64_S1x4x64x64_1_2_3 (res_main_while0b_v67 V)) _ _ = _
  rw [next_sr h, h.hr, h.n]
  rfl

set_option maxRecDepth 8192 in
theorem next_hi (h : Holds V s j) : step_main_v44_8 V = Step.b35 j s := by
  unfold step_main_v44_8
  show Host.dynamicUpdateSlice (V (Proc.devRef .tc main_v44_8)) (broadcastInDim S1x4x64x64 ![1, 2, 3] bcast_S4x64x64_S1x4x64x64_1_2_3 (res_main_while0b_v68 V)) _ _ = _
  rw [next_si h, h.hi, h.n]
  rfl

theorem next_n (h : Holds V s j) : step_main_v44_4 V = constantI S_ 32 (BitVec.ofNat 32 (j + 1)) := by
  unfold step_main_v44_4
  rw [h.n]
  funext i
  show BitVec.ofNat 32 j + 1#32 = BitVec.ofNat 32 (j + 1)
  simp only [BitVec.ofNat_add]

/-- One frame. -/
theorem Holds.next (h : Holds V s j) : Holds (STEP V) (step j s) (j + 1) where
  sr := (STEP_main_v44_5 V).trans (next_sr h)
  si := (STEP_main_v44_6 V).trans (next_si h)
  hr := (STEP_main_v44_7 V).trans (next_hr h)
  hi := (STEP_main_v44_8 V).trans (next_hi h)
  n := (STEP_main_v44_4 V).trans (next_n h)
  ur := (STEP_main_v44_0 V).trans h.ur
  ui := (STEP_main_v44_1 V).trans h.ui
  ar := (STEP_main_v44_2 V).trans h.ar
  ai := (STEP_main_v44_3 V).trans h.ai

variable (m : (ℓ : Loc nD τ sig) → Buf (Elt F) ℓ) (c : Dev nD)

/-- The states the loop goes through, from the arguments. -/
def states : ℕ → State F
  | 0 => init (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg7))
  | n + 1 => step n (states n)

set_option maxRecDepth 65536 in
set_option maxHeartbeats 500000 in
theorem holds_first : Holds (entryContents preI m c) (states m c 0) 0 := by
  constructor <;> (simp only [entryContents, afterL_cons, afterL_nil]; after_reads_simp) <;> rfl

theorem holds_all : ∀ k, Holds (STEP^[k] (entryContents preI m c)) (states m c k) k
  | 0 => holds_first m c
  | k + 1 => by
    rw [Function.iterate_succ_apply']
    exact (holds_all k).next

set_option maxRecDepth 8192 in
theorem out_eq : out_main_v50 (STEP^[4096] (entryContents preI m c))
    = Step.R_main_v50 (states m c 4096) (m ((c.tc : Thread nD τ).loc main_arg5)) (m ((c.tc : Thread nD τ).loc main_arg6)) := by
  have h := holds_all m c 4096
  have h5 := iter_main_arg5 m c 4096
  have h6 := iter_main_arg6 m c 4096
  generalize STEP^[4096] (entryContents preI m c) = V at h h5 h6 ⊢
  generalize states m c 4096 = s at h ⊢
  unfold out_main_v50 Step.R_main_v50
  rw [h.hr, h.hi, h5, h6]
  rfl

end Cert.S5.Ref
-- ==== Proof.RefMeaning.lean ====
module

public import proofs.«01_k».proof.Proof.RefRun
public import proofs.«01_k».proof.Proof.Chunk
public import Idealize.ShloMosaic.Lib.DynamicIndex
public import Idealize.ShloMosaic.Lib.WordCmp

@[expose] public section

/-! The reference's loop over the reals: its states are the recurrence's. -/

noncomputable section
namespace Cert.S5
open Idealize.ShloMosaic

set_option maxRecDepth 16384

/-- The program's arguments are these reals. -/
structure RealArgs (a0 a1 : FVec Ideal ⟨2, ![64, 64]⟩ .f32) (a2 : FVec Ideal ⟨1, ![64]⟩ .f32) (a3 a4 : FVec Ideal ⟨3, ![64, 64, 16]⟩ .f32)
    (a5 a6 : FVec Ideal ⟨3, ![64, 16, 64]⟩ .f32) (a7 : FVec Ideal ⟨3, ![4, 4096, 1024]⟩ .f32)
    (LR LI : Fin 64 → Fin 64 → ℝ) (LS : Fin 64 → ℝ) (Bc : Fin 64 → Fin 64 → Fin 16 → ℂ) (Cc : Fin 64 → Fin 16 → Fin 64 → ℂ)
    (U : Fin 64 → ℕ → ℕ → Fin 16 → ℝ) : Prop where
  lr : ∀ g p, a0 (ix2 g p) = (LR g p : EReal)
  li : ∀ g p, a1 (ix2 g p) = (LI g p : EReal)
  ls : ∀ g, a2 (ix1 g) = (LS g : EReal)
  br : ∀ g p h, a3 (ix3 g p h) = ((Bc g p h).re : EReal)
  bi : ∀ g p h, a4 (ix3 g p h) = ((Bc g p h).im : EReal)
  cr : ∀ g h p, a5 (ix3 g h p) = ((Cc g h p).re : EReal)
  ci : ∀ g h p, a6 (ix3 g h p) = ((Cc g h p).im : EReal)
  u : ∀ (b : Fin 4) (n : Fin 4096) (g : Fin 64) (h : Fin 16), a7 (ix3 b n ⟨16 * g.val + h.val, by omega⟩) = (U g b.val n.val h : EReal)
  h0 : ∀ g p, LR g p * LR g p + LI g p * LI g p ≠ 0

variable {a0 a1 : FVec Ideal ⟨2, ![64, 64]⟩ .f32} {a2 : FVec Ideal ⟨1, ![64]⟩ .f32} {a3 a4 : FVec Ideal ⟨3, ![64, 64, 16]⟩ .f32}
    {a5 a6 : FVec Ideal ⟨3, ![64, 16, 64]⟩ .f32} {a7 : FVec Ideal ⟨3, ![4, 4096, 1024]⟩ .f32}
    {LR LI : Fin 64 → Fin 64 → ℝ} {LS : Fin 64 → ℝ} {Bc : Fin 64 → Fin 64 → Fin 16 → ℂ} {Cc : Fin 64 → Fin 16 → Fin 64 → ℂ}
    {U : Fin 64 → ℕ → ℕ → Fin 16 → ℝ} (H : RealArgs a0 a1 a2 a3 a4 a5 a6 a7 LR LI LS Bc Cc U)
include H

open Cert.ReferenceIdeal Cert.ReferenceIdeal.Gen Cert.ReferenceIdeal.Step

theorem ref_ar (g p : Fin 64) : (A_main_v9 (F := Ideal) a0 a1 a2 a3 a4 a7 (ix2 g p) : EReal) = ((lamBar (LR g p) (LI g p) (LS g)).re : EReal) := by
  unfold A_main_v9 A_main_v8 A_main_v7 A_main_v6 A_main_v5 A_main_v4 A_main_v3 A_main_v2 A_main_v1
  pointwise
  rw [H.lr, H.li, H.ls]
  rfl

theorem ref_ai (g p : Fin 64) : (A_main_v11 (F := Ideal) a0 a1 a2 a3 a4 a7 (ix2 g p) : EReal) = ((lamBar (LR g p) (LI g p) (LS g)).im : EReal) := by
  unfold A_main_v11 A_main_v10 A_main_v7 A_main_v6 A_main_v5 A_main_v4 A_main_v3 A_main_v2 A_main_v1
  pointwise
  rw [H.lr, H.li, H.ls]
  rfl

theorem ref_fr (g p : Fin 64) : (A_main_v20 (F := Ideal) a0 a1 a2 a3 a4 a7 (ix2 g p) : EReal) = ((zoh (LR g p) (LI g p) (LS g)).re : EReal) := by
  unfold A_main_v20 A_main_v19 A_main_v18 A_main_v17 A_main_v16 A_main_v14 A_main_v13 A_main_v12 K_main_v15 K_main_cst
  pointwise
  rw [ref_ar H, ref_ai H, H.lr, H.li]
  simp only [Ideal.ofBits_one_f32, ← EReal.coe_one, ← EReal.coe_mul, ← EReal.coe_add, ← EReal.coe_sub]
  rw [div_real _ _ (H.h0 g p)]
  rfl

theorem ref_fi (g p : Fin 64) : (A_main_v24 (F := Ideal) a0 a1 a2 a3 a4 a7 (ix2 g p) : EReal) = ((zoh (LR g p) (LI g p) (LS g)).im : EReal) := by
  unfold A_main_v24 A_main_v23 A_main_v22 A_main_v21 A_main_v16 A_main_v14 A_main_v13 A_main_v12 K_main_v15 K_main_cst
  pointwise
  rw [ref_ar H, ref_ai H, H.lr, H.li]
  simp only [Ideal.ofBits_one_f32, ← EReal.coe_one, ← EReal.coe_mul, ← EReal.coe_add, ← EReal.coe_sub]
  rw [div_real _ _ (H.h0 g p)]
  rfl

theorem ref_br (g p : Fin 64) (h : Fin 16) : (A_main_v31 (F := Ideal) a0 a1 a2 a3 a4 a7 (ix3 g p h) : EReal) = ((Bc g p h * zoh (LR g p) (LI g p) (LS g)).re : EReal) := by
  unfold A_main_v31 A_main_v30 A_main_v29 A_main_v28 A_main_v27 A_main_v26 A_main_v25
  pointwise
  rw [ref_fr H, ref_fi H, H.br, H.bi, ← EReal.coe_mul, ← EReal.coe_mul, ← EReal.coe_sub, Complex.mul_re]
  congr 1
  ring

theorem ref_bi (g p : Fin 64) (h : Fin 16) : (A_main_v36 (F := Ideal) a0 a1 a2 a3 a4 a7 (ix3 g p h) : EReal) = ((Bc g p h * zoh (LR g p) (LI g p) (LS g)).im : EReal) := by
  unfold A_main_v36 A_main_v35 A_main_v34 A_main_v33 A_main_v32 A_main_v26 A_main_v25
  pointwise
  rw [ref_fr H, ref_fi H, H.br, H.bi, ← EReal.coe_mul, ← EReal.coe_mul, ← EReal.coe_add, Complex.mul_im]
  congr 1
  ring

theorem ref_u (b : Fin 4) (n : Fin 4096) (g : Fin 64) (h : Fin 16) : (A_main_v0 (F := Ideal) a0 a1 a2 a3 a4 a7 (ix4 b n g h) : EReal) = (U g b.val n.val h : EReal) := by
  rw [← H.u]
  unfold A_main_v0
  pointwise
  congr 2
  exact Fin.ext (by show g.val * 16 + h.val = 16 * g.val + h.val; omega)

/-- What frame `n` adds. -/
abbrev V (LR LI : Fin 64 → Fin 64 → ℝ) (LS : Fin 64 → ℝ) (Bc : Fin 64 → Fin 64 → Fin 16 → ℂ) (U : Fin 64 → ℕ → ℕ → Fin 16 → ℝ)
    (b : ℕ) (g p : Fin 64) : ℕ → ℂ := inp (fun h => Bc g p h * zoh (LR g p) (LI g p) (LS g)) (U g b)

theorem ref_bur (n : Fin 4096) (b : Fin 4) (g p : Fin 64) :
    (A_main_v38 (F := Ideal) a0 a1 a2 a3 a4 a7 (ix4 n b g p) : EReal) = ((V LR LI LS Bc U b.val g p n.val).re : EReal) := by
  unfold A_main_v38 A_main_v37
  pointwise
  simp only [ref_br H, ref_u H, ← EReal.coe_mul, ← coe_sum]
  unfold V inp
  rw [Complex.re_sum]
  simp only [Complex.re_mul_ofReal]

theorem ref_bui (n : Fin 4096) (b : Fin 4) (g p : Fin 64) :
    (A_main_v40 (F := Ideal) a0 a1 a2 a3 a4 a7 (ix4 n b g p) : EReal) = ((V LR LI LS Bc U b.val g p n.val).im : EReal) := by
  unfold A_main_v40 A_main_v39
  pointwise
  simp only [ref_bi H, ref_u H, ← EReal.coe_mul, ← coe_sum]
  unfold V inp
  rw [Complex.im_sum]
  simp only [Complex.im_mul_ofReal]

omit H in
/-- The state before frame `n`. -/
abbrev S (LR LI : Fin 64 → Fin 64 → ℝ) (LS : Fin 64 → ℝ) (Bc : Fin 64 → Fin 64 → Fin 16 → ℂ) (U : Fin 64 → ℕ → ℕ → Fin 16 → ℝ)
    (b : ℕ) (g p : Fin 64) : ℕ → ℂ := st (lamBar (LR g p) (LI g p) (LS g)) (V LR LI LS Bc U b g p)

/-- The loop's state before frame `n`, over the reals. -/
structure Loop (LR LI : Fin 64 → Fin 64 → ℝ) (LS : Fin 64 → ℝ) (Bc : Fin 64 → Fin 64 → Fin 16 → ℂ) (U : Fin 64 → ℕ → ℕ → Fin 16 → ℝ)
    (s : State Ideal) (n : ℕ) : Prop where
  sr : ∀ (b : Fin 4) (g p : Fin 64), (s.main_v44_5 (ix3 b g p) : EReal) = ((S LR LI LS Bc U b.val g p n).re : EReal)
  si : ∀ (b : Fin 4) (g p : Fin 64), (s.main_v44_6 (ix3 b g p) : EReal) = ((S LR LI LS Bc U b.val g p n).im : EReal)
  hr : ∀ (t : Fin 4096) (b : Fin 4) (g p : Fin 64), t.val < n → (s.main_v44_7 (ix4 t b g p) : EReal) = ((S LR LI LS Bc U b.val g p (t.val + 1)).re : EReal)
  hi : ∀ (t : Fin 4096) (b : Fin 4) (g p : Fin 64), t.val < n → (s.main_v44_8 (ix4 t b g p) : EReal) = ((S LR LI LS Bc U b.val g p (t.val + 1)).im : EReal)
  ur : ∀ (t : Fin 4096) (b : Fin 4) (g p : Fin 64), (s.main_v44_0 (ix4 t b g p) : EReal) = ((V LR LI LS Bc U b.val g p t.val).re : EReal)
  ui : ∀ (t : Fin 4096) (b : Fin 4) (g p : Fin 64), (s.main_v44_1 (ix4 t b g p) : EReal) = ((V LR LI LS Bc U b.val g p t.val).im : EReal)
  ar : ∀ g p : Fin 64, (s.main_v44_2 (ix2 g p) : EReal) = ((lamBar (LR g p) (LI g p) (LS g)).re : EReal)
  ai : ∀ g p : Fin 64, (s.main_v44_3 (ix2 g p) : EReal) = ((lamBar (LR g p) (LI g p) (LS g)).im : EReal)

theorem loop_init : Loop LR LI LS Bc U (init (F := Ideal) a0 a1 a2 a3 a4 a7) 0 where
  sr b g p := by
    show (K_main_v41 (F := Ideal) (ix3 b g p) : EReal) = _
    unfold K_main_v41 K_main_cst_0
    pointwise
    rfl
  si b g p := by
    show (K_main_v41 (F := Ideal) (ix3 b g p) : EReal) = _
    unfold K_main_v41 K_main_cst_0
    pointwise
    rfl
  hr t b g p h := absurd h (Nat.not_lt_zero _)
  hi t b g p h := absurd h (Nat.not_lt_zero _)
  ur t b g p := ref_bur H t b g p
  ui t b g p := ref_bui H t b g p
  ar g p := ref_ar H g p
  ai g p := ref_ai H g p

omit H in
theorem frame_number : ∀ n : Fin 4096, (BitVec.ofNat 32 n.val).toInt = (n.val : ℤ) := by
  decide +kernel

omit H in
theorem starts (n : Fin 4096) (a : Fin 4) :
    ((![(constantI S_ 32 (BitVec.ofNat 32 n.val) : IVec S_ 32), constantI S_ 32 0#32, constantI S_ 32 0#32, constantI S_ 32 0#32] : Fin 4 → IVec S_ 32) a
      (Shape.Idx.first h_S_)).toInt = (((![n.val, 0, 0, 0] : Fin 4 → ℕ) a : ℕ) : ℤ) := by
  match a with
  | ⟨0, _⟩ => exact frame_number n
  | ⟨1, _⟩ => rfl
  | ⟨2, _⟩ => rfl
  | ⟨3, _⟩ => rfl

omit H in
theorem frameFits (n : Fin 4096) : S4096x4x64x64.Slices ![n.val, 0, 0, 0] S1x4x64x64 := by
  refine ⟨rfl, fun a => ?_⟩
  match a with
  | ⟨0, _⟩ => show n.val + 1 ≤ 4096; omega
  | ⟨1, _⟩ => show 0 + 4 ≤ 4; omega
  | ⟨2, _⟩ => show 0 + 64 ≤ 64; omega
  | ⟨3, _⟩ => show 0 + 64 ≤ 64; omega

omit H in
theorem frame_of (x : FVec Ideal S4096x4x64x64 .f32) (n : Fin 4096) :
    Host.dynamicSlice S1x4x64x64 x (fun k => (((![(constantI S_ 32 (BitVec.ofNat 32 n.val) : (⟨S_, .i32⟩ : BufTy).Contents (Elt Ideal)), constantI S_ 32 0#32, constantI S_ 32 0#32, constantI S_ 32 0#32] : Fin 4 → (⟨S_, .i32⟩ : BufTy).Contents (Elt Ideal))) k (Shape.Idx.first h_S_)).toInt) sliceFits_S4096x4x64x64_S1x4x64x64
      = extractStridedSlice S1x4x64x64 ![n.val, 0, 0, 0] x (frameFits n) :=
  Host.dynamicSlice_eq_extractStridedSlice _ _ _ _ _ (frameFits n) (starts n)

omit H in
theorem frame_put (x : FVec Ideal S4096x4x64x64 .f32) (y : FVec Ideal S1x4x64x64 .f32) (n : Fin 4096) :
    Host.dynamicUpdateSlice x y (fun k => (((![(constantI S_ 32 (BitVec.ofNat 32 n.val) : (⟨S_, .i32⟩ : BufTy).Contents (Elt Ideal)), constantI S_ 32 0#32, constantI S_ 32 0#32, constantI S_ 32 0#32] : Fin 4 → (⟨S_, .i32⟩ : BufTy).Contents (Elt Ideal))) k (Shape.Idx.first h_S_)).toInt) updateFits_S4096x4x64x64_S1x4x64x64
      = updateSlice x y ![n.val, 0, 0, 0] (frameFits n) :=
  WordCmp.dynamicUpdateSlice_eq_update _ _ _ _ _ (frameFits n) (starts n)

omit H in
theorem loop_sr {s : State Ideal} (n : Fin 4096) (h : Loop LR LI LS Bc U s n.val) (b : Fin 4) (g p : Fin 64) :
    (b24 n.val s (ix3 b g p) : EReal) = ((S LR LI LS Bc U b.val g p (n.val + 1)).re : EReal) := by
  unfold b24 b16 b4 b3 b12 b15 b11 b14 b10 b13 b0 b1 b2
  rw [frame_of]
  pointwise
  rw [h.ar, h.ai, h.sr, h.si]
  refine (congrArg (_ + ·) (h.ur n b g p)).trans ?_
  rw [← EReal.coe_mul, ← EReal.coe_mul, ← EReal.coe_sub, ← EReal.coe_add, ← Complex.mul_re, ← Complex.add_re]
  rfl

omit H in
theorem loop_si {s : State Ideal} (n : Fin 4096) (h : Loop LR LI LS Bc U s n.val) (b : Fin 4) (g p : Fin 64) :
    (b25 n.val s (ix3 b g p) : EReal) = ((S LR LI LS Bc U b.val g p (n.val + 1)).im : EReal) := by
  unfold b25 b23 b9 b8 b19 b22 b18 b21 b17 b20 b5 b6 b7
  rw [frame_of]
  pointwise
  rw [h.ar, h.ai, h.sr, h.si]
  refine (congrArg (_ + ·) (h.ui n b g p)).trans ?_
  rw [← EReal.coe_mul, ← EReal.coe_mul, ← EReal.coe_add, ← EReal.coe_add, ← Complex.mul_im, ← Complex.add_im]
  rfl

omit H in
theorem loop_hr {s : State Ideal} (n : Fin 4096) (h : Loop LR LI LS Bc U s n.val) (t : Fin 4096) (b : Fin 4) (g p : Fin 64) (ht : t.val < n.val + 1) :
    (b30 n.val s (ix4 t b g p) : EReal) = ((S LR LI LS Bc U b.val g p (t.val + 1)).re : EReal) := by
  have hn := loop_sr n h b g p
  unfold b30 b26 b27 b28 b29
  rw [frame_put]
  generalize b24 n.val s = x at hn ⊢
  pointwise
  by_cases e : n.val ≤ t.val
  · obtain rfl : n = t := Fin.ext (by omega)
    rw [dif_pos ⟨le_rfl, Nat.lt_succ_self _⟩]
    exact hn
  · rw [dif_neg (fun h => e h.1)]
    exact h.hr t b g p (by omega)

omit H in
theorem loop_hi {s : State Ideal} (n : Fin 4096) (h : Loop LR LI LS Bc U s n.val) (t : Fin 4096) (b : Fin 4) (g p : Fin 64) (ht : t.val < n.val + 1) :
    (b35 n.val s (ix4 t b g p) : EReal) = ((S LR LI LS Bc U b.val g p (t.val + 1)).im : EReal) := by
  have hn := loop_si n h b g p
  unfold b35 b31 b32 b33 b34
  rw [frame_put]
  generalize b25 n.val s = x at hn ⊢
  pointwise
  by_cases e : n.val ≤ t.val
  · obtain rfl : n = t := Fin.ext (by omega)
    rw [dif_pos ⟨le_rfl, Nat.lt_succ_self _⟩]
    exact hn
  · rw [dif_neg (fun h => e h.1)]
    exact h.hi t b g p (by omega)

omit H in
/-- One frame of the loop. -/
theorem loop_next {s : State Ideal} (n : Fin 4096) (h : Loop LR LI LS Bc U s n.val) : Loop LR LI LS Bc U (step n.val s) (n.val + 1) where
  sr := loop_sr n h
  si := loop_si n h
  hr := loop_hr n h
  hi := loop_hi n h
  ur := h.ur
  ui := h.ui
  ar := h.ar
  ai := h.ai

omit H in
/-- The reference's result at the loop's end. -/
theorem loop_out {s : State Ideal} (h : Loop LR LI LS Bc U s 4096) (hr : ∀ g h p, (a5 (ix3 g h p) : EReal) = ((Cc g h p).re : EReal))
    (hi : ∀ g h p, (a6 (ix3 g h p) : EReal) = ((Cc g h p).im : EReal)) (b : Fin 4) (n : Fin 4096) (g : Fin 64) (hh : Fin 16) :
    (R_main_v50 (F := Ideal) s a5 a6 (ix3 b n ⟨16 * g.val + hh.val, by omega⟩) : EReal)
      = ((∑ p, (Cc g hh p * S LR LI LS Bc U b.val g p (n.val + 1)).re : ℝ) : EReal) := by
  unfold R_main_v50
  pointwise
  have e7 := fun x => h.hr n b g x n.isLt
  have e8 := fun x => h.hi n b g x n.isLt
  simp only [e7, e8, hr, hi, ← EReal.coe_mul, ← coe_sum, ← EReal.coe_sub, ← Finset.sum_sub_distrib]
  congr 1
  refine Finset.sum_congr rfl fun p _ => ?_
  rw [Complex.mul_re]
  ring

/-- The loop's state before every frame. -/
theorem loop_all (σ : ℕ → State Ideal) (h0 : σ 0 = init (F := Ideal) a0 a1 a2 a3 a4 a7) (hs : ∀ n, σ (n + 1) = step n (σ n)) :
    ∀ n, n ≤ 4096 → Loop LR LI LS Bc U (σ n) n
  | 0, _ => h0 ▸ loop_init H
  | n + 1, h => hs n ▸ loop_next ⟨n, h⟩ (loop_all σ h0 hs n (Nat.le_of_succ_le h))

end Cert.S5
-- ==== Proof.KernelValue.lean ====
module

public import proofs.«01_k».proof.Proof.Region1
public import proofs.«01_k».proof.Proof.Group
public import proofs.«01_k».proof.Proof.RefMeaning

@[expose] public section

/-! The kernel program's result as one function of its arguments. -/

noncomputable section
namespace Cert.S5
open Idealize.ShloMosaic Idealize.ShloMosaic.TcCoe Cert.KernelIdeal Cert.KernelIdeal.Gen

set_option maxRecDepth 16384

variable (m : (ℓ : Loc nD τ sig) → Buf (Elt Ideal) ℓ) (ρ : Dev nD → PrngReg) (c : Dev nD)

theorem v0_eq : W1 m ρ c (Proc.devRef .tc main_v0) = transpose S64x64x16 [0, 2, 1] (m ((c.tc : Thread nD τ).loc main_arg5)) transposes_S64x16x64_S64x64x16_0_2_1 := by
  show StableHlo.after hostOps0 _ _ = _
  unfold hostOps0
  after_results
theorem v1_eq : W1 m ρ c (Proc.devRef .tc main_v1) = transpose S64x64x16 [0, 2, 1] (m ((c.tc : Thread nD τ).loc main_arg6)) transposes_S64x16x64_S64x64x16_0_2_1 := by
  show StableHlo.after hostOps0 _ _ = _
  unfold hostOps0
  after_results
theorem v2_eq : W1 m ρ c (Proc.devRef .tc main_v2) = shapeCast S256x64x1024 (m ((c.tc : Thread nD τ).loc main_arg7)) shapeCasts_S4x4096x1024_S256x64x1024 := by
  show StableHlo.after hostOps0 _ _ = _
  unfold hostOps0
  after_results
  rfl
theorem v4_eq : W3 m ρ c (Proc.devRef .tc main_v4) = shapeCast S64x64x1 (W2 m ρ c (Proc.devRef .tc main_arg0)) shapeCasts_S64x64_S64x64x1 := by
  show StableHlo.after hostOps1 _ _ = _
  unfold hostOps1
  after_results
  rfl
theorem v5_eq : W3 m ρ c (Proc.devRef .tc main_v5) = shapeCast S64x64x1 (W2 m ρ c (Proc.devRef .tc main_arg1)) shapeCasts_S64x64_S64x64x1 := by
  show StableHlo.after hostOps1 _ _ = _
  unfold hostOps1
  after_results
  rfl
theorem v6_eq : W3 m ρ c (Proc.devRef .tc main_v6) = shapeCast S64x1x1 (W2 m ρ c (Proc.devRef .tc main_arg2)) shapeCasts_S64_S64x1x1 := by
  show StableHlo.after hostOps1 _ _ = _
  unfold hostOps1
  after_results
  rfl
theorem v9_eq : W6 m ρ c (Proc.devRef .tc main_v9) = shapeCast S4x4096x1024 (W5 m ρ c (Proc.devRef .tc main_v8)) shapeCasts_S256x64x1024_S4x4096x1024 := by
  show StableHlo.after hostOps3 _ _ = _
  unfold hostOps3
  after_results
  rfl

/-! The arrays the chunk kernel reads, at an index. -/

theorem v0_at (g p : Fin 64) (h : Fin 16) : (V3 m ρ c main_v0 (ix3 g p h) : EReal) = m ((c.tc : Thread nD τ).loc main_arg5) (ix3 g h p) := by
  have e : W3 m ρ c (Proc.devRef .tc main_v0) = W1 m ρ c (Proc.devRef .tc main_v0) :=
    (W3_of m ρ c main_v0 (by decide)).trans (W2_of m ρ c main_v0 (by decide))
  refine (congrFun (e.trans (v0_eq m ρ c)) (ix3 g p h)).trans ?_
  generalize m ((c.tc : Thread nD τ).loc main_arg5) = x
  change FVec Ideal S64x16x64 .f32 at x
  show (transpose S64x64x16 [0, 2, 1] x transposes_S64x16x64_S64x64x16_0_2_1 (ix3 g p h) : EReal) = x (ix3 g h p)
  pointwise
theorem v1_at (g p : Fin 64) (h : Fin 16) : (V3 m ρ c main_v1 (ix3 g p h) : EReal) = m ((c.tc : Thread nD τ).loc main_arg6) (ix3 g h p) := by
  have e : W3 m ρ c (Proc.devRef .tc main_v1) = W1 m ρ c (Proc.devRef .tc main_v1) :=
    (W3_of m ρ c main_v1 (by decide)).trans (W2_of m ρ c main_v1 (by decide))
  refine (congrFun (e.trans (v1_eq m ρ c)) (ix3 g p h)).trans ?_
  generalize m ((c.tc : Thread nD τ).loc main_arg6) = x
  change FVec Ideal S64x16x64 .f32 at x
  show (transpose S64x64x16 [0, 2, 1] x transposes_S64x16x64_S64x64x16_0_2_1 (ix3 g p h) : EReal) = x (ix3 g h p)
  pointwise
theorem v4_at (g p : Fin 64) : (V3 m ρ c main_v4 (ix3 g p 0) : EReal) = m ((c.tc : Thread nD τ).loc main_arg0) (ix2 g p) := by
  refine (congrFun (v4_eq m ρ c) (ix3 g p 0)).trans ?_
  rw [W2_args m ρ c main_arg0 (by decide)]
  generalize m ((c.tc : Thread nD τ).loc main_arg0) = x
  change FVec Ideal S64x64 .f32 at x
  show (shapeCast S64x64x1 x shapeCasts_S64x64_S64x64x1 (ix3 g p 0) : EReal) = x (ix2 g p)
  pointwise
theorem v5_at (g p : Fin 64) : (V3 m ρ c main_v5 (ix3 g p 0) : EReal) = m ((c.tc : Thread nD τ).loc main_arg1) (ix2 g p) := by
  refine (congrFun (v5_eq m ρ c) (ix3 g p 0)).trans ?_
  rw [W2_args m ρ c main_arg1 (by decide)]
  generalize m ((c.tc : Thread nD τ).loc main_arg1) = x
  change FVec Ideal S64x64 .f32 at x
  show (shapeCast S64x64x1 x shapeCasts_S64x64_S64x64x1 (ix3 g p 0) : EReal) = x (ix2 g p)
  pointwise
theorem v6_at (g : Fin 64) : (V3 m ρ c main_v6 (ix3 g 0 0) : EReal) = m ((c.tc : Thread nD τ).loc main_arg2) (ix1 g) := by
  refine (congrFun (v6_eq m ρ c) (ix3 g 0 0)).trans ?_
  rw [W2_args m ρ c main_arg2 (by decide)]
  generalize m ((c.tc : Thread nD τ).loc main_arg2) = x
  change FVec Ideal S64 .f32 at x
  show (shapeCast S64x1x1 x shapeCasts_S64_S64x1x1 (ix3 g 0 0) : EReal) = x (ix1 g)
  pointwise
theorem v2_at (r : Fin 256) (f : Fin 64) (k : Fin 1024) : (V1 m ρ c main_v2 (ix3 r f k) : EReal)
    = m ((c.tc : Thread nD τ).loc main_arg7) (ix3 ⟨r.val / 64, by omega⟩ ⟨64 * (r.val % 64) + f.val, by omega⟩ k) := by
  refine (congrFun (v2_eq m ρ c) (ix3 r f k)).trans ?_
  generalize m ((c.tc : Thread nD τ).loc main_arg7) = x
  change FVec Ideal S4x4096x1024 .f32 at x
  show (shapeCast S256x64x1024 x shapeCasts_S4x4096x1024_S256x64x1024 (ix3 r f k) : EReal) = x (ix3 ⟨r.val / 64, by omega⟩ ⟨64 * (r.val % 64) + f.val, by omega⟩ k)
  pointwise
  exact congrArg (fun q => x (ix3 ⟨r.val / 64, by omega⟩ q k)) (Fin.ext (by show r.val % 64 * 64 + f.val = 64 * (r.val % 64) + f.val; omega))
theorem v9_at (b : Fin 4) (n : Fin 4096) (k : Fin 1024) : (W6 m ρ c (Proc.devRef .tc main_v9) (ix3 b n k) : EReal)
    = W5 m ρ c (Proc.devRef .tc main_v8) (ix3 ⟨64 * b.val + n.val / 64, by omega⟩ ⟨n.val % 64, by omega⟩ k) := by
  refine (congrFun (v9_eq m ρ c) (ix3 b n k)).trans ?_
  generalize W5 m ρ c (Proc.devRef .tc main_v8) = x
  change FVec Ideal S256x64x1024 .f32 at x
  show (shapeCast S4x4096x1024 x shapeCasts_S256x64x1024_S4x4096x1024 (ix3 b n k) : EReal) = x (ix3 ⟨64 * b.val + n.val / 64, by omega⟩ ⟨n.val % 64, by omega⟩ k)
  pointwise
  exact congrArg (fun q => x (ix3 q ⟨n.val % 64, by omega⟩ k)) (Fin.ext (by show b.val * 64 + n.val / 64 = 64 * b.val + n.val / 64; omega))
theorem v3_at (g : Fin 64) (k : Fin 1024) (r : Fin 256) : (V3 m ρ c main_v3 (ix3 g k r) : EReal)
    = V1 m ρ c main_v2 (ix3 r ⟨k.val / 16, by omega⟩ ⟨16 * g.val + k.val % 16, by omega⟩) :=
  congrFun ((W3_of m ρ c main_v3 (by decide)).trans ((W2_arr m ρ c 1).trans (arr0 (V1 m ρ) c))) (ix3 g k r)
theorem v7_eq : V4 m ρ c main_v7 = groups (V3 m ρ) c := (W4_arr m ρ c 10).trans (arr1 (V3 m ρ) c)
theorem v8_eq : W5 m ρ c (Proc.devRef .tc main_v8) = ofGroups (groups (V3 m ρ) c) := by
  refine (W5_arr m ρ c 1).trans ((arr2 (V4 m ρ) c).trans ?_)
  rw [v7_eq]
theorem arg_at (a : Ref sig .tc) (ha : a ∈ argRefs) : V3 m ρ c a = m ((c.tc : Thread nD τ).loc a) := W3_args m ρ c a ha

variable {LR LI : Fin 64 → Fin 64 → ℝ} {LS : Fin 64 → ℝ} {Bc : Fin 64 → Fin 64 → Fin 16 → ℂ} {Cc : Fin 64 → Fin 16 → Fin 64 → ℂ}
    {U : Fin 64 → ℕ → ℕ → Fin 16 → ℝ}

/-- Each group the chunk kernel takes is one group of the arguments. -/
theorem reals (H : RealArgs (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) LR LI LS Bc Cc U) (t : Fin 32) (g : Fin 2) :
    Reals (envOf (V3 m ρ) c t) g (LR (gOf t g)) (LI (gOf t g)) (LS (gOf t g)) (Bc (gOf t g)) (Cc (gOf t g)) (U (gOf t g)) where
  lr p := (x0_at _ c t g p 0).trans ((v4_at m ρ c _ p).trans (H.lr _ p))
  li p := (x1_at _ c t g p 0).trans ((v5_at m ρ c _ p).trans (H.li _ p))
  ls := (x2_at _ c t g 0 0).trans ((v6_at m ρ c _).trans (H.ls _))
  tr p h := (x3_at _ c t g p h).trans ((v0_at m ρ c _ p h).trans (H.cr _ h p))
  ti p h := (x4_at _ c t g p h).trans ((v1_at m ρ c _ p h).trans (H.ci _ h p))
  br p h := (x5_at _ c t g p h).trans ((congrFun (arg_at m ρ c main_arg3 (by decide)) _).trans (H.br _ p h))
  bi p h := (x6_at _ c t g p h).trans ((congrFun (arg_at m ρ c main_arg4 (by decide)) _).trans (H.bi _ p h))
  cr h p := (x7_at _ c t g h p).trans ((congrFun (arg_at m ρ c main_arg5 (by decide)) _).trans (H.cr _ h p))
  ci h p := (x8_at _ c t g h p).trans ((congrFun (arg_at m ρ c main_arg6 (by decide)) _).trans (H.ci _ h p))
  z k r := (x9_at _ c t g k r).trans ((v3_at m ρ c _ k r).trans ((v2_at m ρ c _ _ _).trans (H.u _ _ _ ⟨k.val % 16, Nat.mod_lt _ (by norm_num)⟩)))
  h0 p := H.h0 _ p

/-- The kernel's result. -/
theorem kernel_value (H : RealArgs (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) LR LI LS Bc Cc U)
    (b : Fin 4) (n : Fin 4096) (G : Fin 64) (h : Fin 16) :
    (W6 m ρ c (Proc.devRef .tc main_v9) (ix3 b n ⟨16 * G.val + h.val, by omega⟩) : EReal)
      = ((∑ p, (Cc G h p * S LR LI LS Bc U b.val G p (n.val + 1)).re : ℝ) : EReal) := by
  obtain ⟨t, g, rfl⟩ : ∃ (t : Fin 32) (g : Fin 2), G = gOf t g :=
    ⟨⟨G.val / 2, by omega⟩, ⟨G.val % 2, by omega⟩, Fin.ext (by show G.val = 2 * (G.val / 2) + G.val % 2; omega)⟩
  rw [v9_at, v8_eq]
  have e : ofGroups (groups (V3 m ρ) c) (ix3 ⟨64 * b.val + n.val / 64, by omega⟩ ⟨n.val % 64, by omega⟩ ⟨16 * (gOf t g).val + h.val, by omega⟩)
      = yg (envOf (V3 m ρ) c t) g (ix3 0 ⟨16 * (n.val % 64) + h.val, by omega⟩ ⟨64 * b.val + n.val / 64, by omega⟩) := by
    have h1 : ((16 * (gOf t g).val + h.val) / 16) / 2 = t.val := by show ((16 * (2 * t.val + g.val) + h.val) / 16) / 2 = t.val; omega
    have h2 : ((16 * (gOf t g).val + h.val) / 16) % 2 = g.val := by show ((16 * (2 * t.val + g.val) + h.val) / 16) % 2 = g.val; omega
    have h3 : 16 * (n.val % 64) + (16 * (gOf t g).val + h.val) % 16 = 16 * (n.val % 64) + h.val := by omega
    simp only [ofGroups, groups]
    congr 1
    · exact congrArg (envOf (V3 m ρ) c) (Fin.ext h1)
    · exact Fin.ext h2
    · exact congrArg (fun k => (ix3 0 k ⟨64 * b.val + n.val / 64, by omega⟩ : S1x1024x256.Idx)) (Fin.ext h3)
  refine e.trans ((yg_at (reals m ρ c H t g) ⟨16 * (n.val % 64) + h.val, by omega⟩ ⟨64 * b.val + n.val / 64, by omega⟩).trans ?_)
  have k1 : (16 * (n.val % 64) + h.val) / 16 = n.val % 64 := by omega
  have k2 : (⟨(16 * (n.val % 64) + h.val) % 16, Nat.mod_lt _ (by norm_num)⟩ : Fin 16) = h := Fin.ext (by show (16 * (n.val % 64) + h.val) % 16 = h.val; omega)
  have k3 : (64 * b.val + n.val / 64) / 64 = b.val := by omega
  have k4 : 64 * ((64 * b.val + n.val / 64) % 64) + (n.val % 64 + 1) = n.val + 1 := by omega
  simp only [k1, k2, k3, k4]

end Cert.S5
-- ==== Proof.Tame.lean ====
module

public import proofs.«01_k».proof.Proof.Gen.Pre_tame
public import proofs.«01_k».proof.Proof.RefMeaning
public import Idealize.ShloMosaic.Lib.ReduceAll
public import Idealize.ShloMosaic.Lib.Pointwise

@[expose] public section

/-! The precondition: every argument is a finite real, and no eigenvalue is zero. -/

noncomputable section
namespace Cert.S5
open Idealize.ShloMosaic Cert.Pre_tame

theorem both {a b : BitVec 1} : IntOp.andi a b = 1#1 → a = 1#1 ∧ b = 1#1 := by
  revert a b; decide

/-- An extended real whose absolute value lies below the infinity of the format is a real. -/
theorem real_of {x : EReal} (h : Ideal.cmp .olt (max x (-x)) (Ideal.ofBits .f32 0x7F800000#32) = 1#1) : x = (x.toReal : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => rfl

theorem pos_of {x y : ℝ} (h : Ideal.cmp .ogt ((x : EReal) * x + y * y) (Ideal.ofBits .f32 0x00000000#32) = 1#1) : x * x + y * y ≠ 0 := by
  have hz : Ideal.ofBits .f32 0x00000000#32 = ((0 : ℝ) : EReal) := by simp [Ideal.ofBits, Ideal.ieee]
  rw [hz, ← EReal.coe_mul, ← EReal.coe_mul, ← EReal.coe_add] at h
  intro e
  rw [e] at h
  simp [Ideal.cmp] at h

/-- The reals the arguments are. -/
theorem realArgs (a0 a1 : FVec Ideal S64x64 .f32) (a2 : FVec Ideal S64 .f32) (a3 a4 : FVec Ideal S64x64x16 .f32)
    (a5 a6 : FVec Ideal S64x16x64 .f32) (a7 : FVec Ideal S4x4096x1024 .f32)
    (hp : Cert.Pre_tame.fn (F := Ideal) a0 a1 a2 a3 a4 a5 a6 a7 = fun _ => 1#1) :
    RealArgs a0 a1 a2 a3 a4 a5 a6 a7 (fun g p => (a0 (ix2 g p) : EReal).toReal) (fun g p => (a1 (ix2 g p) : EReal).toReal)
      (fun g => (a2 (ix1 g) : EReal).toReal)
      (fun g p h => ⟨(a3 (ix3 g p h) : EReal).toReal, (a4 (ix3 g p h) : EReal).toReal⟩)
      (fun g h p => ⟨(a5 (ix3 g h p) : EReal).toReal, (a6 (ix3 g h p) : EReal).toReal⟩)
      (fun g b n h => if hb : b < 4 ∧ n < 4096 then (a7 (ix3 ⟨b, hb.1⟩ ⟨n, hb.2⟩ ⟨16 * g.val + h.val, by omega⟩) : EReal).toReal else 0) := by
  have h := congrFun hp (fun k => k.elim0)
  dsimp only [fn, fn_part1, fn_part2] at h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h, h1⟩ := both h
  obtain ⟨hn, h0⟩ := both h
  have e0 (g p) : a0 (ix2 g p) = ((a0 (ix2 g p) : EReal).toReal : EReal) := real_of (Host.reduce_andi_all _ _ _ _ _ h0 (ix2 g p))
  have e1 (g p) : a1 (ix2 g p) = ((a1 (ix2 g p) : EReal).toReal : EReal) := real_of (Host.reduce_andi_all _ _ _ _ _ h1 (ix2 g p))
  refine ⟨e0, e1, fun g => real_of (Host.reduce_andi_all _ _ _ _ _ h2 (ix1 g)), fun g p h => real_of (Host.reduce_andi_all _ _ _ _ _ h3 (ix3 g p h)),
    fun g p h => real_of (Host.reduce_andi_all _ _ _ _ _ h4 (ix3 g p h)), fun g p h => real_of (Host.reduce_andi_all _ _ _ _ _ h5 (ix3 g p h)),
    fun g p h => real_of (Host.reduce_andi_all _ _ _ _ _ h6 (ix3 g p h)), fun b n g h => ?_, fun g p => pos_of ?_⟩
  · rw [dif_pos ⟨b.isLt, n.isLt⟩]
    exact real_of (Host.reduce_andi_all _ _ _ _ _ h7 (ix3 b n _))
  · rw [← e0, ← e1]
    exact Host.reduce_andi_all _ _ _ _ _ hn (ix2 g p)

end Cert.S5
-- ==== Proof.Agree.lean ====
module

public import proofs.«01_k».proof.Defs
public import proofs.«01_k».proof.Proof.KernelRun
public import proofs.«01_k».proof.Proof.KernelValue
public import proofs.«01_k».proof.Proof.RefRun
public import proofs.«01_k».proof.Proof.Tame
public import Idealize.ShloMosaic.Lib.Quiescent

@[expose] public section

/-! The kernel and the reference end with the same results, from arguments that meet the precondition. -/

noncomputable section
namespace Cert.S5
open Idealize.ShloMosaic Idealize.ShloMosaic.TcCoe Idealize.SL.Sem

set_option maxRecDepth 16384

/-- The two results are one array. -/
theorem results_eq (m : (ℓ : Loc KernelIdeal.nD KernelIdeal.τ KernelIdeal.sig) → Buf (Elt Ideal) ℓ) (ρ : Dev KernelIdeal.nD → PrngReg)
    (m' : (ℓ : Loc ReferenceIdeal.nD ReferenceIdeal.τ ReferenceIdeal.sig) → Buf (Elt Ideal) ℓ) (c : Dev KernelIdeal.nD)
    (hp : Pre_KernelIdeal_tame m)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7)) :
    ReferenceIdeal.Step.R_main_v50 (F := Ideal) (Ref.states m' c 4096) (m' ((c.tc : Thread ReferenceIdeal.nD ReferenceIdeal.τ).loc ReferenceIdeal.main_arg5))
        (m' ((c.tc : Thread ReferenceIdeal.nD ReferenceIdeal.τ).loc ReferenceIdeal.main_arg6))
      = KernelIdeal.Gen.W6 m ρ c (Proc.devRef .tc KernelIdeal.main_v9) := by
  have H := realArgs _ _ _ _ _ _ _ _ (hp c)
  have hl := loop_all H (Ref.states m' c) (by rw [← h0, ← h1, ← h2, ← h3, ← h4, ← h7]; rfl) (fun _ => rfl) 4096 le_rfl
  rw [h5, h6]
  funext i
  obtain ⟨b, n, g, h, rfl⟩ : ∃ (b : Fin 4) (n : Fin 4096) (g : Fin 64) (h : Fin 16), i = ix3 b n ⟨16 * g.val + h.val, by omega⟩ := by
    have hi := (i 2).isLt
    change _ < 1024 at hi
    refine ⟨i 0, i 1, ⟨(i 2).val / 16, by omega⟩, ⟨(i 2).val % 16, by omega⟩, funext fun a => ?_⟩
    match a with
    | ⟨0, _⟩ => rfl
    | ⟨1, _⟩ => rfl
    | ⟨2, _⟩ => exact Fin.ext (by show (i 2).val = 16 * ((i 2).val / 16) + (i 2).val % 16; omega)
  exact (loop_out hl H.cr H.ci b n g h).trans (kernel_value m ρ c H b n g h).symm

/-- The value claim. -/
theorem algebraic : algebraic_KernelIdeal_ReferenceIdeal_pre_tame := by
  intro m ρ m' ρ' hp ha
  refine ⟨fun c => KernelIdeal.Gen.W6 m ρ c (Proc.devRef .tc KernelIdeal.main_v9), run m ρ, ?_⟩
  refine (θ_run _ _ _).mono (fun r h c => ?_) (ReferenceIdeal.Value.run m' ρ')
  obtain ⟨h0, h1, h2, h3, h4, h5, h6, h7⟩ := ha c
  exact ⟨(h c).1.trans ((Ref.out_eq m' c).trans (results_eq m ρ m' c hp h0 h1 h2 h3 h4 h5 h6 h7)), (h c).2⟩

/-- The reference's frame. -/
theorem frame_ref :
    quiescent_ReferenceIdeal :=
  fun m ρ _ => (θ_run _ _ _).mono (fun r h => ⟨fun c => (h c).2, sem_eq_zero_of_no_sems (by decide) _⟩) (ReferenceIdeal.Value.run m ρ)

end Cert.S5
-- ==== Proof.NormProj.lean ====
module

public import proofs.«01_k».proof.Proof.Gen.Kernel2Ideal.Value
public import Idealize.ShloMosaic.Lib.Pointwise
public import Idealize.ShloMosaic.Lib.VecWindow

@[expose] public section

/-! The input projection: what the kernel leaves of one block, and of the whole array. -/

noncomputable section
namespace Cert.Proj
open Idealize.ShloMosaic Idealize.ShloMosaic.TcCoe Cert.Kernel2Ideal Cert.Kernel2Ideal.Gen

set_option maxRecDepth 16384

/-! One block. -/

/-- A row's entry after the norm: `x · rsqrt (mean of squares + ε) · g`. -/
def normed (x : Fin 2048 → EReal) (g : EReal) (d : Fin 2048) : EReal :=
  x d * Ideal.rsqrt (Ideal.div (∑ k : Fin 2048, x k * x k) (Ideal.ofBits FTy.f32 1157627904#32) + Ideal.ofBits FTy.f32 897988541#32) * g

theorem pay_norm (x : Vec Ideal S1024x2048 .f32) (g : Vec Ideal S1x2048 .f32) (r : Fin 1024) (d : Fin 2048) :
    (k0_pay1 x g (ix2 r d) : EReal) = normed (fun k => x (ix2 r k)) (g (ix2 0 d)) d := by
  pointwise [k0_pay1, normed]

theorem pay_dot (x : Vec Ideal S1024x2048 .bf16) (w : Vec Ideal S2048x1152 .bf16) (r : Fin 1024) (n : Fin 1152) :
    (k0_pay2 x w (ix2 r n) : EReal) = ∑ k : Fin 2048, (x (ix2 r k) * w (ix2 k n) : EReal) := by
  pointwise [k0_pay2]

theorem sout_A (c i a1 h1 a2 h2 a3 h3 a4 h4 a5 h5 hc x0 x1 x2) :
    sout0_A_0 (F := Ideal) c i a1 h1 a2 h2 a3 h3 a4 h4 a5 h5 hc x0 x1 x2 = k0_pay1 x0 x1 := by
  unfold sout0_A_0
  dsimp only [kernelRun0_A]
  unfold kernelRun0_A.sl.HS0_1
  refine (View.read_writes_full _ _ _ _ _).trans ?_
  exact congrArg₂ k0_pay1 ((View.readAt_full _ _ _).trans (h1.read_unread x0)) ((View.readAt_full _ _ _).trans (h2.read_unread x1))

theorem out_A (c i a1 h1 a2 h2 a3 h3 a4 h4 a5 h5 hc x0 x1 x2) :
    out0_A_3 (F := Ideal) c i a1 h1 a2 h2 a3 h3 a4 h4 a5 h5 hc x0 x1 x2 = k0_pay2 (k0_pay1 x0 x1) x2 := by
  unfold out0_A_3
  dsimp only [kernelRun0_A]
  refine (View.read_writes_full _ _ _ _ _).trans ?_
  refine congrArg₂ k0_pay2 ?_ ((View.readAt_full _ _ _).trans (h3.read_unread x2))
  unfold kernelRun0_A.sl.v3 kernelRun0_A.sl.HS0_1
  refine (View.readCov_full _ _ _ _ _).trans ?_
  exact congrArg₂ k0_pay1 ((View.readAt_full _ _ _).trans (h1.read_unread x0)) ((View.readAt_full _ _ _).trans (h2.read_unread x1))

theorem out_B (c i a1 h1 a2 h2 a3 h3 a4 h4 a5 h5 hc x0 x1 x2 xs) :
    out0_B_3 (F := Ideal) c i a1 h1 a2 h2 a3 h3 a4 h4 a5 h5 hc x0 x1 x2 xs = k0_pay2 xs x2 := by
  unfold out0_B_3
  dsimp only [kernelRun0_B]
  refine (View.read_writes_full _ _ _ _ _).trans ?_
  exact congrArg₂ k0_pay2 ((View.readAt_full _ _ _).trans (h5.read_unread xs)) ((View.readAt_full _ _ _).trans (h3.read_unread x2))

/-! The whole array. -/

variable (m : (ℓ : Loc nD τ sig) → Buf (Elt Ideal) ℓ) (c : Dev nD)

/-- The projection's entry at a row and a column, from the arrays the kernel reads. -/
def entry (x : S16384x2048.Idx → EReal) (g : S1x2048.Idx → EReal) (w : S2048x4608.Idx → EReal) (r : Fin 16384) (n : Fin 4608) : EReal :=
  ∑ k : Fin 2048, normed (fun d => x (ix2 r d)) (g (ix2 0 k)) k * w (ix2 k n)

theorem idx : ∀ t : Fin grid0.N, win0_0.index t 0 = t.val / 4 ∧ win0_0.index t 1 = 0 ∧ win0_1.index t 0 = 0 ∧ win0_1.index t 1 = 0
    ∧ win0_2.index t 0 = 0 ∧ win0_2.index t 1 = t.val % 4 ∧ win0_3.index t 0 = t.val / 4 ∧ win0_3.index t 1 = t.val % 4 := by
  decide +kernel

theorem lt64 (t : Fin cfg0.N) : t.val < 64 := lt_of_lt_of_eq t.isLt N_0

theorem x_at (t : Fin cfg0.N) (r : Fin 1024) (d : Fin 2048) (q : Fin 16384) (hq : q.val = 1024 * (t.val / 4) + r.val) :
    (iblk m c 0 t (ix2 r d) : EReal) = V m c main_v0 (ix2 q d) := by
  refine congrArg (V m c main_v0) (funext fun a => Fin.ext ((win0_0.rect_emb_val t (ix2 r d) a).trans ?_))
  obtain ⟨e0, e1, -⟩ := idx t
  match a with
  | ⟨0, _⟩ => show win0_0.index t 0 * 1024 + r.val = q.val; rw [e0, hq]; omega
  | ⟨1, _⟩ => show win0_0.index t 1 * 2048 + d.val = d.val; rw [e1]; omega
theorem g_at (t : Fin cfg0.N) (d : Fin 2048) :
    (iblk m c 1 t (ix2 0 d) : EReal) = V m c main_v3 (ix2 0 d) := by
  refine congrArg (V m c main_v3) (funext fun a => Fin.ext ((win0_1.rect_emb_val t (ix2 0 d) a).trans ?_))
  obtain ⟨-, -, e0, e1, -⟩ := idx t
  match a with
  | ⟨0, _⟩ => show win0_1.index t 0 * 1 + 0 = 0; rw [e0]
  | ⟨1, _⟩ => show win0_1.index t 1 * 2048 + d.val = d.val; rw [e1]; omega
theorem w_at (t : Fin cfg0.N) (d : Fin 2048) (n : Fin 1152) (q : Fin 4608) (hq : q.val = 1152 * (t.val % 4) + n.val) :
    (iblk m c 2 t (ix2 d n) : EReal) = V m c main_v2 (ix2 d q) := by
  refine congrArg (V m c main_v2) (funext fun a => Fin.ext ((win0_2.rect_emb_val t (ix2 d n) a).trans ?_))
  obtain ⟨-, -, -, -, e0, e1, -⟩ := idx t
  match a with
  | ⟨0, _⟩ => show win0_2.index t 0 * 2048 + d.val = d.val; rw [e0]; omega
  | ⟨1, _⟩ => show win0_2.index t 1 * 1152 + n.val = q.val; rw [e1, hq]; omega

theorem after_A_fst (t : Fin cfg0.N) (h : t.val % 4 = 0) :
    (outsAt0 m c t.val t.isLt).1 = k0_pay2 (k0_pay1 (iblk m c 0 t) (iblk m c 1 t)) (iblk m c 2 t) := by
  rw [outsAt0_A m c t h]
  dsimp only
  rw [out_A]
theorem after_A_snd (t : Fin cfg0.N) (h : t.val % 4 = 0) :
    (outsAt0 m c t.val t.isLt).2 = k0_pay1 (iblk m c 0 t) (iblk m c 1 t) := by
  rw [outsAt0_A m c t h]
  dsimp only
  rw [sout_A]
theorem after_B_fst (t : Fin cfg0.N) (h : ¬ t.val % 4 = 0) :
    (outsAt0 m c t.val t.isLt).1 = k0_pay2 (outsAt0 m c (t.val - 1) (lt_of_le_of_lt (Nat.sub_le _ _) t.isLt)).2 (iblk m c 2 t) := by
  rw [outsAt0_B m c t h]
  dsimp only
  rw [out_B]
theorem after_B_snd (t : Fin cfg0.N) (h : ¬ t.val % 4 = 0) :
    (outsAt0 m c t.val t.isLt).2 = (outsAt0 m c (t.val - 1) (lt_of_le_of_lt (Nat.sub_le _ _) t.isLt)).2 := by
  rw [outsAt0_B m c t h]
  rfl

theorem norm_at (t : Fin cfg0.N) (r : Fin 1024) (d : Fin 2048) (q : Fin 16384) (hq : q.val = 1024 * (t.val / 4) + r.val) :
    (k0_pay1 (iblk m c 0 t) (iblk m c 1 t) (ix2 r d) : EReal) = normed (fun k => V m c main_v0 (ix2 q k)) (V m c main_v3 (ix2 0 d)) d :=
  (pay_norm _ _ r d).trans (congrArg₂ (fun a b => normed a b d) (funext fun k => x_at m c t r k q hq) (g_at m c t d))

/-- The scratch after each point: the normalised rows of the point's block. -/
theorem scratch (n : ℕ) (hn : n < cfg0.N) (r : Fin 1024) (d : Fin 2048) (q : Fin 16384) (hq : q.val = 1024 * (n / 4) + r.val) :
    ((outsAt0 m c n hn).2 (ix2 r d) : EReal) = normed (fun k => V m c main_v0 (ix2 q k)) (V m c main_v3 (ix2 0 d)) d := by
  induction n with
  | zero => exact (congrFun (after_A_snd m c ⟨0, hn⟩ rfl) (ix2 r d)).trans (norm_at m c ⟨0, hn⟩ r d q hq)
  | succ n ih =>
    by_cases h : (n + 1) % 4 = 0
    · exact (congrFun (after_A_snd m c ⟨n + 1, hn⟩ h) (ix2 r d)).trans (norm_at m c ⟨n + 1, hn⟩ r d q hq)
    · exact (congrFun (after_B_snd m c ⟨n + 1, hn⟩ h) (ix2 r d)).trans (ih (Nat.lt_of_succ_lt hn) (by rw [hq]; omega))

/-- The output block at each point. -/
theorem block (t : Fin cfg0.N) (r : Fin 1024) (n : Fin 1152) (q : Fin 16384) (hq : q.val = 1024 * (t.val / 4) + r.val)
    (p : Fin 4608) (hp : p.val = 1152 * (t.val % 4) + n.val) :
    ((outsAt0 m c t.val t.isLt).1 (ix2 r n) : EReal) = entry (V m c main_v0) (V m c main_v3) (V m c main_v2) q p := by
  by_cases h : t.val % 4 = 0
  · refine (congrFun (after_A_fst m c t h) (ix2 r n)).trans ((pay_dot _ _ r n).trans ?_)
    exact Finset.sum_congr rfl fun k _ => congrArg₂ (· * ·) (norm_at m c t r k q hq) (w_at m c t k n p hp)
  · refine (congrFun (after_B_fst m c t h) (ix2 r n)).trans ((pay_dot _ _ r n).trans ?_)
    exact Finset.sum_congr rfl fun k _ => congrArg₂ (· * ·) (scratch m c (t.val - 1) _ r k q (by rw [hq]; omega)) (w_at m c t k n p hp)

/-- The array after the run. -/
theorem arr : (dats m 0 c).arrAt 3 cfg0.N
    = fun i : S16384x4608.Idx => entry (V m c main_v0) (V m c main_v3) (V m c main_v2) (i 0) (i 1) := by
  refine (dats m 0 c).arrAt_eq_of_cover 3 _ (fun t _ => ?_) (fun i => (Value.covered_iff3 i).2 ?_)
  · rw [Value.flushed3]
    funext y
    obtain ⟨r, n, rfl⟩ : ∃ (r : Fin 1024) (n : Fin 1152), y = ix2 r n := ⟨y 0, y 1, by funext a; fin_cases a <;> rfl⟩
    obtain ⟨-, -, -, -, -, -, e0, e1⟩ := idx t
    refine block m c t r n _ ?_ _ ?_
    · refine (win0_3.rect_emb_val t (ix2 r n) 0).trans ?_
      show win0_3.index t 0 * 1024 + r.val = _
      rw [e0]; omega
    · refine (win0_3.rect_emb_val t (ix2 r n) 1).trans ?_
      show win0_3.index t 1 * 1152 + n.val = _
      rw [e1]; omega
  · have h0 : (i 0).val < 16384 := (i 0).isLt
    have h1 : (i 1).val < 4608 := (i 1).isLt
    omega

end Cert.Proj
end
-- ==== Proof.ProjHost.lean ====
module

public import proofs.«01_k».proof.Proof.NormProj

@[expose] public section

/-! The input projection: the arrays the call reads, from the program's arguments. -/

noncomputable section
namespace Cert.Proj
open Idealize.ShloMosaic Idealize.ShloMosaic.TcCoe Cert.Kernel2Ideal Cert.Kernel2Ideal.Gen

set_option maxRecDepth 16384

variable (m : (ℓ : Loc nD τ sig) → Buf (Elt Ideal) ℓ) (c : Dev nD)

theorem V_x : V m c main_v0 = shapeCast S16384x2048 (m (c, main_arg0)) shapeCasts_S4x4096x2048_S16384x2048 := by
  show StableHlo.after (List.flatten [hostOps0, hostOps0_1, hostOps0_2]) _ _ = _
  simp only [hostOps0, hostOps0_1, hostOps0_2, List.flatten, List.append, StableHlo.TRef.binary, StableHlo.TRef.unary, StableHlo.TRef.toBuf, StableHlo.TRef.ofBuf, cast_eq]
  after_results <;> rfl

theorem V_g : V m c main_v3 = shapeCast S1x2048 (m (c, main_arg1)) shapeCasts_S2048_S1x2048 := by
  show StableHlo.after (List.flatten [hostOps0, hostOps0_1, hostOps0_2]) _ _ = _
  simp only [hostOps0, hostOps0_1, hostOps0_2, List.flatten, List.append, StableHlo.TRef.binary, StableHlo.TRef.unary, StableHlo.TRef.toBuf, StableHlo.TRef.ofBuf, cast_eq]
  after_results <;> rfl
theorem V_w : V m c main_v2 = (truncf (F := Ideal) .bf16 (φ := .f32) (pad S2048x4608 ![0, 0] ![0, 224] ![0, 0] (m (c, main_arg2) : FVec Ideal S2048x4384 .f32) (sitofp (F := Ideal) .f32 (constantI S_ 32 0#32)) pads_S2048x4384_S2048x4608_000_02240 h_S_) bitsLt_bf16_f32 : FVec Ideal S2048x4608 .bf16) := by
  show StableHlo.after (List.flatten [hostOps0, hostOps0_1, hostOps0_2]) _ _ = _
  simp only [hostOps0, hostOps0_1, hostOps0_2, List.flatten, List.append, StableHlo.TRef.binary, StableHlo.TRef.unary, StableHlo.TRef.toBuf, StableHlo.TRef.ofBuf, cast_eq]
  after_results

theorem fold_rows (x : FVec Ideal S4x4096x2048 .f32) (q : Fin 16384) (d : Fin 2048) :
    (shapeCast S16384x2048 x shapeCasts_S4x4096x2048_S16384x2048 (ix2 q d) : EReal) = x (ix3 ⟨q.val / 4096, by omega⟩ ⟨q.val % 4096, by omega⟩ d) := by
  pointwise

theorem as_row (g : FVec Ideal S2048 .f32) (d : Fin 2048) :
    (shapeCast S1x2048 g shapeCasts_S2048_S1x2048 (ix2 0 d) : EReal) = g (ix1 d) := by
  pointwise

theorem pad_w (w : FVec Ideal S2048x4384 .f32) (k : Fin 2048) (n : Fin 4608) :
    (truncf (F := Ideal) .bf16 (φ := .f32) (pad S2048x4608 ![0, 0] ![0, 224] ![0, 0] w (sitofp (F := Ideal) .f32 (constantI S_ 32 0#32)) pads_S2048x4384_S2048x4608_000_02240 h_S_) bitsLt_bf16_f32 (ix2 k n) : EReal)
      = if h : n.val < 4384 then w (ix2 k ⟨n.val, h⟩) else (0 : EReal) := by
  pointwise
  split
  · rfl
  · show (((0#32 : BitVec 32).toInt : ℝ) : EReal) = 0
    simp

end Cert.Proj
end
-- ==== Proof.ProjAgree.lean ====
module

public import proofs.«01_k».proof.Defs
public import proofs.«01_k».proof.Proof.ProjHost
public import proofs.«01_k».proof.Proof.Gen.Reference2Ideal.Run
public import proofs.«01_k».proof.Proof.Gen.Reference2Ideal.Read
public import Idealize.ShloMosaic.Lib.Quiescent

@[expose] public section

/-! The input projection: the call and the reference end with the same array. -/

noncomputable section
namespace Cert.Proj
open Idealize.ShloMosaic Idealize.ShloMosaic.TcCoe Idealize.SL.Sem

set_option maxRecDepth 16384

/-- The projection's entry at a row and a column, from the arguments. -/
def proj (x : Kernel2Ideal.S4x4096x2048.Idx → EReal) (g : Kernel2Ideal.S2048.Idx → EReal) (w : Kernel2Ideal.S2048x4384.Idx → EReal)
    (q : Fin 16384) (n : Fin 4608) : EReal :=
  if h : n.val < 4384 then
    ∑ k : Fin 2048, normed (fun d => x (ix3 ⟨q.val / 4096, by omega⟩ ⟨q.val % 4096, by omega⟩ d)) (g (ix1 k)) k * w (ix2 k ⟨n.val, h⟩)
  else 0

section Kernel
open Kernel2Ideal Kernel2Ideal.Gen
variable (m : (ℓ : Loc nD τ sig) → Buf (Elt Ideal) ℓ) (c : Dev nD)

theorem kernel_value : (dats m 0 c).arrAt 3 cfg0.N
    = fun i : S16384x4608.Idx => proj (m (c, main_arg0)) (m (c, main_arg1)) (m (c, main_arg2)) (i 0) (i 1) := by
  rw [arr, V_x, V_g, V_w]
  funext i
  have e : ∀ k : Fin 2048, normed (fun d => (shapeCast S16384x2048 (m (c, main_arg0) : FVec Ideal S4x4096x2048 .f32) shapeCasts_S4x4096x2048_S16384x2048 (ix2 (i 0) d) : EReal))
      (shapeCast S1x2048 (m (c, main_arg1) : FVec Ideal S2048 .f32) shapeCasts_S2048_S1x2048 (ix2 0 k) : EReal) k
      = normed (fun d => m (c, main_arg0) (ix3 ⟨(i 0).val / 4096, Nat.div_lt_of_lt_mul (i 0).isLt⟩ ⟨(i 0).val % 4096, Nat.mod_lt _ (by decide)⟩ d)) (m (c, main_arg1) (ix1 k)) k := fun k =>
    congrArg₂ (fun a b => normed a b k) (funext fun d => fold_rows _ _ d) (as_row _ k)
  refine (Finset.sum_congr rfl fun k _ => congrArg₂ (· * ·) (e k) (pad_w _ k (i 1))).trans ?_
  unfold proj
  split
  · rfl
  · exact Finset.sum_eq_zero fun k _ => mul_zero _
end Kernel

section Reference
open Reference2Ideal Reference2Ideal.Read

theorem ref_dot (x0 : FVec Ideal S4x4096x2048 .f32) (x1 : FVec Ideal S2048 .f32) (x2 : FVec Ideal S2048x4384 .f32) (b : Fin 4) (s : Fin 4096) (n : Fin 4384) :
    (val_main_v13 (F := Ideal) x0 x1 x2 (ix3 b s n) : EReal)
      = ∑ k : Fin 2048, normed (fun d => x0 (ix3 b s d)) (x1 (ix1 k)) k * x2 (ix2 k n) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, normed]

theorem pad_cols (y : FVec Ideal S16384x4384 .f32) (q : Fin 16384) (n : Fin 4608) :
    (pad S16384x4608 ![0, 0] ![0, 224] ![0, 0] y (sitofp (F := Ideal) .f32 (constantI S_ 32 0#32)) pads_S16384x4384_S16384x4608_000_02240 h_S_ (ix2 q n) : EReal)
      = if h : n.val < 4384 then y (ix2 q ⟨n.val, h⟩) else 0 := by
  pointwise
  split
  · rfl
  · show (((0#32 : BitVec 32).toInt : ℝ) : EReal) = 0
    simp

theorem ref_value (x0 : FVec Ideal S4x4096x2048 .f32) (x1 : FVec Ideal S2048 .f32) (x2 : FVec Ideal S2048x4384 .f32) :
    val_main_v15 (F := Ideal) x0 x1 x2 = fun i : S16384x4608.Idx => proj x0 x1 x2 (i 0) (i 1) := by
  funext i
  have e : (val_main_v15 (F := Ideal) x0 x1 x2 i : EReal) = if h : (i 1).val < 4384 then val_main_v14 (F := Ideal) x0 x1 x2 (ix2 (i 0) ⟨(i 1).val, h⟩) else 0 :=
    (congrArg (val_main_v15 (F := Ideal) x0 x1 x2) (eq_ix2 i)).trans (pad_cols _ (i 0) (i 1))
  refine e.trans ?_
  unfold proj
  split
  · rename_i h
    refine (val_main_v14_apply x0 x1 x2 _).trans (Eq.trans (congrArg (val_main_v13 (F := Ideal) x0 x1 x2) (funext fun a => Fin.ext ?_)) (ref_dot x0 x1 x2 ⟨(i 0).val / 4096, Nat.div_lt_of_lt_mul (i 0).isLt⟩ ⟨(i 0).val % 4096, Nat.mod_lt _ (by decide)⟩ ⟨(i 1).val, h⟩))
    match a with
    | ⟨0, _⟩ => show ((i 0).val * 4384 + (i 1).val) / 17956864 = (i 0).val / 4096; omega
    | ⟨1, _⟩ => show ((i 0).val * 4384 + (i 1).val) / 4384 % 4096 = (i 0).val % 4096; omega
    | ⟨2, _⟩ => show ((i 0).val * 4384 + (i 1).val) % 4384 = (i 1).val; omega
  · rfl
end Reference

/-- The value claim. -/
theorem algebraic : algebraic_Kernel2Ideal_Reference2Ideal := by
  intro m ρ m' ρ' _ ha
  refine ⟨fun c => (Kernel2Ideal.Gen.dats m 0 c).arrAt 3 Kernel2Ideal.cfg0.N, Kernel2Ideal.Value.run_blocks m ρ, ?_⟩
  refine (θ_run _ _ _).mono (fun r h c => ?_) (Reference2Ideal.Value.run m' ρ')
  obtain ⟨h0, h1, h2⟩ := ha c
  refine ⟨(h c).1.trans ((Reference2Ideal.Read.val_main_v15_eq _ _ _).trans ((ref_value _ _ _).trans ?_)), (h c).2⟩
  rw [h0, h1, h2]
  exact (kernel_value m c).symm

/-- The reference's frame. -/
theorem frame_ref : quiescent_Reference2Ideal :=
  fun m ρ _ => (θ_run _ _ _).mono (fun r h => ⟨fun c => (h c).2, sem_eq_zero_of_no_sems (by decide) _⟩) (Reference2Ideal.Value.run m ρ)

end Cert.Proj
end
-- ==== Proof.GluBlock.lean ====
module

public import proofs.«01_k».proof.Proof.Gen.Kernel3Ideal.Value
public import Idealize.ShloMosaic.Lib.Pointwise
public import Idealize.ShloMosaic.Lib.VecWindow

@[expose] public section

/-! The gated unit after the recurrence: what the kernel leaves of one block, and of the whole array. -/

noncomputable section
namespace Cert.Glu
open Idealize.ShloMosaic Idealize.ShloMosaic.TcCoe Cert.Kernel3Ideal Cert.Kernel3Ideal.Gen

set_option maxRecDepth 16384

/-- The tanh form of GELU. -/
def gelu (a : EReal) : EReal :=
  a * (Ideal.ofBits FTy.f32 1056964608#32 * (1 + Ideal.tanh (Ideal.ofBits FTy.f32 1061962282#32 * (a + Ideal.ofBits FTy.f32 1027024659#32 * (a * a * a)))))

/-- One entry of a row: `gelu z · sigmoid (gelu z · W + b)`, with `z` the state's output plus the skip. -/
def glu (z : Fin 1024 → EReal) (w : Fin 1024 → EReal) (b : EReal) (n : Fin 1024) : EReal :=
  gelu (z n) * Ideal.div 1 (1 + Ideal.exp (-(∑ k : Fin 1024, gelu (z k) * w k + b)))

theorem gelu_assoc (a : EReal) : Ideal.ofBits FTy.f32 1056964608#32 * a
      * (1 + Ideal.tanh (Ideal.ofBits FTy.f32 1061962282#32 * (a + Ideal.ofBits FTy.f32 1027024659#32 * (a * a * a)))) = gelu a := by
  rw [mul_comm _ a, mul_assoc]; rfl

theorem pay_at (y : Vec Ideal S512x1024 .f32) (d : Vec Ideal S1x1024 .f32) (u : Vec Ideal S512x1024 .f32) (w : Vec Ideal S1024x1024 .bf16)
    (b : Vec Ideal S1x1024 .f32) (r : Fin 512) (n : Fin 1024) :
    (k0_pay1 y d u w b (ix2 r n) : EReal)
      = glu (fun k => (y (ix2 r k) + d (ix2 0 k) * u (ix2 r k) : EReal)) (fun k => w (ix2 k n)) (b (ix2 0 n)) n := by
  pointwise [k0_pay1]
  simp only [gelu_assoc]
  rfl

variable (m : (ℓ : Loc nD τ sig) → Buf (Elt Ideal) ℓ) (c : Dev nD)

theorem out_named (c i a1 h1 a2 h2 a3 h3 a4 h4 a5 h5 a6 h6 x0 x1 x2 x3 x4) :
    out0_A_5 (F := Ideal) c i a1 h1 a2 h2 a3 h3 a4 h4 a5 h5 a6 h6 x0 x1 x2 x3 x4 = k0_pay1 x0 x2 x1 x3 x4 := by
  unfold out0_A_5
  dsimp only [kernelRun0_A]
  refine (View.read_writes_full _ _ _ _ _).trans ?_
  refine congr (congr (congr (congrArg₂ k0_pay1 ?_ ?_) ?_) ?_) ?_
  · exact (View.readAt_full _ _ _).trans (h1.read_unread x0)
  · exact (View.readAt_full _ _ _).trans (h3.read_unread x2)
  · exact (View.readAt_full _ _ _).trans (h2.read_unread x1)
  · exact (View.readAt_full _ _ _).trans (h4.read_unread x3)
  · exact (View.readAt_full _ _ _).trans (h5.read_unread x4)

theorem out_A (t : Fin cfg0.N) : outsAt0 m c t = k0_pay1 (iblk m c 0 t) (iblk m c 2 t) (X0_1 m c t) (iblk m c 3 t) (iblk m c 4 t) := by
  unfold outsAt0
  rw [out_named]

theorem idx : ∀ t : Fin grid0.N, win0_0.index t 0 = t.val ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = t.val ∧ win0_5.index t 1 = 0 := by
  decide +kernel

theorem y_at (t : Fin cfg0.N) (r : Fin 512) (d : Fin 1024) (q : Fin 16384) (hq : q.val = 512 * t.val + r.val) :
    (iblk m c 0 t (ix2 r d) : EReal) = V m c main_arg0 (ix2 q d) := by
  refine congrArg (V m c main_arg0) (funext fun a => Fin.ext ((win0_0.rect_emb_val t (ix2 r d) a).trans ?_))
  obtain ⟨e0, e1, -⟩ := idx t
  match a with
  | ⟨0, _⟩ => show win0_0.index t 0 * 512 + r.val = q.val; rw [e0, hq]; omega
  | ⟨1, _⟩ => show win0_0.index t 1 * 1024 + d.val = d.val; rw [e1]; omega
theorem u_at (t : Fin cfg0.N) (r : Fin 512) (d : Fin 1024) (q : Fin 16384) (hq : q.val = 512 * t.val + r.val) :
    (X0_1 m c t (ix2 r d) : EReal) = V m c main_arg1 (ix2 q ⟨d.val, by omega⟩) := by
  unfold X0_1 Pipeline.Window.fill
  rw [dif_pos (moved0_1 t _)]
  refine congrArg (V m c main_arg1) (funext fun a => Fin.ext ((win0_1.rect_emb_val t _ a).trans ?_))
  obtain ⟨-, -, e0, e1, -⟩ := idx t
  match a with
  | ⟨0, _⟩ => show win0_1.index t 0 * 512 + r.val = q.val; rw [e0, hq]; omega
  | ⟨1, _⟩ => show win0_1.index t 1 * 1024 + d.val = d.val; rw [e1]; omega
theorem d_at (t : Fin cfg0.N) (d : Fin 1024) : (iblk m c 2 t (ix2 0 d) : EReal) = V m c main_v0 (ix2 0 d) := by
  refine congrArg (V m c main_v0) (funext fun a => Fin.ext ((win0_2.rect_emb_val t (ix2 0 d) a).trans ?_))
  obtain ⟨-, -, -, -, e0, e1, -⟩ := idx t
  match a with
  | ⟨0, _⟩ => show win0_2.index t 0 * 1 + 0 = 0; rw [e0]
  | ⟨1, _⟩ => show win0_2.index t 1 * 1024 + d.val = d.val; rw [e1]; omega
theorem w_at (t : Fin cfg0.N) (k n : Fin 1024) : (iblk m c 3 t (ix2 k n) : EReal) = V m c main_v1 (ix2 k n) := by
  refine congrArg (V m c main_v1) (funext fun a => Fin.ext ((win0_3.rect_emb_val t (ix2 k n) a).trans ?_))
  obtain ⟨-, -, -, -, -, -, e0, e1, -⟩ := idx t
  match a with
  | ⟨0, _⟩ => show win0_3.index t 0 * 1024 + k.val = k.val; rw [e0]; omega
  | ⟨1, _⟩ => show win0_3.index t 1 * 1024 + n.val = n.val; rw [e1]; omega
theorem b_at (t : Fin cfg0.N) (d : Fin 1024) : (iblk m c 4 t (ix2 0 d) : EReal) = V m c main_v2 (ix2 0 d) := by
  refine congrArg (V m c main_v2) (funext fun a => Fin.ext ((win0_4.rect_emb_val t (ix2 0 d) a).trans ?_))
  obtain ⟨-, -, -, -, -, -, -, -, e0, e1, -⟩ := idx t
  match a with
  | ⟨0, _⟩ => show win0_4.index t 0 * 1 + 0 = 0; rw [e0]
  | ⟨1, _⟩ => show win0_4.index t 1 * 1024 + d.val = d.val; rw [e1]; omega

/-- The unit's entry at a row and a column, from the arrays the kernel reads. -/
def entry (y : S16384x1024.Idx → EReal) (u : S16384x4608.Idx → EReal) (d : S1x1024.Idx → EReal) (w : S1024x1024.Idx → EReal) (b : S1x1024.Idx → EReal)
    (q : Fin 16384) (n : Fin 1024) : EReal :=
  glu (fun k => y (ix2 q k) + d (ix2 0 k) * u (ix2 q ⟨k.val, by omega⟩)) (fun k => w (ix2 k n)) (b (ix2 0 n)) n

/-- The output block at each point. -/
theorem block (t : Fin cfg0.N) (r : Fin 512) (n : Fin 1024) (q : Fin 16384) (hq : q.val = 512 * t.val + r.val) (p : Fin 1024) (hp : p.val = n.val) :
    (outsAt0 m c t (ix2 r n) : EReal) = entry (V m c main_arg0) (V m c main_arg1) (V m c main_v0) (V m c main_v1) (V m c main_v2) q p := by
  obtain rfl : p = n := Fin.ext hp
  rw [out_A, pay_at]
  unfold entry
  refine congr (congr (congrArg₂ glu (funext fun k => ?_) (funext fun k => w_at m c t k p)) (b_at m c t p)) rfl
  exact congrArg₂ (fun a b : EReal => a + b) (y_at m c t r k q hq) (congrArg₂ (fun a b : EReal => a * b) (d_at m c t k) (u_at m c t r k q hq))

theorem flush : ∀ t : Fin cfg0.N, (cfg0.win 5).flush t = true := by decide +kernel

/-- The array after the run. -/
theorem arr : (dats m 0 c).arrAt 5 cfg0.N
    = fun i : S16384x1024.Idx => entry (V m c main_arg0) (V m c main_arg1) (V m c main_v0) (V m c main_v1) (V m c main_v2) (i 0) (i 1) := by
  refine (dats m 0 c).arrAt_eq_of_cover 5 _ (fun t _ => ?_) (fun i => ?_)
  · rw [Value.flushed5]
    funext y
    obtain ⟨r, n, rfl⟩ : ∃ (r : Fin 512) (n : Fin 1024), y = ix2 r n := ⟨y 0, y 1, by funext a; fin_cases a <;> rfl⟩
    obtain ⟨-, -, -, -, -, -, -, -, -, -, e0, e1⟩ := idx t
    refine block m c t r n _ ?_ _ ?_
    · refine (win0_5.rect_emb_val t (ix2 r n) 0).trans ?_
      show win0_5.index t 0 * 512 + r.val = _
      rw [e0]; omega
    · refine (win0_5.rect_emb_val t (ix2 r n) 1).trans ?_
      show win0_5.index t 1 * 1024 + n.val = _
      rw [e1]; omega
  · have h0 := (i 0).isLt
    change _ < 16384 at h0
    obtain ⟨t, ht⟩ : ∃ t : Fin cfg0.N, t.val = (i 0).val / 512 := ⟨⟨(i 0).val / 512, lt_of_lt_of_eq (by omega) N_0.symm⟩, rfl⟩
    obtain ⟨r, hr⟩ : ∃ r : Fin 512, r.val = (i 0).val % 512 := ⟨⟨(i 0).val % 512, by omega⟩, rfl⟩
    obtain ⟨-, -, -, -, -, -, -, -, -, -, e0, e1⟩ := idx t
    have hi : i = (win0_5.rect t).emb (ix2 r (i 1)) := by
      funext a
      refine Fin.ext (Eq.trans ?_ (win0_5.rect_emb_val t (ix2 r (i 1)) a).symm)
      match a with
      | ⟨0, _⟩ => show (i 0).val = win0_5.index t 0 * 512 + r.val; rw [e0]; omega
      | ⟨1, _⟩ => show (i 1).val = win0_5.index t 1 * 1024 + (i 1).val; rw [e1]; omega
    refine ⟨t, flush t, ?_⟩
    rw [hi]
    exact ((cfg0.win 5).blk t).view.emb_mem_set _

end Cert.Glu
end
-- ==== Proof.GluAgree.lean ====
module

public import proofs.«01_k».proof.Defs
public import proofs.«01_k».proof.Proof.GluBlock
public import proofs.«01_k».proof.Proof.Gen.Reference3Ideal.Run
public import proofs.«01_k».proof.Proof.Gen.Reference3Ideal.Read
public import Idealize.ShloMosaic.Lib.Quiescent

@[expose] public section

/-! The gated unit after the recurrence: the call and the reference end with the same array. -/

noncomputable section
namespace Cert.Glu
open Idealize.ShloMosaic Idealize.ShloMosaic.TcCoe Idealize.SL.Sem

set_option maxRecDepth 16384

/-- The unit's entry at a row and a column, from the arguments. -/
def unit (y : Kernel3Ideal.S16384x1024.Idx → EReal) (u : Kernel3Ideal.S16384x4608.Idx → EReal) (d : Kernel3Ideal.S1024.Idx → EReal)
    (w : Kernel3Ideal.S1024x1024.Idx → EReal) (b : Kernel3Ideal.S1024.Idx → EReal) (q : Fin 16384) (n : Fin 1024) : EReal :=
  glu (fun k => y (ix2 q k) + d (ix1 k) * u (ix2 q ⟨k.val, by omega⟩)) (fun k => w (ix2 k n)) (b (ix1 n)) n

section Kernel
open Kernel3Ideal Kernel3Ideal.Gen
variable (m : (ℓ : Loc nD τ sig) → Buf (Elt Ideal) ℓ) (c : Dev nD)

theorem V_d : V m c main_v0 = shapeCast S1x1024 (m (c, main_arg2)) shapeCasts_S1024_S1x1024 := by
  show StableHlo.after hostOps0 _ _ = _
  unfold hostOps0
  after_results
  rfl
theorem V_w : (V m c main_v1 : S1024x1024.Idx → EReal) = m (c, main_arg3) := by
  show StableHlo.after hostOps0 _ _ = _
  unfold hostOps0
  after_results
  rfl
theorem V_b : V m c main_v2 = shapeCast S1x1024 (m (c, main_arg4)) shapeCasts_S1024_S1x1024 := by
  show StableHlo.after hostOps0 _ _ = _
  unfold hostOps0
  after_results
  rfl

theorem as_row (g : FVec Ideal S1024 .f32) (d : Fin 1024) :
    (shapeCast S1x1024 g shapeCasts_S1024_S1x1024 (ix2 0 d) : EReal) = g (ix1 d) := by
  pointwise

theorem kernel_value : (dats m 0 c).arrAt 5 cfg0.N
    = fun i : S16384x1024.Idx => unit (m (c, main_arg0)) (m (c, main_arg1)) (m (c, main_arg2)) (m (c, main_arg3)) (m (c, main_arg4)) (i 0) (i 1) := by
  rw [arr, V_d, V_w, V_b, V_main_arg0, V_main_arg1]
  funext i
  show entry _ _ _ _ _ _ _ = unit _ _ _ _ _ _ _
  unfold entry unit
  refine congr (congr (congrArg₂ glu (funext fun k => ?_) rfl) (as_row _ (i 1))) rfl
  exact congrArg₂ (fun a b : EReal => a + b) rfl (congrArg₂ (fun a b : EReal => a * b) (as_row _ k) rfl)
end Kernel

section Reference
open Reference3Ideal Reference3Ideal.Read

theorem ref_at (x0 : FVec Ideal S16384x1024 .f32) (x1 : FVec Ideal S16384x4608 .f32) (x2 : FVec Ideal S1024 .f32) (x3 : FVec Ideal S1024x1024 .f32)
    (x4 : FVec Ideal S1024 .f32) (r : Fin 16384) (n : Fin 1024) :
    (val_main_v29 (F := Ideal) x0 x1 x2 x3 x4 (ix2 r n) : EReal) = unit x0 x1 x2 x3 x4 r n := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  rfl

theorem ref_value (x0 : FVec Ideal S16384x1024 .f32) (x1 : FVec Ideal S16384x4608 .f32) (x2 : FVec Ideal S1024 .f32) (x3 : FVec Ideal S1024x1024 .f32)
    (x4 : FVec Ideal S1024 .f32) : val_main_v29 (F := Ideal) x0 x1 x2 x3 x4 = fun i : S16384x1024.Idx => unit x0 x1 x2 x3 x4 (i 0) (i 1) :=
  funext fun i => (congrArg (val_main_v29 (F := Ideal) x0 x1 x2 x3 x4) (eq_ix2 i)).trans (ref_at x0 x1 x2 x3 x4 (i 0) (i 1))
end Reference

/-- The value claim. -/
theorem algebraic : algebraic_Kernel3Ideal_Reference3Ideal := by
  intro m ρ m' ρ' _ ha
  refine ⟨fun c => (Kernel3Ideal.Gen.dats m 0 c).arrAt 5 Kernel3Ideal.cfg0.N, Kernel3Ideal.Value.run_blocks m ρ, ?_⟩
  refine (θ_run _ _ _).mono (fun r h c => ?_) (Reference3Ideal.Value.run m' ρ')
  obtain ⟨h0, h1, h2, h3, h4⟩ := ha c
  refine ⟨(h c).1.trans ((Reference3Ideal.Read.val_main_v29_eq _ _).trans ((ref_value _ _ _ _ _).trans ?_)), (h c).2⟩
  rw [h0, h1, h2, h3, h4]
  exact (kernel_value m c).symm

/-- The reference's frame. -/
theorem frame_ref : quiescent_Reference3Ideal :=
  fun m ρ _ => (θ_run _ _ _).mono (fun r h => ⟨fun c => (h c).2, sem_eq_zero_of_no_sems (by decide) _⟩) (Reference3Ideal.Value.run m ρ)

end Cert.Glu
end
-- ==== Proof.OutProjBlock.lean ====
module

public import Idealize.ShloMosaic.Lib.Pipeline.ValueKit.Basic
public import proofs.«01_k».proof.Proof.NormProj
public import proofs.«01_k».proof.Proof.Gen.Kernel4Ideal.Value

@[expose] public section

/-! The output projection: what the kernel leaves of one block, and of the whole arrays. -/

noncomputable section
namespace Cert.OutProj
open Idealize.ShloMosaic Idealize.ShloMosaic.TcCoe Cert.Kernel4Ideal Cert.Kernel4Ideal.Gen

set_option maxRecDepth 16384

/-! One block. -/

/-- The residual's entry: `x + (a · u + b · v)`, the mixed row in its two halves. -/
def mixed (x : EReal) (a b u v : Fin 1024 → EReal) : EReal := x + (∑ k : Fin 1024, a k * u k + ∑ k : Fin 1024, b k * v k)

theorem pay_mix (x : Vec Ideal S512x2048 .f32) (a : Vec Ideal S512x1024 .bf16) (u : Vec Ideal S1024x2048 .bf16) (b : Vec Ideal S512x1024 .bf16)
    (v : Vec Ideal S1024x2048 .bf16) (r : Fin 512) (n : Fin 2048) :
    (k0_pay2 x a u b v (ix2 r n) : EReal)
      = mixed (x (ix2 r n)) (fun k => a (ix2 r k)) (fun k => b (ix2 r k)) (fun k => u (ix2 k n)) (fun k => v (ix2 k n)) := by
  pointwise [k0_pay2, mixed]

theorem pay_norm (x : Vec Ideal S512x2048 .f32) (a : Vec Ideal S512x1024 .bf16) (u : Vec Ideal S1024x2048 .bf16) (b : Vec Ideal S512x1024 .bf16)
    (v : Vec Ideal S1024x2048 .bf16) (g : Vec Ideal S1x2048 .f32) (r : Fin 512) (n : Fin 2048) :
    (k0_pay4 x a u b v g (ix3 r 0 n) : EReal) = Proj.normed (fun k => k0_pay2 x a u b v (ix2 r k)) (g (ix2 0 n)) n := by
  unfold k0_pay4 k0_pay3
  generalize k0_pay2 x a u b v = h
  pointwise [Proj.normed]

theorem out_mix (x0 x1 x2 x3 x4 x5 x6 x7) : out0_8 (F := Ideal) x0 x1 x2 x3 x4 x5 x6 x7 = k0_pay2 x2 x0 x3 x1 x4 := by
  unfold out0_8
  refine (View.canon_cons_unit_lit _ _ _ (by decide)).trans ?_
  refine congr (congr (congr (congrArg₂ k0_pay2 ?_ ?_) ?_) ?_) ?_ <;> exact View.ld_unit_lit _ _ (by decide)

theorem out_norm (x0 x1 x2 x3 x4 x5 x6 x7) : out0_9 (F := Ideal) x0 x1 x2 x3 x4 x5 x6 x7 = k0_pay4 x2 x0 x3 x1 x4 x5 := by
  unfold out0_9
  refine (View.canon_cons_unit_lit _ _ _ (by decide)).trans ?_
  refine congr (congr (congr (congr (congrArg₂ k0_pay4 ?_ ?_) ?_) ?_) ?_) ?_ <;> exact View.ld_unit_lit _ _ (by decide)

/-! The whole arrays. -/

variable (m : (ℓ : Loc nD τ sig) → Buf (Elt Ideal) ℓ) (c : Dev nD)

theorem idx_in : ∀ t : Fin grid0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0 := by
  decide +kernel
theorem idx_out : ∀ t : Fin grid0.N, win0_8.index t 0 = t.val ∧ win0_8.index t 1 = 0
    ∧ win0_9.index t 0 = t.val ∧ win0_9.index t 1 = 0 ∧ win0_9.index t 2 = 0 := by
  decide +kernel

theorem a_at (t : Fin cfg0.N) (r : Fin 512) (d : Fin 1024) (q : Fin 16384) (hq : q.val = 512 * t.val + r.val) :
    (iblk m c 0 t (ix2 r d) : EReal) = V m c main_arg0 (ix2 q d) := by
  refine congrArg (V m c main_arg0) (funext fun a => Fin.ext ((win0_0.rect_emb_val t (ix2 r d) a).trans ?_))
  obtain ⟨e0, e1, -⟩ := idx_in t
  match a with
  | ⟨0, _⟩ => show win0_0.index t 0 * 512 + r.val = q.val; rw [e0, hq]; omega
  | ⟨1, _⟩ => show win0_0.index t 1 * 1024 + d.val = d.val; rw [e1]; omega
theorem b_at (t : Fin cfg0.N) (r : Fin 512) (d : Fin 1024) (q : Fin 16384) (hq : q.val = 512 * t.val + r.val) :
    (iblk m c 1 t (ix2 r d) : EReal) = V m c main_arg1 (ix2 q d) := by
  refine congrArg (V m c main_arg1) (funext fun a => Fin.ext ((win0_1.rect_emb_val t (ix2 r d) a).trans ?_))
  obtain ⟨-, -, e0, e1, -⟩ := idx_in t
  match a with
  | ⟨0, _⟩ => show win0_1.index t 0 * 512 + r.val = q.val; rw [e0, hq]; omega
  | ⟨1, _⟩ => show win0_1.index t 1 * 1024 + d.val = d.val; rw [e1]; omega
theorem x_at (t : Fin cfg0.N) (r : Fin 512) (d : Fin 2048) (q : Fin 16384) (hq : q.val = 512 * t.val + r.val) :
    (iblk m c 2 t (ix2 r d) : EReal) = V m c main_v0 (ix2 q d) := by
  refine congrArg (V m c main_v0) (funext fun a => Fin.ext ((win0_2.rect_emb_val t (ix2 r d) a).trans ?_))
  obtain ⟨-, -, -, -, e0, e1, -⟩ := idx_in t
  match a with
  | ⟨0, _⟩ => show win0_2.index t 0 * 512 + r.val = q.val; rw [e0, hq]; omega
  | ⟨1, _⟩ => show win0_2.index t 1 * 2048 + d.val = d.val; rw [e1]; omega
theorem u_at (t : Fin cfg0.N) (r : Fin 1024) (d : Fin 2048) : (iblk m c 3 t (ix2 r d) : EReal) = V m c main_v12 (ix2 r d) := by
  refine congrArg (V m c main_v12) (funext fun a => Fin.ext ((win0_3.rect_emb_val t (ix2 r d) a).trans ?_))
  obtain ⟨-, -, -, -, -, -, e0, e1, -⟩ := idx_in t
  match a with
  | ⟨0, _⟩ => show win0_3.index t 0 * 1024 + r.val = r.val; rw [e0]; omega
  | ⟨1, _⟩ => show win0_3.index t 1 * 2048 + d.val = d.val; rw [e1]; omega
theorem v_at (t : Fin cfg0.N) (r : Fin 1024) (d : Fin 2048) : (iblk m c 4 t (ix2 r d) : EReal) = V m c main_v13 (ix2 r d) := by
  refine congrArg (V m c main_v13) (funext fun a => Fin.ext ((win0_4.rect_emb_val t (ix2 r d) a).trans ?_))
  obtain ⟨-, -, -, -, -, -, -, -, e0, e1, -⟩ := idx_in t
  match a with
  | ⟨0, _⟩ => show win0_4.index t 0 * 1024 + r.val = r.val; rw [e0]; omega
  | ⟨1, _⟩ => show win0_4.index t 1 * 2048 + d.val = d.val; rw [e1]; omega
theorem g_at (t : Fin cfg0.N) (r : Fin 1) (d : Fin 2048) : (iblk m c 5 t (ix2 r d) : EReal) = V m c main_v14 (ix2 r d) := by
  refine congrArg (V m c main_v14) (funext fun a => Fin.ext ((win0_5.rect_emb_val t (ix2 r d) a).trans ?_))
  obtain ⟨-, -, -, -, -, -, -, -, -, -, e0, e1⟩ := idx_in t
  match a with
  | ⟨0, _⟩ => show win0_5.index t 0 * 1 + r.val = r.val; rw [e0]; omega
  | ⟨1, _⟩ => show win0_5.index t 1 * 2048 + d.val = d.val; rw [e1]; omega

/-- The residual's entry at a row and a column, from the arrays the kernel reads. -/
def entry (x : S16384x2048.Idx → EReal) (a b : S16384x1024.Idx → EReal) (u v : S1024x2048.Idx → EReal) (q : Fin 16384) (n : Fin 2048) : EReal :=
  mixed (x (ix2 q n)) (fun k => a (ix2 q k)) (fun k => b (ix2 q k)) (fun k => u (ix2 k n)) (fun k => v (ix2 k n))

/-- The residual's block at each point. -/
theorem block_mix (t : Fin cfg0.N) (r : Fin 512) (n : Fin 2048) (q : Fin 16384) (hq : q.val = 512 * t.val + r.val) (p : Fin 2048) (hp : p.val = n.val) :
    (k0_pay2 (iblk m c 2 t) (iblk m c 0 t) (iblk m c 3 t) (iblk m c 1 t) (iblk m c 4 t) (ix2 r n) : EReal)
      = entry (V m c main_v0) (V m c main_arg0) (V m c main_arg1) (V m c main_v12) (V m c main_v13) q p := by
  obtain rfl : p = n := Fin.ext hp
  rw [pay_mix]
  unfold entry
  exact congr (congr (congr (congrArg₂ mixed (x_at m c t r p q hq) (funext fun k => a_at m c t r k q hq)) (funext fun k => b_at m c t r k q hq))
    (funext fun k => u_at m c t k p)) (funext fun k => v_at m c t k p)

/-- The normalised block at each point. -/
theorem block_norm (t : Fin cfg0.N) (r : Fin 512) (n : Fin 2048) (q : Fin 16384) (hq : q.val = 512 * t.val + r.val) (p : Fin 2048) (hp : p.val = n.val) :
    (k0_pay4 (iblk m c 2 t) (iblk m c 0 t) (iblk m c 3 t) (iblk m c 1 t) (iblk m c 4 t) (iblk m c 5 t) (ix3 r 0 n) : EReal)
      = Proj.normed (entry (V m c main_v0) (V m c main_arg0) (V m c main_arg1) (V m c main_v12) (V m c main_v13) q) (V m c main_v14 (ix2 0 p)) p := by
  obtain rfl : p = n := Fin.ext hp
  rw [pay_norm]
  exact congrArg₂ (fun a b => Proj.normed a b p) (funext fun k => block_mix m c t r k q hq k rfl) (g_at m c t 0 p)

theorem flush8 : ∀ t : Fin cfg0.N, (cfg0.win 8).flush t = true := by decide +kernel
theorem flush9 : ∀ t : Fin cfg0.N, (cfg0.win 9).flush t = true := by decide +kernel

/-- A row lies in some point's block. -/
theorem row (q : Fin 16384) : ∃ (t : Fin cfg0.N) (r : Fin 512), q.val = t.val * 512 + r.val :=
  ⟨⟨q.val / 512, lt_of_lt_of_eq (by omega) N_0.symm⟩, ⟨q.val % 512, by omega⟩, by show q.val = q.val / 512 * 512 + q.val % 512; omega⟩

/-- The residual after the run. -/
theorem arr_mix : (dats m 0 c).arrAt 8 cfg0.N
    = fun i : S16384x2048.Idx => entry (V m c main_v0) (V m c main_arg0) (V m c main_arg1) (V m c main_v12) (V m c main_v13) (i 0) (i 1) := by
  refine (dats m 0 c).arrAt_eq_of_cover 8 _ (fun t _ => ?_) (fun i => ?_)
  · rw [Value.flushed8, out_mix]
    funext y
    obtain ⟨r, n, rfl⟩ : ∃ (r : Fin 512) (n : Fin 2048), y = ix2 r n := ⟨y 0, y 1, by funext a; fin_cases a <;> rfl⟩
    obtain ⟨e0, e1, -⟩ := idx_out t
    refine block_mix m c t r n _ ?_ _ ?_
    · refine (win0_8.rect_emb_val t (ix2 r n) 0).trans ?_
      show win0_8.index t 0 * 512 + r.val = _
      rw [e0]; omega
    · refine (win0_8.rect_emb_val t (ix2 r n) 1).trans ?_
      show win0_8.index t 1 * 2048 + n.val = _
      rw [e1]; omega
  · obtain ⟨t, r, h⟩ := row (i 0)
    obtain ⟨e0, e1, -⟩ := idx_out t
    have hi : i = (win0_8.rect t).emb (ix2 r (i 1)) := by
      funext a
      refine Fin.ext (Eq.trans ?_ (win0_8.rect_emb_val t (ix2 r (i 1)) a).symm)
      match a with
      | ⟨0, _⟩ => show (i 0).val = win0_8.index t 0 * 512 + r.val; rw [e0]; exact h
      | ⟨1, _⟩ => show (i 1).val = win0_8.index t 1 * 2048 + (i 1).val; rw [e1]; omega
    refine ⟨t, flush8 t, ?_⟩
    rw [hi]
    exact ((cfg0.win 8).blk t).view.emb_mem_set _

/-- The normalised rows after the run. -/
theorem arr_norm : (dats m 0 c).arrAt 9 cfg0.N
    = fun i : S16384x1x2048.Idx => Proj.normed (entry (V m c main_v0) (V m c main_arg0) (V m c main_arg1) (V m c main_v12) (V m c main_v13) (i 0))
        (V m c main_v14 (ix2 0 (i 2))) (i 2) := by
  refine (dats m 0 c).arrAt_eq_of_cover 9 _ (fun t _ => ?_) (fun i => ?_)
  · rw [Value.flushed9, out_norm]
    funext y
    obtain ⟨r, z, n, rfl⟩ : ∃ (r : Fin 512) (z : Fin 1) (n : Fin 2048), y = ix3 r z n := ⟨y 0, y 1, y 2, by funext a; fin_cases a <;> rfl⟩
    obtain rfl : z = 0 := Subsingleton.elim _ _
    obtain ⟨-, -, e0, -, e2⟩ := idx_out t
    refine block_norm m c t r n _ ?_ _ ?_
    · refine (win0_9.rect_emb_val t (ix3 r 0 n) 0).trans ?_
      show win0_9.index t 0 * 512 + r.val = _
      rw [e0]; omega
    · refine (win0_9.rect_emb_val t (ix3 r 0 n) 2).trans ?_
      show win0_9.index t 2 * 2048 + n.val = _
      rw [e2]; omega
  · obtain ⟨t, r, h⟩ := row (i 0)
    obtain ⟨-, -, e0, e1, e2⟩ := idx_out t
    have hi : i = (win0_9.rect t).emb (ix3 r (i 1) (i 2)) := by
      funext a
      refine Fin.ext (Eq.trans ?_ (win0_9.rect_emb_val t (ix3 r (i 1) (i 2)) a).symm)
      match a with
      | ⟨0, _⟩ => show (i 0).val = win0_9.index t 0 * 512 + r.val; rw [e0]; exact h
      | ⟨1, _⟩ => show (i 1).val = win0_9.index t 1 * 1 + (i 1).val; rw [e1]; omega
      | ⟨2, _⟩ => show (i 2).val = win0_9.index t 2 * 2048 + (i 2).val; rw [e2]; omega
    refine ⟨t, flush9 t, ?_⟩
    rw [hi]
    exact ((cfg0.win 9).blk t).view.emb_mem_set _

end Cert.OutProj
end
-- ==== Proof.OutProjAgree.lean ====
module

public import proofs.«01_k».proof.Defs
public import proofs.«01_k».proof.Proof.OutProjBlock
public import proofs.«01_k».proof.Proof.ProjHost
public import proofs.«01_k».proof.Proof.Gen.Reference4Ideal.Run
public import proofs.«01_k».proof.Proof.Gen.Reference4Ideal.Read
public import Idealize.ShloMosaic.Lib.Quiescent

@[expose] public section

/-! The output projection: the call and the reference end with the same residual and the same normalised rows. -/

noncomputable section
namespace Cert.OutProj
open Idealize.ShloMosaic Idealize.ShloMosaic.TcCoe Idealize.SL.Sem

set_option maxRecDepth 16384

/-- The residual's entry at a row and a column, from the arguments: the weight's upper half meets the first mixed half, its lower half the second. -/
def resid (a b : Kernel4Ideal.S16384x1024.Idx → EReal) (x : Kernel4Ideal.S4x4096x2048.Idx → EReal) (w : Kernel4Ideal.S2048x2048.Idx → EReal)
    (q : Fin 16384) (n : Fin 2048) : EReal :=
  mixed (x (ix3 ⟨q.val / 4096, by omega⟩ ⟨q.val % 4096, by omega⟩ n)) (fun k => a (ix2 q k)) (fun k => b (ix2 q k))
    (fun k => w (ix2 ⟨k.val, by omega⟩ n)) (fun k => w (ix2 ⟨1024 + k.val, by omega⟩ n))

section Kernel
open Kernel4Ideal Kernel4Ideal.Gen
variable (m : (ℓ : Loc nD τ sig) → Buf (Elt Ideal) ℓ) (c : Dev nD)

theorem V_x : V m c main_v0 = shapeCast S16384x2048 (m (c, main_arg2)) shapeCasts_S4x4096x2048_S16384x2048 := by
  show StableHlo.after (List.flatten [hostOps0, hostOps0_1, hostOps0_2, hostOps0_3, hostOps0_4]) _ _ = _
  simp only [hostOps0, hostOps0_1, hostOps0_2, hostOps0_3, hostOps0_4, List.flatten, List.append, StableHlo.TRef.binary, StableHlo.TRef.unary, StableHlo.TRef.toBuf, StableHlo.TRef.ofBuf, cast_eq]
  after_results <;> rfl
theorem V_g : V m c main_v14 = shapeCast S1x2048 (m (c, main_arg4)) shapeCasts_S2048_S1x2048 := by
  show StableHlo.after (List.flatten [hostOps0, hostOps0_1, hostOps0_2, hostOps0_3, hostOps0_4]) _ _ = _
  simp only [hostOps0, hostOps0_1, hostOps0_2, hostOps0_3, hostOps0_4, List.flatten, List.append, StableHlo.TRef.binary, StableHlo.TRef.unary, StableHlo.TRef.toBuf, StableHlo.TRef.ofBuf, cast_eq]
  after_results <;> rfl
theorem V_u : V m c main_v12 = extractStridedSlice S1024x2048 ![0, 0] (truncf (F := Ideal) .bf16 (φ := .f32) (m (c, main_arg3) : FVec Ideal S2048x2048 .f32) bitsLt_bf16_f32) slices_S2048x2048_S1024x2048_0_0 := by
  show StableHlo.after (List.flatten [hostOps0, hostOps0_1, hostOps0_2, hostOps0_3, hostOps0_4]) _ _ = _
  simp only [hostOps0, hostOps0_1, hostOps0_2, hostOps0_3, hostOps0_4, List.flatten, List.append, StableHlo.TRef.binary, StableHlo.TRef.unary, StableHlo.TRef.toBuf, StableHlo.TRef.ofBuf, cast_eq]
  after_results <;> rfl
theorem V_v : V m c main_v13 = extractStridedSlice S1024x2048 ![1024, 0] (truncf (F := Ideal) .bf16 (φ := .f32) (m (c, main_arg3) : FVec Ideal S2048x2048 .f32) bitsLt_bf16_f32) slices_S2048x2048_S1024x2048_1024_0 := by
  show StableHlo.after (List.flatten [hostOps0, hostOps0_1, hostOps0_2, hostOps0_3, hostOps0_4]) _ _ = _
  simp only [hostOps0, hostOps0_1, hostOps0_2, hostOps0_3, hostOps0_4, List.flatten, List.append, StableHlo.TRef.binary, StableHlo.TRef.unary, StableHlo.TRef.toBuf, StableHlo.TRef.ofBuf, cast_eq]
  after_results <;> rfl

theorem upper (w : FVec Ideal S2048x2048 .f32) (k : Fin 1024) (n : Fin 2048) :
    (extractStridedSlice S1024x2048 ![0, 0] (truncf (F := Ideal) .bf16 (φ := .f32) w bitsLt_bf16_f32) slices_S2048x2048_S1024x2048_0_0 (ix2 k n) : EReal)
      = w (ix2 ⟨k.val, by omega⟩ n) := by
  pointwise
theorem lower (w : FVec Ideal S2048x2048 .f32) (k : Fin 1024) (n : Fin 2048) :
    (extractStridedSlice S1024x2048 ![1024, 0] (truncf (F := Ideal) .bf16 (φ := .f32) w bitsLt_bf16_f32) slices_S2048x2048_S1024x2048_1024_0 (ix2 k n) : EReal)
      = w (ix2 ⟨1024 + k.val, by omega⟩ n) := by
  pointwise

theorem entry_eq (q : Fin 16384) (n : Fin 2048) : entry (V m c main_v0) (V m c main_arg0) (V m c main_arg1) (V m c main_v12) (V m c main_v13) q n
    = resid (m (c, main_arg0)) (m (c, main_arg1)) (m (c, main_arg2)) (m (c, main_arg3)) q n := by
  rw [V_x, V_u, V_v, V_main_arg0, V_main_arg1]
  unfold entry resid
  exact congr (congr (congr (congrArg₂ mixed (Proj.fold_rows _ q n) rfl) rfl) (funext fun k => upper _ k n)) (funext fun k => lower _ k n)

theorem kernel_mix : (dats m 0 c).arrAt 8 cfg0.N
    = fun i : S16384x2048.Idx => resid (m (c, main_arg0)) (m (c, main_arg1)) (m (c, main_arg2)) (m (c, main_arg3)) (i 0) (i 1) :=
  (arr_mix m c).trans (funext fun i => entry_eq m c (i 0) (i 1))

theorem kernel_norm : (dats m 0 c).arrAt 9 cfg0.N
    = fun i : S16384x1x2048.Idx => Proj.normed (resid (m (c, main_arg0)) (m (c, main_arg1)) (m (c, main_arg2)) (m (c, main_arg3)) (i 0)) (m (c, main_arg4) (ix1 (i 2))) (i 2) := by
  refine (arr_norm m c).trans (funext fun i => congrArg₂ (fun a b => Proj.normed a b (i 2)) (funext fun n => entry_eq m c (i 0) n) ?_)
  rw [V_g]
  exact Proj.as_row _ (i 2)
end Kernel

section Reference
open Reference4Ideal Reference4Ideal.Read

theorem ref_mix_at (x0 x1 : FVec Ideal S16384x1024 .bf16) (x2 : FVec Ideal S4x4096x2048 .f32) (x3 : FVec Ideal S2048x2048 .f32) (q : Fin 16384) (n : Fin 2048) :
    (val_main_v5 (F := Ideal) x0 x1 x2 x3 (ix2 q n) : EReal) = resid x0 x1 x2 x3 q n := by
  pointwise [val_main_v5, val_main_v4, val_main_v3, val_main_v2, val_main_v1, val_main_v0, resid, mixed]

theorem ref_norm_at (x0 x1 : FVec Ideal S16384x1024 .bf16) (x2 : FVec Ideal S4x4096x2048 .f32) (x3 : FVec Ideal S2048x2048 .f32) (x4 : FVec Ideal S2048 .f32)
    (q : Fin 16384) (n : Fin 2048) :
    (val_main_v20 (F := Ideal) x0 x1 x2 x3 x4 (ix3 q 0 n) : EReal) = Proj.normed (fun k => val_main_v5 (F := Ideal) x0 x1 x2 x3 (ix2 q k)) (x4 (ix1 n)) n := by
  unfold val_main_v20 val_main_v19 val_main_v18 val_main_v17 val_main_v16 val_main_v15 val_main_v14 val_main_v13 val_main_v12 val_main_v11 val_main_v10 val_main_v9 val_main_v8 val_main_v7 val_main_v6 val_main_cst val_main_cst_0 val_main_cst_1
  generalize val_main_v5 (F := Ideal) x0 x1 x2 x3 = h
  pointwise [Proj.normed]

theorem ref_mix (x0 x1 : FVec Ideal S16384x1024 .bf16) (x2 : FVec Ideal S4x4096x2048 .f32) (x3 : FVec Ideal S2048x2048 .f32) :
    val_main_v5 (F := Ideal) x0 x1 x2 x3 = fun i : S16384x2048.Idx => resid x0 x1 x2 x3 (i 0) (i 1) :=
  funext fun i => (congrArg (val_main_v5 (F := Ideal) x0 x1 x2 x3) (eq_ix2 i)).trans (ref_mix_at x0 x1 x2 x3 (i 0) (i 1))

theorem ref_norm (x0 x1 : FVec Ideal S16384x1024 .bf16) (x2 : FVec Ideal S4x4096x2048 .f32) (x3 : FVec Ideal S2048x2048 .f32) (x4 : FVec Ideal S2048 .f32) :
    val_main_v20 (F := Ideal) x0 x1 x2 x3 x4
      = fun i : S16384x1x2048.Idx => Proj.normed (resid x0 x1 x2 x3 (i 0)) (x4 (ix1 (i 2))) (i 2) := by
  funext i
  obtain ⟨q, z, n, rfl⟩ : ∃ (q : Fin 16384) (z : Fin 1) (n : Fin 2048), i = ix3 q z n := ⟨i 0, i 1, i 2, by funext a; fin_cases a <;> rfl⟩
  obtain rfl : z = 0 := Subsingleton.elim _ _
  exact (ref_norm_at x0 x1 x2 x3 x4 q n).trans (congrArg (fun a => Proj.normed a (x4 (ix1 n)) n) (funext fun k => ref_mix_at x0 x1 x2 x3 q k))
end Reference

/-- The value claim. -/
theorem algebraic : algebraic_Kernel4Ideal_Reference4Ideal := by
  intro m ρ m' ρ' _ ha
  refine ⟨fun c => (Kernel4Ideal.Gen.dats m 0 c).arrAt 8 Kernel4Ideal.cfg0.N, fun c => (Kernel4Ideal.Gen.dats m 0 c).arrAt 9 Kernel4Ideal.cfg0.N,
    (θ_run _ _ _).mono (fun r h c => ⟨(h c).1, (h c).2.1, (h c).2.2.2⟩) (Kernel4Ideal.Value.run_blocks m ρ), ?_⟩
  refine (θ_run _ _ _).mono (fun r h c => ?_) (Reference4Ideal.Value.run m' ρ')
  obtain ⟨h0, h1, h2, h3, h4, -⟩ := ha c
  refine ⟨(h c).1.trans ((Reference4Ideal.Read.val_main_v5_eq _ _ _ _).trans ((ref_mix _ _ _ _).trans ?_)),
    (h c).2.1.trans ((Reference4Ideal.Read.val_main_v20_eq _ _ _ _ _).trans ((ref_norm _ _ _ _ _).trans ?_)), (h c).2.2⟩
  · rw [h0, h1, h2, h3]
    exact (kernel_mix m c).symm
  · rw [h0, h1, h2, h3, h4]
    exact (kernel_norm m c).symm

/-- The reference's frame. -/
theorem frame_ref : quiescent_Reference4Ideal :=
  fun m ρ _ => (θ_run _ _ _).mono (fun r h => ⟨fun c => (h c).2.2, sem_eq_zero_of_no_sems (by decide) _⟩) (Reference4Ideal.Value.run m ρ)

end Cert.OutProj
end
-- ==== Proof.RouteSort.lean ====
module

public import Idealize.ShloMosaic.Lib.PlanTiles.StableSort
public import Idealize.ShloMosaic.Lib.Pipeline.Value
public import Idealize.ShloMosaic.Lib.Pointwise

@[expose] public section

/-! The greatest entries of a row, in order: what the host's top-k reads. -/

noncomputable section
namespace Cert.Route
open Idealize.ShloMosaic

variable {n : Nat}

/-- Position `a` comes before position `b`: its entry is greater, or the entries are equal and it is the lower position. -/
def Before (x : Fin n → EReal) (a b : Fin n) : Prop := x b < x a ∨ (x b = x a ∧ a < b)

/-- The positions of a row from the greatest entry down, equal entries by position. -/
def order (x : Fin n → EReal) : Fin n → Fin n := sortedFrom (fun a b => decide (x b < x a))

/-- How many entries lie below a position's: a natural number that orders the positions as their entries do. -/
def below (x : Fin n → EReal) (a : Fin n) : ℕ := (Finset.univ.filter fun j => x j < x a).card

theorem below_lt (x : Fin n → EReal) (a b : Fin n) : below x b < below x a ↔ x b < x a := by
  constructor
  · intro h
    by_contra hc
    exact absurd (Finset.card_le_card (fun j hj => by
      simp only [Finset.mem_filter, Finset.mem_univ, true_and] at hj ⊢
      exact lt_of_lt_of_le hj (not_lt.mp hc))) (not_le.mpr h)
  · intro h
    refine Finset.card_lt_card (Finset.ssubset_iff_of_subset (fun j hj => ?_) |>.mpr ⟨b, ?_, ?_⟩)
    · simp only [Finset.mem_filter, Finset.mem_univ, true_and] at hj ⊢
      exact hj.trans h
    · simpa using h
    · simp

theorem order_pairwise (x : Fin n → EReal) {k l : Fin n} (h : k < l) : Before x (order x k) (order x l) := by
  have e : (fun a b : Fin n => decide (x b < x a)) = fun a b => decide (below x b < below x a) := by
    funext a b
    exact decide_eq_decide.mpr (below_lt x a b).symm
  have hp : (sortPositions n fun a b => decide (x b < x a)).Pairwise (PlanTiles.Lex (below x) (· < ·)) := by
    rw [e]
    exact PlanTiles.pairwise_stableSort_lex (below x) (· < ·) _ (List.pairwise_lt_finRange n)
  have := List.pairwise_iff_getElem.mp hp k.val l.val (by rw [length_sortPositions]; exact k.isLt) (by rw [length_sortPositions]; exact l.isLt) h
  rcases this with h | ⟨h, h'⟩
  · exact Or.inl ((below_lt x _ _).mp h)
  · refine Or.inr ⟨?_, h'⟩
    have h1 := (below_lt x (order x k) (order x l)).not.mp (by show ¬ (below x _ < below x _); exact (not_lt.mpr h.le))
    have h2 := (below_lt x (order x l) (order x k)).not.mp (by show ¬ (below x _ < below x _); exact (not_lt.mpr h.ge))
    exact le_antisymm (not_lt.mp h2) (not_lt.mp h1)

/-- Every other position comes after the one at place `k`, unless it has an earlier place. -/
theorem order_before (x : Fin n → EReal) (k : Fin n) (j : Fin n) (hj : ∀ l, l ≤ k → j ≠ order x l) : Before x (order x k) j := by
  obtain ⟨l, rfl⟩ := sortedFrom_surjective (fun a b => decide (x b < x a)) j
  exact order_pairwise x (lt_of_not_ge fun h => hj l h rfl)

theorem order_ne (x : Fin n → EReal) {k l : Fin n} (h : k ≠ l) : order x k ≠ order x l :=
  fun e => h (sortedFrom_injective _ e)

theorem gt_iff (a b : EReal) : (FloatOps.cmpfTotal (F := Ideal) (φ := .f32) .gt a b == 1#1) = decide (b < a) := by
  rw [Ideal.cmpfTotal_def]
  by_cases h : b < a <;> simp [Ideal.cmp, h, CmpDirection.ordered]

/-- The host's top-k of a matrix's rows: the entries and the positions, in order. -/
theorem topK_read {R k : Nat} (x : (⟨2, ![R, n]⟩ : Shape).Idx → EReal) (h : (⟨2, ![R, n]⟩ : Shape).Slices (fun _ => 0) ⟨2, ![R, k]⟩)
    (r : Fin R) (j : Fin k) (j' : Fin n) (hj : j'.val = j.val) :
    (Host.topK ⟨2, ![R, k]⟩ 1 (FloatOps.cmpfTotal (F := Ideal) (φ := .f32) .gt) x h).1 (ix2 r j) = x (ix2 r (order (fun c => x (ix2 r c)) j'))
    ∧ (Host.topK ⟨2, ![R, k]⟩ 1 (FloatOps.cmpfTotal (F := Ideal) (φ := .f32) .gt) x h).2 (ix2 r j)
      = BitVec.ofNat 32 (order (fun c => x (ix2 r c)) j').val := by
  have ha : ∀ c : Fin n, (ix2 r j' : (⟨2, ![R, n]⟩ : Shape).Idx).along (1 : Fin 2) c = ix2 r c := fun c => by
    funext a; fin_cases a <;> rfl
  have hs : ∀ a : Fin 2, ((ix2 r j' : (⟨2, ![R, n]⟩ : Shape).Idx) a).val = 0 + ((ix2 r j : (⟨2, ![R, k]⟩ : Shape).Idx) (a.cast h.1.symm)).val := fun a => by
    fin_cases a
    · simp [ix2]
    · simpa [ix2] using hj
  have hπ : sortedFrom (fun a b => FloatOps.cmpfTotal (F := Ideal) (φ := .f32) .gt
      (x ((ix2 r j' : (⟨2, ![R, n]⟩ : Shape).Idx).along (1 : Fin 2) a)) (x ((ix2 r j' : (⟨2, ![R, n]⟩ : Shape).Idx).along (1 : Fin 2) b)) == 1#1) j'
      = order (fun c => x (ix2 r c)) j' := by
    unfold order
    refine congrFun (congrArg sortedFrom (funext fun a => funext fun b => ?_)) j'
    rw [ha, ha]
    exact gt_iff _ _
  have hd : 1 < (⟨2, ![R, n]⟩ : Shape).rank := Nat.one_lt_two
  unfold Host.topK Host.sort2
  simp only [dif_pos hd]
  constructor
  · refine (extractStridedSlice_apply _ _ h _ (ix2 r j') hs).trans ?_
    exact (congrArg (fun c => x ((ix2 r j' : (⟨2, ![R, n]⟩ : Shape).Idx).along (1 : Fin 2) c)) hπ).trans (congrArg x (ha _))
  · refine (extractStridedSlice_apply _ _ h _ (ix2 r j') hs).trans ?_
    exact (congrArg (fun c : Fin n => BitVec.ofNat 32 c.val) hπ)

end Cert.Route
end
-- ==== Proof.RoutePick.lean ====
module

public import Idealize.ShloMosaic.Lib.Pointwise
public import Mathlib.Data.Finset.Fold

@[expose] public section

/-! The greatest entry among the lanes of a mask, and its lane. -/

noncomputable section
namespace Cert.Route
open Idealize.ShloMosaic

theorem ninf : Ideal.ofBits .f32 0xFF800000#32 = ⊥ := by simp [Ideal.ofBits, Ideal.ieee]

theorem toInt_minsi (a b : BitVec 32) : (IntOp.minsi a b).toInt = min a.toInt b.toInt := by
  unfold IntOp.minsi
  split <;> rename_i h <;> rw [BitVec.slt_iff_toInt_lt] at h <;> omega

/-- The least lane at which a bit is set. -/
theorem low_of (b : Fin 128 → BitVec 1) (i : Fin 128) (hi : b i = 1#1) (h : ∀ j, b j = 1#1 → i ≤ j) :
    Finset.fold IntOp.minsi 2147483647#32 (fun j : Fin 128 => Scalar.select (b j) (BitVec.ofNat 32 j.val) 128#32) Finset.univ = BitVec.ofNat 32 i.val := by
  have ht : ∀ j : Fin 128, (BitVec.ofNat 32 j.val).toInt = j.val := by decide +kernel
  refine BitVec.eq_of_toInt_eq ?_
  rw [← Finset.fold_hom (op' := min) (m := BitVec.toInt) toInt_minsi, ht]
  refine le_antisymm (Finset.fold_min_le (i.val : ℤ) |>.mpr (Or.inr ⟨i, Finset.mem_univ _, ?_⟩)) (Finset.le_fold_min (i.val : ℤ) |>.mpr ⟨?_, fun j _ => ?_⟩)
  · rw [hi]
    exact (ht i).le
  · have : (2147483647#32 : BitVec 32).toInt = 2147483647 := by decide
    rw [this]; omega
  · by_cases hj : b j = 1#1
    · have := h j hj
      rw [hj]
      exact le_of_le_of_eq (by exact_mod_cast this) (ht j).symm
    · have e : Scalar.select (b j) (BitVec.ofNat 32 j.val) 128#32 = 128#32 := if_neg hj
      have : (128#32 : BitVec 32).toInt = 128 := by decide
      rw [e, this]; omega

variable (m : Fin 128 → BitVec 1) (x : Fin 128 → EReal) (i : Fin 128)

/-- Lane `i` holds the mask's greatest entry, and is the first that does. -/
def Best : Prop := m i = 1#1 ∧ ∀ j, m j = 1#1 → j ≠ i → x j < x i ∨ (x j = x i ∧ i < j)

variable {m x i}

theorem Best.max_eq (h : Best m x i) :
    Finset.fold max (Ideal.ofBits .f32 0xFF800000#32) (fun j => Scalar.select (m j) (x j) (Ideal.ofBits .f32 0xFF800000#32)) Finset.univ = x i := by
  rw [ninf]
  refine le_antisymm (Finset.fold_max_le (x i) |>.mpr ⟨bot_le, fun j _ => ?_⟩) (Finset.le_fold_max (x i) |>.mpr (Or.inr ⟨i, Finset.mem_univ _, ?_⟩))
  · by_cases hj : m j = 1#1
    · rw [hj]
      show x j ≤ x i
      by_cases e : j = i
      · rw [e]
      · rcases h.2 j hj e with h | h
        · exact h.le
        · exact h.1.le
    · exact (if_neg hj : Scalar.select (m j) (x j) ⊥ = ⊥).le.trans bot_le
  · rw [h.1]; exact le_rfl

theorem Best.lane_eq (h : Best m x i) {y : EReal} (hy : y = x i) :
    Finset.fold IntOp.minsi 2147483647#32 (fun j : Fin 128 => Scalar.select
      (IntOp.andi (m j) (BitVec.ofBool (decide (Scalar.select (m j) (x j) (Ideal.ofBits .f32 0xFF800000#32) = y)))) (BitVec.ofNat 32 j.val) 128#32) Finset.univ
      = BitVec.ofNat 32 i.val := by
  subst hy
  refine low_of _ i ?_ fun j hj => ?_
  · have e : Scalar.select (m i) (x i) (Ideal.ofBits .f32 0xFF800000#32) = x i := by rw [h.1]; rfl
    rw [e, h.1]; simp; decide
  · by_cases hm : m j = 1#1
    · by_contra hc
      have e : Scalar.select (m j) (x j) (Ideal.ofBits .f32 0xFF800000#32) = x j := by rw [hm]; rfl
      have hne : x j ≠ x i := by
        rcases h.2 j hm (fun e => hc e.ge) with h | h
        · exact h.ne
        · exact absurd h.2.le hc
      rw [e, hm, decide_eq_false hne] at hj
      exact absurd hj (by decide)
    · have h0 : m j = 0#1 := by revert hm; generalize m j = b; revert b; decide
      rw [h0] at hj
      refine absurd hj ?_
      generalize BitVec.ofBool _ = c
      revert c; decide

end Cert.Route
end
-- ==== Proof.RouteLanes.lean ====
module

public import proofs.«01_k».proof.Proof.RouteSort
public import proofs.«01_k».proof.Proof.RoutePick

@[expose] public section

/-! The three choices over the lanes of a row of logits: a group among lanes 64 to 71, the greatest expert of the group's eight lanes, and the greatest of the others. -/

noncomputable section
namespace Cert.Route
open Idealize.ShloMosaic

/-- The lane of a group's logit. -/
def groupLane (k : Fin 8) : Fin 128 := ⟨64 + k.val, by omega⟩

/-- The number, and lane, of a group's expert. -/
def expertLane (a k : Fin 8) : Fin 128 := ⟨8 * a.val + k.val, by omega⟩

/-- The mask of the group lanes. -/
def groupMask (j : Fin 128) : BitVec 1 := IntOp.andi (IntOp.cmpi .sge (BitVec.ofNat 32 j.val) 64#32) (IntOp.cmpi .slt (BitVec.ofNat 32 j.val) 72#32)

/-- The mask of a group's experts, the group given as a word. -/
def expertMask (w : BitVec 32) (j : Fin 128) : BitVec 1 :=
  IntOp.andi (IntOp.cmpi .sge (BitVec.ofNat 32 j.val) (IntOp.muli w 8#32))
    (IntOp.cmpi .slt (BitVec.ofNat 32 j.val) (IntOp.muli (IntOp.addi w 1#32) 8#32))

/-- The mask of a group's experts but one. -/
def otherMask (w v : BitVec 32) (j : Fin 128) : BitVec 1 := IntOp.andi (expertMask w j) (IntOp.cmpi .ne (BitVec.ofNat 32 j.val) v)

theorem groupMask_iff : ∀ j, groupMask j = 1#1 ↔ ∃ k, j = groupLane k := by unfold groupMask groupLane; decide +kernel
theorem expertMask_iff : ∀ (a : Fin 8) j, expertMask (BitVec.ofNat 32 a.val) j = 1#1 ↔ ∃ k, j = expertLane a k := by
  unfold expertMask expertLane; decide +kernel
theorem ne_iff : ∀ i j : Fin 128, IntOp.cmpi .ne (BitVec.ofNat 32 j.val) (BitVec.ofNat 32 i.val) = 1#1 ↔ j ≠ i := by decide +kernel
theorem andi_iff : ∀ a b : BitVec 1, IntOp.andi a b = 1#1 ↔ a = 1#1 ∧ b = 1#1 := by decide

theorem groupLane_lt (k l : Fin 8) : groupLane k < groupLane l ↔ k < l := by unfold groupLane; show 64 + k.val < 64 + l.val ↔ k.val < l.val; omega
theorem expertLane_lt (a k l : Fin 8) : expertLane a k < expertLane a l ↔ k < l := by
  unfold expertLane; show 8 * a.val + k.val < 8 * a.val + l.val ↔ k.val < l.val; omega
theorem expertLane_inj (a k l : Fin 8) : expertLane a k = expertLane a l ↔ k = l := by simp [expertLane, Fin.ext_iff]

variable (L : Fin 128 → EReal)

/-- The group a row of logits chooses. -/
def groupOf (g : Fin 8 → EReal) : Fin 8 := order g 0

theorem best_group : Best groupMask L (groupLane (groupOf fun k => L (groupLane k))) := by
  refine ⟨(groupMask_iff _).mpr ⟨_, rfl⟩, fun j hj hne => ?_⟩
  obtain ⟨k, rfl⟩ := (groupMask_iff j).mp hj
  have := order_before (fun k => L (groupLane k)) 0 k fun l hl e => hne (by rw [e, Fin.le_zero_iff.mp hl]; rfl)
  exact this.imp id fun h => ⟨h.1, (groupLane_lt _ _).mpr h.2⟩

variable (a : Fin 8)

theorem best_first : Best (expertMask (BitVec.ofNat 32 a.val)) L (expertLane a (order (fun k => L (expertLane a k)) 0)) := by
  refine ⟨(expertMask_iff a _).mpr ⟨_, rfl⟩, fun j hj hne => ?_⟩
  obtain ⟨k, rfl⟩ := (expertMask_iff a j).mp hj
  have := order_before (fun k => L (expertLane a k)) 0 k fun l hl e => hne (by rw [e, Fin.le_zero_iff.mp hl])
  exact this.imp id fun h => ⟨h.1, (expertLane_lt a _ _).mpr h.2⟩

theorem best_second : Best (otherMask (BitVec.ofNat 32 a.val) (BitVec.ofNat 32 (expertLane a (order (fun k => L (expertLane a k)) 0)).val)) L
    (expertLane a (order (fun k => L (expertLane a k)) 1)) := by
  refine ⟨(andi_iff _ _).mpr ⟨(expertMask_iff a _).mpr ⟨_, rfl⟩, (ne_iff _ _).mpr fun e => ?_⟩, fun j hj hne => ?_⟩
  · exact order_ne _ (by decide) ((expertLane_inj a _ _).mp e)
  · obtain ⟨h1, h2⟩ := (andi_iff _ _).mp hj
    obtain ⟨k, rfl⟩ := (expertMask_iff a j).mp h1
    have h3 := (ne_iff _ _).mp h2
    have := order_before (fun k => L (expertLane a k)) 1 k fun l hl e => by
      have : l = 0 ∨ l = 1 := by omega
      rcases this with rfl | rfl
      · exact h3 (by rw [e])
      · exact hne (by rw [e])
    exact this.imp id fun h => ⟨h.1, (expertLane_lt a _ _).mpr h.2⟩

/-- A sum over the lanes that keeps the group lanes only. -/
theorem sum_group (f : Fin 128 → EReal) : ∑ j, Scalar.select (groupMask j) (f j) 0 = ∑ k, f (groupLane k) := by
  refine (Fintype.sum_of_injective groupLane (fun k l h => ?_) _ _ (fun j hj => ?_) fun k => ?_).symm
  · simpa [groupLane, Fin.ext_iff] using h
  · exact if_neg fun h => hj (by obtain ⟨k, rfl⟩ := (groupMask_iff j).mp h; exact ⟨k, rfl⟩)
  · exact (if_pos ((groupMask_iff _).mpr ⟨k, rfl⟩) : Scalar.select _ _ _ = _).symm

end Cert.Route
end
-- ==== Proof.RouteBlock.lean ====
module

public import Idealize.ShloMosaic.Lib.Pipeline.ValueKit.Basic
public import proofs.«01_k».proof.Proof.RouteLanes
public import proofs.«01_k».proof.Proof.Gen.Kernel5Ideal.Value

@[expose] public section

/-! The router: what the kernel leaves of one row of logits. -/

noncomputable section
namespace Cert.Route
open Idealize.ShloMosaic Idealize.ShloMosaic.TcCoe

set_option maxRecDepth 16384

/-- The place, in its group, of a row's chosen expert: `l = 0` the greatest, `l = 1` the next. -/
def pick (g : Fin 8 → EReal) (e : Fin 8 → Fin 8 → EReal) (l : Fin 8) : Fin 8 := order (e (groupOf g)) l

/-- The chosen group's probability. -/
def share (g : Fin 8 → EReal) : EReal := Ideal.div 1 (∑ k, Ideal.exp (g k - g (groupOf g)))

/-- The second expert's weight, as a multiple of the first's. -/
def ratio (g : Fin 8 → EReal) (e : Fin 8 → Fin 8 → EReal) : EReal := Ideal.exp (e (groupOf g) (pick g e 1) - e (groupOf g) (pick g e 0))

/-- A chosen expert's number, as a word. -/
def number (g : Fin 8 → EReal) (e : Fin 8 → Fin 8 → EReal) (l : Fin 8) : BitVec 32 := BitVec.ofNat 32 (expertLane (groupOf g) (pick g e l)).val

/-- A row's record: two numbers, two gates, and zeros. -/
def record (g : Fin 8 → EReal) (e : Fin 8 → Fin 8 → EReal) (j : Fin 128) : EReal :=
  if j = 0 then FloatOps.sitofp (F := Ideal) .f32 (number g e 0) else if j = 1 then FloatOps.sitofp (F := Ideal) .f32 (number g e 1)
  else if j = 2 then Ideal.div (share g) (1 + ratio g e) else if j = 3 then Ideal.div (share g * ratio g e) (1 + ratio g e) else 0

section Payloads
open Cert.Kernel5Ideal Cert.Kernel5Ideal.Gen

/-- The lanes' numbers. -/
abbrev lanes : IVec S512x128 32 := iota .tc S512x128 32 [1] iota_S512x128_d1_w32

section Group
variable (p q : FVec Ideal S512x2048 .bf16) (u v : Vec Ideal S2048x128 .bf16) (b : Vec Ideal S1x128 .f32) (r : Fin 512)

/-- A row's group logits. -/
def groups (L : FVec Ideal S512x128 .f32) (r : Fin 512) (k : Fin 8) : EReal := L (ix2 r (groupLane k))
/-- A row's expert logits, by group. -/
def experts (L : FVec Ideal S512x128 .f32) (r : Fin 512) (a k : Fin 8) : EReal := L (ix2 r (expertLane a k))

theorem group_max : (k0_pay10 (F := Ideal) p q u v b (ix2 r 0) : EReal)
    = groups (k0_pay7 p q u v b) r (groupOf (groups (k0_pay7 p q u v b) r)) := by
  unfold k0_pay10 k0_pay9 k0_pay8
  generalize k0_pay7 (F := Ideal) p q u v b = L
  pointwise
  exact (best_group (fun j => L (ix2 r j))).max_eq

theorem group_share : (k0_pay11 (F := Ideal) p q u v b (ix2 r 0) : EReal) = share (groups (k0_pay7 p q u v b) r) := by
  have hm := group_max p q u v b r
  revert hm
  unfold k0_pay11 k0_pay8 share
  generalize k0_pay10 (F := Ideal) p q u v b = M
  generalize k0_pay7 (F := Ideal) p q u v b = L
  intro hm
  pointwise
  refine congrArg (Ideal.div 1) ((sum_group fun j => Ideal.exp (L (ix2 r j) - M (ix2 r 0))).trans ?_)
  rw [hm]
  rfl

theorem group_word : k0_pay12 (F := Ideal) p q u v b (ix2 r 0) = BitVec.ofNat 32 (groupOf (groups (k0_pay7 p q u v b) r)).val := by
  have hm := group_max p q u v b r
  have hw : ∀ a : Fin 8, IntOp.subi (BitVec.ofNat 32 (groupLane a).val) 64#32 = BitVec.ofNat 32 a.val := by decide
  revert hm
  unfold k0_pay12 k0_pay9 k0_pay8
  generalize k0_pay10 (F := Ideal) p q u v b = M
  generalize k0_pay7 (F := Ideal) p q u v b = L
  intro hm
  pointwise
  exact (congrArg (fun z => IntOp.subi z 64#32) ((best_group (fun j => L (ix2 r j))).lane_eq hm)).trans (hw _)
end Group

section Experts
variable (L : FVec Ideal S512x128 .f32) (P : FVec Ideal S512x1 .f32) (w : IVec S512x1 32) (r : Fin 512) (a : Fin 8) (hw : w (ix2 r 0) = BitVec.ofNat 32 a.val)
include hw

theorem first_max : (k0_pay15 (F := Ideal) L lanes w 8#32 (ix2 r 0) : EReal) = experts L r a (order (experts L r a) 0) := by
  unfold k0_pay15 k0_pay14 k0_pay13
  have hb := best_first (fun j => L (ix2 r j)) a
  rw [← hw] at hb
  pointwise
  exact hb.max_eq

theorem first_word : k0_pay16 (F := Ideal) L lanes w 8#32 (ix2 r 0) = BitVec.ofNat 32 (expertLane a (order (experts L r a) 0)).val := by
  have hm := first_max L w r a hw
  revert hm
  unfold k0_pay16 k0_pay14 k0_pay13
  generalize k0_pay15 (F := Ideal) L lanes w 8#32 = M
  intro hm
  have hb := best_first (fun j => L (ix2 r j)) a
  rw [← hw] at hb
  pointwise
  exact hb.lane_eq hm

theorem second_max : (k0_pay19 (F := Ideal) L lanes w 8#32 (ix2 r 0) : EReal) = experts L r a (order (experts L r a) 1) := by
  have hm := first_word L w r a hw
  revert hm
  unfold k0_pay19 k0_pay18 k0_pay17 k0_pay13
  generalize k0_pay16 (F := Ideal) L lanes w 8#32 = M
  intro hm
  have hb := best_second (fun j => L (ix2 r j)) a
  rw [← hw, show BitVec.ofNat 32 (expertLane a (order (fun k => L (ix2 r (expertLane a k))) 0)).val = M (ix2 r 0) from hm.symm] at hb
  pointwise
  exact hb.max_eq

theorem second_word : k0_pay20 (F := Ideal) L lanes w 8#32 (ix2 r 0) = BitVec.ofNat 32 (expertLane a (order (experts L r a) 1)).val := by
  have hm := first_word L w r a hw
  have hn := second_max L w r a hw
  revert hm hn
  unfold k0_pay20 k0_pay18 k0_pay17 k0_pay13
  generalize k0_pay16 (F := Ideal) L lanes w 8#32 = M
  generalize k0_pay19 (F := Ideal) L lanes w 8#32 = N
  intro hm hn
  have hb := best_second (fun j => L (ix2 r j)) a
  rw [← hw, show BitVec.ofNat 32 (expertLane a (order (fun k => L (ix2 r (expertLane a k))) 0)).val = M (ix2 r 0) from hm.symm] at hb
  pointwise
  exact hb.lane_eq hn

theorem two_ratio : (k0_pay21 (F := Ideal) L lanes w 8#32 (ix2 r 0) : EReal)
    = Ideal.exp (experts L r a (order (experts L r a) 1) - experts L r a (order (experts L r a) 0)) := by
  have hm := first_max L w r a hw
  have hn := second_max L w r a hw
  revert hm hn
  unfold k0_pay21
  generalize k0_pay15 (F := Ideal) L lanes w 8#32 = M
  generalize k0_pay19 (F := Ideal) L lanes w 8#32 = N
  intro hm hn
  pointwise
  rw [hm, hn]

theorem first_gate : (k0_pay22 (F := Ideal) L lanes P w 8#32 (ix2 r 0) : EReal)
    = Ideal.div (P (ix2 r 0)) (1 + Ideal.exp (experts L r a (order (experts L r a) 1) - experts L r a (order (experts L r a) 0))) := by
  have hm := two_ratio L w r a hw
  revert hm
  unfold k0_pay22
  generalize k0_pay21 (F := Ideal) L lanes w 8#32 = M
  intro hm
  pointwise
  rw [hm]

theorem second_gate : (k0_pay23 (F := Ideal) L lanes P w 8#32 (ix2 r 0) : EReal)
    = Ideal.div (P (ix2 r 0) * Ideal.exp (experts L r a (order (experts L r a) 1) - experts L r a (order (experts L r a) 0)))
        (1 + Ideal.exp (experts L r a (order (experts L r a) 1) - experts L r a (order (experts L r a) 0))) := by
  have hm := two_ratio L w r a hw
  revert hm
  unfold k0_pay23
  generalize k0_pay21 (F := Ideal) L lanes w 8#32 = M
  intro hm
  pointwise
  rw [hm]
end Experts

theorem pay_lanes (i1 i2 : IVec S512x1 32) (g1 g2 : FVec Ideal S512x1 .f32) (r : Fin 512) (j : Fin 128) :
    (k0_pay1 (F := Ideal) lanes i1 i2 g1 g2 (k0_pay24 lanes) (ix2 r j) : EReal)
      = if j = 0 then FloatOps.sitofp (F := Ideal) .f32 (i1 (ix2 r 0)) else if j = 1 then FloatOps.sitofp (F := Ideal) .f32 (i2 (ix2 r 0))
        else if j = 2 then g1 (ix2 r 0) else if j = 3 then g2 (ix2 r 0) else 0 := by
  unfold k0_pay1 k0_pay24
  pointwise
  have e : ∀ k j : Fin 128, IntOp.cmpi .eq (BitVec.ofNat 32 j.val) (BitVec.ofNat 32 k.val) = 1#1 ↔ j = k := by decide +kernel
  have hs : ∀ (k j : Fin 128) (x y : EReal), Scalar.select (IntOp.cmpi .eq (BitVec.ofNat 32 j.val) (BitVec.ofNat 32 k.val)) x y = if j = k then x else y :=
    fun k j x y => if_congr (e k j) rfl rfl
  refine (hs 0 j _ _).trans (congrArg (fun z : EReal => if j = 0 then _ else z) ((hs 1 j _ _).trans (congrArg (fun z : EReal => if j = 1 then _ else z)
    ((hs 2 j _ _).trans (congrArg (fun z : EReal => if j = 2 then _ else z) (hs 3 j _ _))))))

end Payloads
end Cert.Route
end
-- ==== Proof.RouteRef.lean ====
module

public import proofs.«01_k».proof.Proof.RouteLanes
public import proofs.«01_k».proof.Proof.NormProj
public import proofs.«01_k».proof.Proof.Gen.Reference5Ideal.Run
public import proofs.«01_k».proof.Proof.Gen.Reference5Ideal.Read

@[expose] public section

/-! The router's reference, read one row at a time: a softmax and a top-k over the groups, then over the chosen group's experts. -/

noncomputable section
namespace Cert.Route
open Idealize.ShloMosaic Idealize.ShloMosaic.TcCoe Reference5Ideal Reference5Ideal.Read

set_option maxRecDepth 16384

/-- The softmax's subtrahend. -/
def crest (g : Fin 8 → EReal) : EReal := max (Ideal.ofBits .f32 0xFF800000#32) (Finset.fold max (Ideal.ofBits .f32 0xFF800000#32) g Finset.univ)

/-- The softmax of eight logits. -/
def soft (g : Fin 8 → EReal) (k : Fin 8) : EReal := Ideal.div (Ideal.exp (g k - crest g)) (∑ x, Ideal.exp (g x - crest g))

section Record
variable (g : Fin 8 → EReal) (e : Fin 8 → Fin 8 → EReal)

/-- The group of the greatest probability. -/
def softGroup : Fin 8 := order (soft g) 0
/-- The probabilities of the chosen group's experts. -/
def softRow : Fin 8 → EReal := soft (e (softGroup g))
/-- The experts in order of probability. -/
def softPick (l : Fin 8) : Fin 8 := order (softRow g e) l
/-- An expert's number, as a word. -/
def softNumber (l : Fin 8) : BitVec 32 := IntOp.addi (IntOp.muli (BitVec.ofNat 32 (softGroup g).val) 8#32) (BitVec.ofNat 32 (softPick g e l).val)
/-- A gate: the group's probability times the expert's, the two experts' probabilities normalised. -/
def softGate (l : Fin 8) : EReal :=
  soft g (softGroup g) * Ideal.div (softRow g e (softPick g e l)) (softRow g e (softPick g e 0) + softRow g e (softPick g e 1))
/-- A row's record as the reference computes it. -/
def softRecord (j : Fin 128) : EReal :=
  if j = 0 then FloatOps.sitofp (F := Ideal) .f32 (softNumber g e 0) else if j = 1 then FloatOps.sitofp (F := Ideal) .f32 (softNumber g e 1)
  else if j = 2 then softGate g e 0 else if j = 3 then softGate g e 1 else 0
end Record

/-- The gather of one group's row of experts. -/
theorem gather_row (x : S16384x8x8.Idx → EReal) (w : IVec S16384x1x1 32) (q : Fin 16384) (a l : Fin 8) (hw : w (ix3 q 0 0) = BitVec.ofNat 32 a.val) :
    Host.gather gather_S16384x8x8_S16384x1x1_S16384x1x8_2_1_0_0_1_2_118 x w (ix3 q 0 l) = x (ix3 q a l) := by
  unfold Host.gather
  generalize hd : gather_S16384x8x8_S16384x1x1_S16384x1x8_2_1_0_0_1_2_118 = d
  refine congrArg x (funext fun b => Fin.ext ?_)
  show d.start (ix3 q 0 l) w b + d.batchCoord (ix3 q 0 l) b + d.offCoord (ix3 q 0 l) b = _
  subst hd
  match b with
  | ⟨0, _⟩ =>
    show GatherDims.start gather_S16384x8x8_S16384x1x1_S16384x1x8_2_1_0_0_1_2_118 (ix3 q 0 l) w (0 : Fin 3) + GatherDims.batchCoord gather_S16384x8x8_S16384x1x1_S16384x1x8_2_1_0_0_1_2_118 (ix3 q 0 l) (0 : Fin 3) + GatherDims.offCoord gather_S16384x8x8_S16384x1x1_S16384x1x8_2_1_0_0_1_2_118 (ix3 q 0 l) (0 : Fin 3) = q.val
    rw [GatherDims.start_batching _ _ _ _ (show ((0 : Fin 3) ∈ gather_S16384x8x8_S16384x1x1_S16384x1x8_2_1_0_0_1_2_118.operandBatchingDims) from by decide), GatherDims.offCoord_eq_zero _ _ _ (show ((0 : Fin 3) ∉ gather_S16384x8x8_S16384x1x1_S16384x1x8_2_1_0_0_1_2_118.sKept) from by decide)]
    show 0 + q.val + 0 = q.val
    omega
  | ⟨1, _⟩ =>
    show GatherDims.start gather_S16384x8x8_S16384x1x1_S16384x1x8_2_1_0_0_1_2_118 (ix3 q 0 l) w (1 : Fin 3) + GatherDims.batchCoord gather_S16384x8x8_S16384x1x1_S16384x1x8_2_1_0_0_1_2_118 (ix3 q 0 l) (1 : Fin 3) + GatherDims.offCoord gather_S16384x8x8_S16384x1x1_S16384x1x8_2_1_0_0_1_2_118 (ix3 q 0 l) (1 : Fin 3) = a.val
    rw [GatherDims.batchCoord_eq_zero _ _ _ (show ((1 : Fin 3) ∉ gather_S16384x8x8_S16384x1x1_S16384x1x8_2_1_0_0_1_2_118.operandBatchingDims) from by decide), GatherDims.offCoord_eq_zero _ _ _ (show ((1 : Fin 3) ∉ gather_S16384x8x8_S16384x1x1_S16384x1x8_2_1_0_0_1_2_118.sKept) from by decide)]
    unfold GatherDims.start
    rw [dif_pos (show ((1 : Fin 3) ∈ gather_S16384x8x8_S16384x1x1_S16384x1x8_2_1_0_0_1_2_118.startIndexMap) from by decide)]
    have hs : GatherDims.siIdx gather_S16384x8x8_S16384x1x1_S16384x1x8_2_1_0_0_1_2_118 (ix3 q 0 l) ⟨0, by decide⟩ = ix3 q 0 0 := by
      funext b; refine Fin.ext ?_; fin_cases b <;> rfl
    have ht : ∀ a : Fin 8, min (BitVec.ofNat 32 a.val).toInt.toNat 7 + 0 + 0 = a.val := by decide
    refine Eq.trans ?_ (ht a)
    rw [← hw, ← hs]
    rfl
  | ⟨2, _⟩ =>
    show GatherDims.start gather_S16384x8x8_S16384x1x1_S16384x1x8_2_1_0_0_1_2_118 (ix3 q 0 l) w (2 : Fin 3) + GatherDims.batchCoord gather_S16384x8x8_S16384x1x1_S16384x1x8_2_1_0_0_1_2_118 (ix3 q 0 l) (2 : Fin 3) + GatherDims.offCoord gather_S16384x8x8_S16384x1x1_S16384x1x8_2_1_0_0_1_2_118 (ix3 q 0 l) (2 : Fin 3) = l.val
    rw [GatherDims.batchCoord_eq_zero _ _ _ (show ((2 : Fin 3) ∉ gather_S16384x8x8_S16384x1x1_S16384x1x8_2_1_0_0_1_2_118.operandBatchingDims) from by decide)]
    unfold GatherDims.start
    rw [dif_neg (show ((2 : Fin 3) ∉ gather_S16384x8x8_S16384x1x1_S16384x1x8_2_1_0_0_1_2_118.startIndexMap) from by decide)]
    show 0 + 0 + l.val = l.val
    omega

variable (x0 x1 : FVec Ideal S16384x1024 .bf16) (x2 : FVec Ideal S4x4096x2048 .f32) (x3 : FVec Ideal S2048x2048 .f32) (x4 : FVec Ideal S2048 .f32)
  (x5 : FVec Ideal S2048x64 .f32) (x6 : FVec Ideal S64 .f32) (x7 : FVec Ideal S2048x8 .f32) (x8 : FVec Ideal S8 .f32) (q : Fin 16384)

/-- A row's group logits. -/
def refGroups (k : Fin 8) : EReal := val_main_v22 (F := Ideal) x0 x1 x2 x3 x4 x7 x8 (ix2 q k)
/-- A row's expert logits, by group. -/
def refExperts (a k : Fin 8) : EReal := val_main_v38 (F := Ideal) x0 x1 x2 x3 x4 x5 x6 (ix3 q a k)

theorem ref_soft (k : Fin 8) : (val_main_v33 (F := Ideal) x0 x1 x2 x3 x4 x7 x8 (ix2 q k) : EReal) = soft (refGroups x0 x1 x2 x3 x4 x7 x8 q) k := by
  unfold val_main_v33 val_main_v32 val_main_v31 val_main_v30 val_main_v29 val_main_v28 val_main_v27 val_main_v26 val_main_v25 val_main_v24 val_main_v23 val_main_cst_2 val_main_cst_3 val_main_cst_4 refGroups
  generalize val_main_v22 (F := Ideal) x0 x1 x2 x3 x4 x7 x8 = g
  pointwise [soft, crest]

theorem ref_group : val_main_indices (F := Ideal) x0 x1 x2 x3 x4 x7 x8 (ix2 q 0) = BitVec.ofNat 32 (softGroup (refGroups x0 x1 x2 x3 x4 x7 x8 q)).val
    ∧ (val_main_values (F := Ideal) x0 x1 x2 x3 x4 x7 x8 (ix2 q 0) : EReal)
      = soft (refGroups x0 x1 x2 x3 x4 x7 x8 q) (softGroup (refGroups x0 x1 x2 x3 x4 x7 x8 q)) := by
  have hs := funext fun k => ref_soft x0 x1 x2 x3 x4 x7 x8 q k
  unfold val_main_indices val_main_values softGroup
  obtain ⟨h1, h2⟩ := topK_read (val_main_v33 (F := Ideal) x0 x1 x2 x3 x4 x7 x8) Gen.sliceFits_S16384x8_S16384x1 q (0 : Fin 1) (0 : Fin 8) rfl
  rw [hs] at h1 h2
  exact ⟨h2, h1.trans (congrFun hs _)⟩

theorem ref_word : val_main_call0_v4 (F := Ideal) x0 x1 x2 x3 x4 x7 x8 (ix3 q 0 0) = BitVec.ofNat 32 (softGroup (refGroups x0 x1 x2 x3 x4 x7 x8 q)).val := by
  have hg := (ref_group x0 x1 x2 x3 x4 x7 x8 q).1
  revert hg
  unfold val_main_call0_v4 val_main_call0_v3 val_main_call0_v2 val_main_call0_v1 val_main_call0_v0 val_main_v39 val_main_call0_c val_main_call0_c_0
  generalize val_main_indices (F := Ideal) x0 x1 x2 x3 x4 x7 x8 = w
  intro hg
  pointwise
  rw [hg]
  generalize softGroup _ = a
  revert a
  decide

theorem ref_inside : val_main_call0_v11 (F := Ideal) x0 x1 x2 x3 x4 x7 x8 (ix2 q 0) = 1#1 := by
  have hg := ref_word x0 x1 x2 x3 x4 x7 x8 q
  revert hg
  unfold val_main_call0_v11 val_main_call0_v10 val_main_call0_v9 val_main_call0_v8 val_main_call0_v7 val_main_call0_v6 val_main_call0_v5 val_main_call0_c_1 val_main_call0_c_2 val_main_call0_c_3
  generalize val_main_call0_v4 (F := Ideal) x0 x1 x2 x3 x4 x7 x8 = w
  intro hg
  pointwise
  rw [show (Finset.univ : Finset (Fin 1)) = {0} from rfl, Finset.fold_singleton, hg]
  generalize softGroup _ = a
  revert a
  decide

theorem ref_row (k : Fin 8) : (val_main_v41 (F := Ideal) x0 x1 x2 x3 x4 x5 x6 x7 x8 (ix2 q k) : EReal)
    = refExperts x0 x1 x2 x3 x4 x5 x6 q (softGroup (refGroups x0 x1 x2 x3 x4 x7 x8 q)) k := by
  have hi := ref_inside x0 x1 x2 x3 x4 x7 x8 q
  have hg := gather_row (val_main_v38 (F := Ideal) x0 x1 x2 x3 x4 x5 x6) _ q _ k (ref_word x0 x1 x2 x3 x4 x7 x8 q)
  revert hi hg
  unfold val_main_v41 val_main_v40 val_main_call0_v13 val_main_call0_v12 refExperts
  generalize Host.gather _ (val_main_v38 (F := Ideal) x0 x1 x2 x3 x4 x5 x6) (val_main_call0_v4 (F := Ideal) x0 x1 x2 x3 x4 x7 x8) = y
  generalize val_main_call0_v11 (F := Ideal) x0 x1 x2 x3 x4 x7 x8 = w
  generalize val_main_call0_v14 (F := Ideal) = z
  intro hi hg
  pointwise
  rw [hi]
  exact hg

theorem ref_soft_row (k : Fin 8) : (val_main_v52 (F := Ideal) x0 x1 x2 x3 x4 x5 x6 x7 x8 (ix2 q k) : EReal)
    = softRow (refGroups x0 x1 x2 x3 x4 x7 x8 q) (refExperts x0 x1 x2 x3 x4 x5 x6 q) k := by
  have hr := funext fun k => ref_row x0 x1 x2 x3 x4 x5 x6 x7 x8 q k
  unfold softRow
  rw [← hr]
  unfold val_main_v52 val_main_v51 val_main_v50 val_main_v49 val_main_v48 val_main_v47 val_main_v46 val_main_v45 val_main_v44 val_main_v43 val_main_v42 val_main_cst_5 val_main_cst_6 val_main_cst_7
  generalize val_main_v41 (F := Ideal) x0 x1 x2 x3 x4 x5 x6 x7 x8 = g
  pointwise [soft, crest]

theorem ref_pick (l : Fin 2) (l' : Fin 8) (hl : l'.val = l.val) :
    val_main_indices_9 (F := Ideal) x0 x1 x2 x3 x4 x5 x6 x7 x8 (ix2 q l)
      = BitVec.ofNat 32 (softPick (refGroups x0 x1 x2 x3 x4 x7 x8 q) (refExperts x0 x1 x2 x3 x4 x5 x6 q) l').val
    ∧ (val_main_values_8 (F := Ideal) x0 x1 x2 x3 x4 x5 x6 x7 x8 (ix2 q l) : EReal)
      = softRow (refGroups x0 x1 x2 x3 x4 x7 x8 q) (refExperts x0 x1 x2 x3 x4 x5 x6 q)
          (softPick (refGroups x0 x1 x2 x3 x4 x7 x8 q) (refExperts x0 x1 x2 x3 x4 x5 x6 q) l') := by
  have hs := funext fun k => ref_soft_row x0 x1 x2 x3 x4 x5 x6 x7 x8 q k
  unfold val_main_indices_9 val_main_values_8 softPick
  obtain ⟨h1, h2⟩ := topK_read (val_main_v52 (F := Ideal) x0 x1 x2 x3 x4 x5 x6 x7 x8) Gen.sliceFits_S16384x8_S16384x2 q l l' hl
  rw [hs] at h1 h2
  exact ⟨h2, h1.trans (congrFun hs _)⟩

theorem ref_number (l : Fin 2) (l' : Fin 8) (hl : l'.val = l.val) : (val_main_v63 (F := Ideal) x0 x1 x2 x3 x4 x5 x6 x7 x8 (ix2 q l) : EReal)
    = FloatOps.sitofp (F := Ideal) .f32 (softNumber (refGroups x0 x1 x2 x3 x4 x7 x8 q) (refExperts x0 x1 x2 x3 x4 x5 x6 q) l') := by
  unfold softNumber
  rw [← (ref_pick x0 x1 x2 x3 x4 x5 x6 x7 x8 q l l' hl).1, ← (ref_group x0 x1 x2 x3 x4 x7 x8 q).1]
  unfold val_main_v63 val_main_v62 val_main_v61 val_main_v60 val_main_v59 val_main_c
  generalize val_main_indices (F := Ideal) x0 x1 x2 x3 x4 x7 x8 = g
  generalize val_main_indices_9 (F := Ideal) x0 x1 x2 x3 x4 x5 x6 x7 x8 = h
  pointwise

theorem ref_gate (l : Fin 2) (l' : Fin 8) (hl : l'.val = l.val) : (val_main_v58 (F := Ideal) x0 x1 x2 x3 x4 x5 x6 x7 x8 (ix2 q l) : EReal)
    = softGate (refGroups x0 x1 x2 x3 x4 x7 x8 q) (refExperts x0 x1 x2 x3 x4 x5 x6 q) l' := by
  unfold softGate
  rw [← (ref_pick x0 x1 x2 x3 x4 x5 x6 x7 x8 q l l' hl).2, ← (ref_pick x0 x1 x2 x3 x4 x5 x6 x7 x8 q 0 0 rfl).2,
    ← (ref_pick x0 x1 x2 x3 x4 x5 x6 x7 x8 q 1 1 rfl).2, ← (ref_group x0 x1 x2 x3 x4 x7 x8 q).2]
  unfold val_main_v58 val_main_v57 val_main_v56 val_main_v55 val_main_v54 val_main_v53 val_main_cst_10
  generalize val_main_values (F := Ideal) x0 x1 x2 x3 x4 x7 x8 = g
  generalize val_main_values_8 (F := Ideal) x0 x1 x2 x3 x4 x5 x6 x7 x8 = h
  pointwise
  rw [Fin.sum_univ_two]

/-- The reference's record. -/
theorem ref_record (j : Fin 128) : (val_main_v65 (F := Ideal) x0 x1 x2 x3 x4 x5 x6 x7 x8 (ix2 q j) : EReal)
    = softRecord (refGroups x0 x1 x2 x3 x4 x7 x8 q) (refExperts x0 x1 x2 x3 x4 x5 x6 q) j := by
  have n0 := ref_number x0 x1 x2 x3 x4 x5 x6 x7 x8 q 0 0 rfl
  have n1 := ref_number x0 x1 x2 x3 x4 x5 x6 x7 x8 q 1 1 rfl
  have g0 := ref_gate x0 x1 x2 x3 x4 x5 x6 x7 x8 q 0 0 rfl
  have g1 := ref_gate x0 x1 x2 x3 x4 x5 x6 x7 x8 q 1 1 rfl
  unfold softRecord
  rw [← n0, ← n1, ← g0, ← g1]
  unfold val_main_v65 val_main_v64 val_main_call1_v0 val_main_c_11
  generalize val_main_v63 (F := Ideal) x0 x1 x2 x3 x4 x5 x6 x7 x8 = a
  generalize val_main_v58 (F := Ideal) x0 x1 x2 x3 x4 x5 x6 x7 x8 = b
  pointwise
  by_cases h : j.val < 4
  · rw [dif_pos h]
    obtain rfl | rfl | rfl | rfl : j = 0 ∨ j = 1 ∨ j = 2 ∨ j = 3 := by simp only [Fin.ext_iff]; show j.val = 0 ∨ j.val = 1 ∨ j.val = 2 ∨ j.val = 3; omega
    all_goals rfl
  · have hn : ∀ k : Fin 128, k.val < 4 → j ≠ k := fun k hk e => h (e ▸ hk)
    rw [dif_neg h, if_neg (hn 0 (by decide)), if_neg (hn 1 (by decide)), if_neg (hn 2 (by decide)), if_neg (hn 3 (by decide))]
    show (((0#32 : BitVec 32).toInt : ℝ) : EReal) = 0
    simp

end Cert.Route
end
-- ==== Proof.RouteReal.lean ====
module

public import proofs.«01_k».proof.Proof.RouteBlock
public import proofs.«01_k».proof.Proof.RouteRef

@[expose] public section

/-! The router on real logits: the kernel's record is the reference's. -/

noncomputable section
namespace Cert.Route
open Idealize.ShloMosaic

/-! Real entries. -/

/-- An extended real that is a real. -/
def IsReal (x : EReal) : Prop := ∃ r : ℝ, x = (r : EReal)

theorem IsReal.add {x y : EReal} : IsReal x → IsReal y → IsReal (x + y) := fun ⟨a, ha⟩ ⟨b, hb⟩ => ⟨a + b, by rw [ha, hb]; rfl⟩
theorem IsReal.mul {x y : EReal} : IsReal x → IsReal y → IsReal (x * y) := fun ⟨a, ha⟩ ⟨b, hb⟩ => ⟨a * b, by rw [ha, hb]; rfl⟩
theorem IsReal.sub_self {x : EReal} : IsReal x → x - x = 0 := fun ⟨a, ha⟩ => by rw [ha, ← EReal.coe_sub, _root_.sub_self]; rfl
theorem coe_sum {n : ℕ} (f : Fin n → ℝ) : ∑ k, (f k : EReal) = ((∑ k, f k : ℝ) : EReal) :=
  (map_sum (⟨⟨fun r : ℝ => (r : EReal), rfl⟩, EReal.coe_add⟩ : ℝ →+ EReal) f Finset.univ).symm
theorem IsReal.sum {n : ℕ} {x : Fin n → EReal} (h : ∀ k, IsReal (x k)) : IsReal (∑ k, x k) := by
  choose f hf using h
  exact ⟨∑ k, f k, by rw [← coe_sum]; exact Finset.sum_congr rfl fun k _ => hf k⟩
theorem div_real (x : ℝ) {y : ℝ} (h : y ≠ 0) : Ideal.div (x : EReal) (y : EReal) = ((x / y : ℝ) : EReal) := by
  rw [Ideal.div_coe h, ← EReal.coe_mul]
  exact congrArg _ (by ring)

/-- The normalised entries of a real row are real. -/
theorem normed_real {x : Fin 2048 → EReal} {g : EReal} (hx : ∀ k, IsReal (x k)) (hg : IsReal g) (d : Fin 2048) : IsReal (Proj.normed x g d) := by
  choose f hf using hx
  obtain rfl : x = fun k => (f k : EReal) := funext hf
  obtain ⟨e, he, hb⟩ : ∃ e : ℝ, 0 < e ∧ Ideal.ofBits FTy.f32 897988541#32 = (e : EReal) := by
    refine ⟨_, ?_, by simp [Ideal.ofBits, Ideal.ieee]; rfl⟩
    positivity
  obtain ⟨N, hN, hc⟩ : ∃ N : ℝ, 0 < N ∧ Ideal.ofBits FTy.f32 1157627904#32 = (N : EReal) := by
    refine ⟨_, ?_, by simp [Ideal.ofBits, Ideal.ieee]; rfl⟩
    positivity
  unfold Proj.normed
  rw [hb, hc]
  simp only [← EReal.coe_mul]
  rw [coe_sum, div_real _ hN.ne', ← EReal.coe_add, Ideal.rsqrt_coe]
  have hp : 0 < (∑ k, f k * f k) / N + e := by
    have : 0 ≤ ∑ k, f k * f k := Finset.sum_nonneg fun k _ => mul_self_nonneg _
    positivity
  rw [if_neg hp.le.not_gt, if_neg hp.ne']
  exact (IsReal.mul ⟨_, rfl⟩ ⟨_, rfl⟩).mul hg

/-! The softmax keeps the order. -/

theorem order_congr {n : ℕ} {x y : Fin n → EReal} (h : ∀ a b, x b < x a ↔ y b < y a) : order x = order y := by
  unfold order
  exact congrArg sortedFrom (funext fun a => funext fun b => decide_eq_decide.mpr (h a b))

theorem crest_eq (g : Fin 8 → EReal) : crest g = g (order g 0) := by
  unfold crest
  rw [ninf, max_eq_right bot_le]
  refine le_antisymm (Finset.fold_max_le _ |>.mpr ⟨bot_le, fun j _ => ?_⟩) (Finset.le_fold_max _ |>.mpr (Or.inr ⟨_, Finset.mem_univ _, le_rfl⟩))
  by_cases hj : j = order g 0
  · rw [hj]
  · rcases order_before g 0 j (fun l hl => by obtain rfl : l = 0 := le_antisymm hl (Fin.zero_le _); exact hj) with h | h
    · exact h.le
    · exact h.1.le

section Soft
variable (f : Fin 8 → ℝ)

/-- The denominator of a real softmax. -/
def total : ℝ := ∑ x, Real.exp (f x - f (order (fun k => (f k : EReal)) 0))

theorem total_pos : 0 < total f := Finset.sum_pos (fun _ _ => Real.exp_pos _) Finset.univ_nonempty

theorem soft_real (k : Fin 8) : soft (fun k => (f k : EReal)) k = ((Real.exp (f k - f (order (fun k => (f k : EReal)) 0)) / total f : ℝ) : EReal) := by
  unfold soft
  rw [crest_eq]
  simp only [← EReal.coe_sub, Ideal.exp_coe]
  rw [coe_sum]
  exact div_real _ (total_pos f).ne'

theorem order_soft : order (soft fun k => (f k : EReal)) = order fun k => (f k : EReal) := by
  refine order_congr fun a b => ?_
  rw [soft_real, soft_real, EReal.coe_lt_coe_iff, EReal.coe_lt_coe_iff, div_lt_div_iff_of_pos_right (total_pos f), Real.exp_lt_exp]
  exact sub_lt_sub_iff_right _
end Soft

/-- On real logits, the reference's record is the kernel's. -/
theorem record_eq {g : Fin 8 → EReal} {e : Fin 8 → Fin 8 → EReal} (hg : ∀ k, IsReal (g k)) (he : ∀ a k, IsReal (e a k)) :
    softRecord g e = record g e := by
  choose f hf using hg
  choose y hy using he
  obtain rfl : g = fun k => (f k : EReal) := funext hf
  obtain rfl : e = fun a k => (y a k : EReal) := funext fun a => funext fun k => hy a k
  have hG : softGroup (fun k => (f k : EReal)) = groupOf fun k => (f k : EReal) := congrFun (order_soft f) 0
  have hP : ∀ l, softPick (fun k => (f k : EReal)) (fun a k => (y a k : EReal)) l = pick (fun k => (f k : EReal)) (fun a k => (y a k : EReal)) l := fun l => by
    unfold softPick pick softRow
    rw [hG]
    exact congrFun (order_soft _) l
  have hn : ∀ a k : Fin 8, IntOp.addi (IntOp.muli (BitVec.ofNat 32 a.val) 8#32) (BitVec.ofNat 32 k.val) = BitVec.ofNat 32 (expertLane a k).val := by decide
  have hN : ∀ l, softNumber (fun k => (f k : EReal)) (fun a k => (y a k : EReal)) l = number (fun k => (f k : EReal)) (fun a k => (y a k : EReal)) l := fun l => by
    unfold softNumber number
    rw [hG, hP]
    exact hn _ _
  have hs : soft (fun k => (f k : EReal)) (groupOf fun k => (f k : EReal)) = ((1 / total f : ℝ) : EReal) := by
    rw [soft_real]
    unfold groupOf
    rw [sub_self, Real.exp_zero]
  have hS : share (fun k => (f k : EReal)) = ((1 / total f : ℝ) : EReal) := by
    unfold share groupOf
    simp only [← EReal.coe_sub, Ideal.exp_coe]
    rw [coe_sum]
    exact div_real 1 (total_pos f).ne'
  generalize ha : groupOf (fun k => (f k : EReal)) = a at hG hs
  have h0 : pick (fun k => (f k : EReal)) (fun a k => (y a k : EReal)) 0 = order (fun k => (y a k : EReal)) 0 := by unfold pick; rw [ha]
  generalize hp : pick (fun k => (f k : EReal)) (fun a k => (y a k : EReal)) 0 = p at h0
  generalize hq : pick (fun k => (f k : EReal)) (fun a k => (y a k : EReal)) 1 = q
  have hT := total_pos (y a)
  have r0 : softRow (fun k => (f k : EReal)) (fun a k => (y a k : EReal)) p = ((1 / total (y a) : ℝ) : EReal) := by
    unfold softRow
    rw [hG, soft_real, ← h0, sub_self, Real.exp_zero]
  have r1 : softRow (fun k => (f k : EReal)) (fun a k => (y a k : EReal)) q = ((Real.exp (y a q - y a p) / total (y a) : ℝ) : EReal) := by
    unfold softRow
    rw [hG, soft_real, ← h0]
  have hE : ratio (fun k => (f k : EReal)) (fun a k => (y a k : EReal)) = ((Real.exp (y a q - y a p) : ℝ) : EReal) := by
    unfold ratio
    rw [ha, hp, hq, ← EReal.coe_sub, Ideal.exp_coe]
  have hR := Real.exp_pos (y a q - y a p)
  have hd : (1 / total (y a) + Real.exp (y a q - y a p) / total (y a)) ≠ 0 := by positivity
  have hd' : 1 + Real.exp (y a q - y a p) ≠ 0 := by positivity
  have k0 : softGate (fun k => (f k : EReal)) (fun a k => (y a k : EReal)) 0
      = Ideal.div (share fun k => (f k : EReal)) (1 + ratio (fun k => (f k : EReal)) (fun a k => (y a k : EReal))) := by
    unfold softGate
    rw [hP, hP, hp, hq, hG, hs, hS, hE, r0, r1, ← EReal.coe_add, div_real _ hd, ← EReal.coe_mul, ← EReal.coe_one, ← EReal.coe_add, div_real _ hd']
    refine congrArg _ ?_
    field_simp
  have k1 : softGate (fun k => (f k : EReal)) (fun a k => (y a k : EReal)) 1
      = Ideal.div ((share fun k => (f k : EReal)) * ratio (fun k => (f k : EReal)) (fun a k => (y a k : EReal))) (1 + ratio (fun k => (f k : EReal)) (fun a k => (y a k : EReal))) := by
    unfold softGate
    rw [hP, hP, hp, hq, hG, hs, hS, hE, r0, r1, ← EReal.coe_add, div_real _ hd, ← EReal.coe_mul, ← EReal.coe_mul, ← EReal.coe_one, ← EReal.coe_add, div_real _ hd']
    refine congrArg _ ?_
    field_simp
  funext j
  unfold softRecord record
  rw [hN, hN, k0, k1]

/-! The split product. -/

/-- A logit as the kernel computes it: the row and the weight each in two parts, the product of the second parts left out. -/
def split (h u v : Fin 2048 → EReal) (b : EReal) : EReal := ∑ x, h x * u x + (∑ x, h x * v x + ∑ x, (h x - h x) * u x) + b

/-- A logit. -/
def logit (h w : Fin 2048 → EReal) (b : EReal) : EReal := ∑ x, h x * w x + b

theorem split_eq {h w : Fin 2048 → EReal} (b : EReal) (hh : ∀ x, IsReal (h x)) (hw : ∀ x, IsReal (w x)) : split h w (fun x => w x - w x) b = logit h w b := by
  unfold split logit
  have e1 : ∑ x, h x * (w x - w x) = 0 := Finset.sum_eq_zero fun x _ => by rw [(hw x).sub_self, mul_zero]
  have e2 : ∑ x, (h x - h x) * w x = 0 := Finset.sum_eq_zero fun x _ => by rw [(hh x).sub_self, zero_mul]
  rw [e1, e2, add_zero, add_zero]

theorem logit_real {h w : Fin 2048 → EReal} {b : EReal} (hh : ∀ x, IsReal (h x)) (hw : ∀ x, IsReal (w x)) (hb : IsReal b) : IsReal (logit h w b) :=
  (IsReal.sum fun x => (hh x).mul (hw x)).add hb

end Cert.Route
end
-- ==== Proof.RouteCall.lean ====
module

public import proofs.«01_k».proof.Proof.RouteReal
public import proofs.«01_k».proof.Proof.OutProjBlock
public import Idealize.ShloMosaic.Lib.Pipeline.ValueKit.Tiles

@[expose] public section

/-! The router: what the call leaves of one block, and of the whole array. -/

noncomputable section
namespace Cert.Route
open Idealize.ShloMosaic Idealize.ShloMosaic.TcCoe Cert.Kernel5Ideal Cert.Kernel5Ideal.Gen

set_option maxRecDepth 16384

/-! One block. -/

section Block
variable (a b : Vec Ideal S512x1024 .bf16) (x : Vec Ideal S512x2048 .f32) (u v : Vec Ideal S1024x2048 .bf16) (g : Vec Ideal S1x2048 .f32)
  (w : Vec Ideal S2048x256 .bf16) (c : Vec Ideal S1x128 .f32) (r : Fin 512)

/-- A row of the block after the norm. -/
def blockRow (k : Fin 2048) : EReal :=
  Proj.normed (fun n => OutProj.mixed (x (ix2 r n)) (fun k => a (ix2 r k)) (fun k => b (ix2 r k)) (fun k => u (ix2 k n)) (fun k => v (ix2 k n))) (g (ix2 0 k)) k

theorem pay_row (k : Fin 2048) : (k0_pay3 x a u b v g (ix2 r k) : EReal) = blockRow a b x u v g r k := by
  have hm : ∀ n, (k0_pay2 x a u b v (ix2 r n) : EReal)
      = OutProj.mixed (x (ix2 r n)) (fun k => a (ix2 r k)) (fun k => b (ix2 r k)) (fun k => u (ix2 k n)) (fun k => v (ix2 k n)) := fun n => by
    pointwise [k0_pay2, OutProj.mixed]
  unfold blockRow
  simp only [← hm]
  unfold k0_pay3
  generalize k0_pay2 x a u b v = h
  pointwise [Proj.normed]

theorem pay_high (k : Fin 2048) : (k0_pay5 x a u b v g (ix2 r k) : EReal) = blockRow a b x u v g r k := by
  rw [← pay_row]
  unfold k0_pay5
  generalize k0_pay3 x a u b v g = h
  pointwise

theorem pay_low (k : Fin 2048) : (k0_pay6 x a u b v g (ix2 r k) : EReal) = blockRow a b x u v g r k - blockRow a b x u v g r k := by
  have hr := pay_row a b x u v g r k
  have hh := pay_high a b x u v g r k
  revert hr hh
  unfold k0_pay6
  generalize k0_pay5 x a u b v g = h
  generalize k0_pay3 x a u b v g = y
  intro hr hh
  pointwise
  rw [hr, hh]

/-- A row's logits, lane by lane. -/
def blockLogit (j : Fin 128) : EReal :=
  split (blockRow a b x u v g r) (fun k => w (ix2 k ⟨j.val, by omega⟩)) (fun k => w (ix2 k ⟨128 + j.val, by omega⟩)) (c (ix2 0 j))

theorem pay_logit (j : Fin 128) : (k0_pay28 a b x u v g w c (ix2 r j) : EReal) = blockLogit a b x u v g w c r j := by
  have e5 : k0_pay25 a b x u v g w c = k0_pay5 x a u b v g := by
    unfold k0_pay25
    refine congr (congr (congr (congr (congrArg₂ k0_pay5 ?_ ?_) ?_) ?_) ?_) ?_ <;> exact View.ld_unit_lit _ _ (by decide)
  have e6 : k0_pay26 a b x u v g w c = k0_pay6 x a u b v g := by
    unfold k0_pay26
    refine congr (congr (congr (congr (congrArg₂ k0_pay6 ?_ ?_) ?_) ?_) ?_) ?_ <;> exact View.ld_unit_lit _ _ (by decide)
  have hu : ∀ k, (View.ld w r0_5 (ix2 k j) : EReal) = w (ix2 k ⟨j.val, by omega⟩) := fun k =>
    View.ld_unit_apply_of w _ _ _ _ _ fun a => match a with
      | ⟨0, _⟩ => (Nat.zero_add k.val).symm
      | ⟨1, _⟩ => (Nat.zero_add j.val).symm
  have hv : ∀ k, (View.ld w r0_6 (ix2 k j) : EReal) = w (ix2 k ⟨128 + j.val, by omega⟩) := fun k =>
    View.ld_unit_apply_of w _ _ _ _ _ fun a => match a with
      | ⟨0, _⟩ => (Nat.zero_add k.val).symm
      | ⟨1, _⟩ => rfl
  have hc : View.ld c r0_7 = c := View.ld_unit_lit _ _ (by decide)
  have hh := fun k => pay_high a b x u v g r k
  have hl := fun k => pay_low a b x u v g r k
  revert hu hv hc hh hl
  unfold k0_pay28 blockLogit split
  rw [e5, e6]
  generalize k0_pay5 x a u b v g = p
  generalize k0_pay6 x a u b v g = q
  generalize View.ld w r0_5 = y
  generalize View.ld w r0_6 = z
  generalize View.ld c r0_7 = d
  intro hu hv hc hh hl
  subst hc
  unfold k0_pay7
  pointwise
  simp only [hu, hv, hh, hl]

/-- A row's record in the block. -/
def blockRecord (j : Fin 128) : EReal :=
  record (fun k => blockLogit a b x u v g w c r (groupLane k)) (fun i k => blockLogit a b x u v g w c r (expertLane i k)) j

theorem out_record (j : Fin 128) : (out0_10 a b x u v g w c (ix2 r j) : EReal) = blockRecord a b x u v g w c r j := by
  have hL := fun j => pay_logit a b x u v g w c r j
  have hg : groups (k0_pay28 a b x u v g w c) r = fun k => blockLogit a b x u v g w c r (groupLane k) := funext fun k => hL _
  have he : experts (k0_pay28 a b x u v g w c) r = fun i k => blockLogit a b x u v g w c r (expertLane i k) := funext fun i => funext fun k => hL _
  have hw : k0_pay30 a b x u v g w c (ix2 r 0) = BitVec.ofNat 32 (groupOf (groups (k0_pay28 a b x u v g w c) r)).val := group_word _ _ _ _ _ r
  have hs : (k0_pay29 a b x u v g w c (ix2 r 0) : EReal) = share (groups (k0_pay28 a b x u v g w c) r) := group_share _ _ _ _ _ r
  unfold blockRecord record number ratio pick
  rw [← hg, ← he, ← hs]
  have i1 := first_word (k0_pay28 a b x u v g w c) (k0_pay30 a b x u v g w c) r _ hw
  have i2 := second_word (k0_pay28 a b x u v g w c) (k0_pay30 a b x u v g w c) r _ hw
  have g1 := first_gate (k0_pay28 a b x u v g w c) (k0_pay29 a b x u v g w c) (k0_pay30 a b x u v g w c) r _ hw
  have g2 := second_gate (k0_pay28 a b x u v g w c) (k0_pay29 a b x u v g w c) (k0_pay30 a b x u v g w c) r _ hw
  rw [← i1, ← i2, ← g1, ← g2]
  unfold out0_10
  refine (congrFun (View.canon_cons_unit_lit _ _ _ (by decide)) (ix2 r j)).trans ?_
  exact pay_lanes _ _ _ _ r j
end Block

/-! The whole array. -/

variable (m : (ℓ : Loc nD τ sig) → Buf (Elt Ideal) ℓ) (c : Dev nD)

theorem idx_rows : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_10.index t 0 = t.val ∧ win0_10.index t 1 = 0) := by
  decide +kernel
theorem idx_whole : ∀ t : Fin grid0.N, (∀ d, win0_3.index t d = 0) ∧ (∀ d, win0_4.index t d = 0) ∧ (∀ d, win0_5.index t d = 0)
    ∧ (∀ d, win0_6.index t d = 0) ∧ ∀ d, win0_7.index t d = 0 := by
  decide +kernel

theorem a_at (t : Fin cfg0.N) (r : Fin 512) (d : Fin 1024) (q : Fin 16384) (hq : q.val = 512 * t.val + r.val) :
    (iblk m c 0 t (ix2 r d) : EReal) = V m c main_arg0 (ix2 q d) := by
  refine congrArg (V m c main_arg0) (funext fun a => Fin.ext ((win0_0.rect_emb_val t (ix2 r d) a).trans ?_))
  obtain ⟨⟨e0, e1⟩, -⟩ := idx_rows t
  match a with
  | ⟨0, _⟩ => show win0_0.index t 0 * 512 + r.val = q.val; rw [e0, hq]; omega
  | ⟨1, _⟩ => show win0_0.index t 1 * 1024 + d.val = d.val; rw [e1]; omega
theorem b_at (t : Fin cfg0.N) (r : Fin 512) (d : Fin 1024) (q : Fin 16384) (hq : q.val = 512 * t.val + r.val) :
    (iblk m c 1 t (ix2 r d) : EReal) = V m c main_arg1 (ix2 q d) := by
  refine congrArg (V m c main_arg1) (funext fun a => Fin.ext ((win0_1.rect_emb_val t (ix2 r d) a).trans ?_))
  obtain ⟨-, ⟨e0, e1⟩, -⟩ := idx_rows t
  match a with
  | ⟨0, _⟩ => show win0_1.index t 0 * 512 + r.val = q.val; rw [e0, hq]; omega
  | ⟨1, _⟩ => show win0_1.index t 1 * 1024 + d.val = d.val; rw [e1]; omega
theorem x_at (t : Fin cfg0.N) (r : Fin 512) (d : Fin 2048) (q : Fin 16384) (hq : q.val = 512 * t.val + r.val) :
    (iblk m c 2 t (ix2 r d) : EReal) = V m c main_v0 (ix2 q d) := by
  refine congrArg (V m c main_v0) (funext fun a => Fin.ext ((win0_2.rect_emb_val t (ix2 r d) a).trans ?_))
  obtain ⟨-, -, ⟨e0, e1⟩, -⟩ := idx_rows t
  match a with
  | ⟨0, _⟩ => show win0_2.index t 0 * 512 + r.val = q.val; rw [e0, hq]; omega
  | ⟨1, _⟩ => show win0_2.index t 1 * 2048 + d.val = d.val; rw [e1]; omega
theorem u_whole (t : Fin cfg0.N) : (iblk m c 3 t : S1024x2048.Idx → EReal) = V m c main_v12 := by
  funext i
  refine congrArg (V m c main_v12) (funext fun a => Fin.ext ((win0_3.rect_emb_val t i a).trans ?_))
  obtain ⟨e, -⟩ := idx_whole t
  rw [e a, Nat.zero_mul, Nat.zero_add]
theorem v_whole (t : Fin cfg0.N) : (iblk m c 4 t : S1024x2048.Idx → EReal) = V m c main_v13 := by
  funext i
  refine congrArg (V m c main_v13) (funext fun a => Fin.ext ((win0_4.rect_emb_val t i a).trans ?_))
  obtain ⟨-, e, -⟩ := idx_whole t
  rw [e a, Nat.zero_mul, Nat.zero_add]
theorem g_whole (t : Fin cfg0.N) : (iblk m c 5 t : S1x2048.Idx → EReal) = V m c main_v14 := by
  funext i
  refine congrArg (V m c main_v14) (funext fun a => Fin.ext ((win0_5.rect_emb_val t i a).trans ?_))
  obtain ⟨-, -, e, -⟩ := idx_whole t
  rw [e a, Nat.zero_mul, Nat.zero_add]
theorem w_whole (t : Fin cfg0.N) : (iblk m c 6 t : S2048x256.Idx → EReal) = V m c main_v8 := by
  funext i
  refine congrArg (V m c main_v8) (funext fun a => Fin.ext ((win0_6.rect_emb_val t i a).trans ?_))
  obtain ⟨-, -, -, e, -⟩ := idx_whole t
  rw [e a, Nat.zero_mul, Nat.zero_add]
theorem c_whole (t : Fin cfg0.N) : (iblk m c 7 t : S1x128.Idx → EReal) = V m c main_v11 := by
  funext i
  refine congrArg (V m c main_v11) (funext fun a => Fin.ext ((win0_7.rect_emb_val t i a).trans ?_))
  obtain ⟨-, -, -, -, e⟩ := idx_whole t
  rw [e a, Nat.zero_mul, Nat.zero_add]

/-- A row after the norm, from the arrays the kernel reads. -/
def rowOf (q : Fin 16384) (k : Fin 2048) : EReal :=
  Proj.normed (OutProj.entry (V m c main_v0) (V m c main_arg0) (V m c main_arg1) (V m c main_v12) (V m c main_v13) q) (V m c main_v14 (ix2 0 k)) k
/-- A row's logits, from the arrays the kernel reads. -/
def logitOf (q : Fin 16384) (j : Fin 128) : EReal :=
  split (rowOf m c q) (fun k => V m c main_v8 (ix2 k ⟨j.val, by omega⟩)) (fun k => V m c main_v8 (ix2 k ⟨128 + j.val, by omega⟩)) (V m c main_v11 (ix2 0 j))
/-- A row's record, from the arrays the kernel reads. -/
def recordOf (q : Fin 16384) (j : Fin 128) : EReal := record (fun k => logitOf m c q (groupLane k)) (fun i k => logitOf m c q (expertLane i k)) j

theorem block_record (t : Fin cfg0.N) (r : Fin 512) (n : Fin 128) (q : Fin 16384) (hq : q.val = 512 * t.val + r.val) (p : Fin 128) (hp : p.val = n.val) :
    (out0_10 (iblk m c 0 t) (iblk m c 1 t) (iblk m c 2 t) (iblk m c 3 t) (iblk m c 4 t) (iblk m c 5 t) (iblk m c 6 t) (iblk m c 7 t) (ix2 r n) : EReal)
      = recordOf m c q p := by
  obtain rfl : p = n := Fin.ext hp
  refine (out_record _ _ _ _ _ _ _ _ r p).trans ?_
  have hr : blockRow (iblk m c 0 t) (iblk m c 1 t) (iblk m c 2 t) (iblk m c 3 t) (iblk m c 4 t) (iblk m c 5 t) r = rowOf m c q := by
    funext k
    unfold blockRow rowOf OutProj.entry
    rw [u_whole, v_whole, g_whole]
    exact congrArg (fun f => Proj.normed f _ k) (funext fun n => congr (congr (congrArg₂ OutProj.mixed (x_at m c t r n q hq) (funext fun k => a_at m c t r k q hq))
      (funext fun k => b_at m c t r k q hq)) rfl |> fun h => congrFun h _)
  have hl : blockLogit (iblk m c 0 t) (iblk m c 1 t) (iblk m c 2 t) (iblk m c 3 t) (iblk m c 4 t) (iblk m c 5 t) (iblk m c 6 t) (iblk m c 7 t) r = logitOf m c q := by
    funext j
    unfold blockLogit logitOf
    rw [hr, w_whole, c_whole]
  unfold blockRecord recordOf
  rw [hl]

theorem flush10 : ∀ t : Fin cfg0.N, (cfg0.win 10).flush t = true := by decide +kernel

/-- The records after the run. -/
theorem arr_record : (dats m 0 c).arrAt 10 cfg0.N = fun i : S16384x128.Idx => recordOf m c (i 0) (i 1) := by
  refine (dats m 0 c).arrAt_eq_of_cover 10 _ (fun t _ => ?_) (fun i => ?_)
  · rw [Value.flushed10]
    funext y
    obtain ⟨r, n, rfl⟩ : ∃ (r : Fin 512) (n : Fin 128), y = ix2 r n := ⟨y 0, y 1, by funext a; fin_cases a <;> rfl⟩
    obtain ⟨-, -, -, e0, e1⟩ := idx_rows t
    refine block_record m c t r n _ ?_ _ ?_
    · refine (win0_10.rect_emb_val t (ix2 r n) 0).trans ?_
      show win0_10.index t 0 * 512 + r.val = _
      rw [e0]; omega
    · refine (win0_10.rect_emb_val t (ix2 r n) 1).trans ?_
      show win0_10.index t 1 * 128 + n.val = _
      rw [e1]; omega
  · obtain ⟨t, r, h⟩ : ∃ (t : Fin cfg0.N) (r : Fin 512), (i 0).val = t.val * 512 + r.val := OutProj.row (i 0)
    obtain ⟨-, -, -, e0, e1⟩ := idx_rows t
    have hi : i = (win0_10.rect t).emb (ix2 r (i 1)) := by
      funext a
      refine Fin.ext (Eq.trans ?_ (win0_10.rect_emb_val t (ix2 r (i 1)) a).symm)
      match a with
      | ⟨0, _⟩ => show (i 0).val = win0_10.index t 0 * 512 + r.val; rw [e0]; exact h
      | ⟨1, _⟩ => show (i 1).val = win0_10.index t 1 * 128 + (i 1).val; rw [e1]; omega
    refine ⟨t, flush10 t, ?_⟩
    rw [hi]
    exact ((cfg0.win 10).blk t).view.emb_mem_set _

end Cert.Route
end
-- ==== Proof.RouteHost.lean ====
module

public import proofs.«01_k».proof.Proof.RouteCall
public import proofs.«01_k».proof.Proof.OutProjAgree

@[expose] public section

/-! The router: the arrays the call reads, from the program's arguments. -/

noncomputable section
namespace Cert.Route
open Idealize.ShloMosaic Idealize.ShloMosaic.TcCoe Cert.Kernel5Ideal Cert.Kernel5Ideal.Gen

set_option maxRecDepth 16384

/-- The two routers' weights side by side, padded to the lanes. -/
def wide (x : FVec Ideal S2048x64 .f32) (y : FVec Ideal S2048x8 .f32) : FVec Ideal S2048x128 .f32 :=
  pad S2048x128 ![0, 0] ![0, 56] ![0, 0] (concatenate S2048x72 1 [⟨S2048x64, x⟩, ⟨S2048x8, y⟩] concatenates_S2048x64_S2048x8_S2048x72_d1)
    (sitofp (F := Ideal) .f32 (constantI S_ 32 0#32)) pads_S2048x72_S2048x128_000_0560 h_S_
/-- The two routers' biases side by side, padded to the lanes. -/
def wideBias (x : FVec Ideal S64 .f32) (y : FVec Ideal S8 .f32) : FVec Ideal S1x128 .f32 :=
  pad S1x128 ![0, 0] ![0, 56] ![0, 0] (broadcastInDim S1x72 ![1] bcast_S72_S1x72_1 (concatenate S72 0 [⟨S64, x⟩, ⟨S8, y⟩] concatenates_S64_S8_S72_d0))
    (sitofp (F := Ideal) .f32 (constantI S_ 32 0#32)) pads_S1x72_S1x128_000_0560 h_S_
/-- A weight's leading part and what it leaves, side by side. -/
def parts (w : FVec Ideal S2048x128 .f32) : FVec Ideal S2048x256 .bf16 :=
  concatenate S2048x256 1 [⟨S2048x128, truncf (F := Ideal) .bf16 w bitsLt_bf16_f32⟩,
    ⟨S2048x128, truncf (F := Ideal) .bf16 (subf w (extf .f32 (truncf (F := Ideal) .bf16 w bitsLt_bf16_f32) bitsLt_bf16_f32)) bitsLt_bf16_f32⟩]
    concatenates_S2048x128_S2048x128_S2048x256_d1

theorem wide_expert (x y) (n : Fin 2048) (a k : Fin 8) : (wide x y (ix2 n (expertLane a k)) : EReal) = x (ix2 n ⟨8 * a.val + k.val, by omega⟩) := by
  unfold wide
  pointwise
  have h1 : 8 * a.val + k.val < 72 := by omega
  have h2 : 8 * a.val + k.val < 64 := by omega
  simp [expertLane, h1, h2]
theorem wide_group (x y) (n : Fin 2048) (k : Fin 8) : (wide x y (ix2 n (groupLane k)) : EReal) = y (ix2 n k) := by
  unfold wide
  pointwise
  have h1 : 64 + k.val < 72 := by omega
  simp [groupLane, h1]
theorem bias_expert (x y) (a k : Fin 8) : (wideBias x y (ix2 0 (expertLane a k)) : EReal) = x (ix1 ⟨8 * a.val + k.val, by omega⟩) := by
  unfold wideBias
  pointwise
  have h1 : 8 * a.val + k.val < 72 := by omega
  have h2 : 8 * a.val + k.val < 64 := by omega
  simp [expertLane, h1, h2]
theorem bias_group (x y) (k : Fin 8) : (wideBias x y (ix2 0 (groupLane k)) : EReal) = y (ix1 k) := by
  unfold wideBias
  pointwise
  have h1 : 64 + k.val < 72 := by omega
  simp [groupLane, h1]
theorem parts_high (w) (n : Fin 2048) (j : Fin 128) : (parts w (ix2 n ⟨j.val, by omega⟩) : EReal) = w (ix2 n j) := by
  unfold parts
  pointwise
theorem parts_low (w) (n : Fin 2048) (j : Fin 128) : (parts w (ix2 n ⟨128 + j.val, by omega⟩) : EReal) = w (ix2 n j) - w (ix2 n j) := by
  unfold parts
  pointwise

variable (m : (ℓ : Loc nD τ sig) → Buf (Elt Ideal) ℓ) (c : Dev nD)

theorem V_x : V m c main_v0 = shapeCast S16384x2048 (m (c, main_arg2)) shapeCasts_S4x4096x2048_S16384x2048 := by
  show StableHlo.after (List.flatten [hostOps0, hostOps0_1, hostOps0_2, hostOps0_3, hostOps0_4]) _ _ = _
  simp only [hostOps0, hostOps0_1, hostOps0_2, hostOps0_3, hostOps0_4, List.flatten, List.append, StableHlo.TRef.binary, StableHlo.TRef.unary, StableHlo.TRef.toBuf, StableHlo.TRef.ofBuf, cast_eq]
  after_results <;> rfl
theorem V_g : V m c main_v14 = shapeCast S1x2048 (m (c, main_arg4)) shapeCasts_S2048_S1x2048 := by
  show StableHlo.after (List.flatten [hostOps0, hostOps0_1, hostOps0_2, hostOps0_3, hostOps0_4]) _ _ = _
  simp only [hostOps0, hostOps0_1, hostOps0_2, hostOps0_3, hostOps0_4, List.flatten, List.append, StableHlo.TRef.binary, StableHlo.TRef.unary, StableHlo.TRef.toBuf, StableHlo.TRef.ofBuf, cast_eq]
  after_results <;> rfl
theorem V_u : V m c main_v12 = extractStridedSlice S1024x2048 ![0, 0] (truncf (F := Ideal) .bf16 (φ := .f32) (m (c, main_arg3) : FVec Ideal S2048x2048 .f32) bitsLt_bf16_f32) slices_S2048x2048_S1024x2048_0_0 := by
  show StableHlo.after (List.flatten [hostOps0, hostOps0_1, hostOps0_2, hostOps0_3, hostOps0_4]) _ _ = _
  simp only [hostOps0, hostOps0_1, hostOps0_2, hostOps0_3, hostOps0_4, List.flatten, List.append, StableHlo.TRef.binary, StableHlo.TRef.unary, StableHlo.TRef.toBuf, StableHlo.TRef.ofBuf, cast_eq]
  after_results <;> rfl
theorem V_v : V m c main_v13 = extractStridedSlice S1024x2048 ![1024, 0] (truncf (F := Ideal) .bf16 (φ := .f32) (m (c, main_arg3) : FVec Ideal S2048x2048 .f32) bitsLt_bf16_f32) slices_S2048x2048_S1024x2048_1024_0 := by
  show StableHlo.after (List.flatten [hostOps0, hostOps0_1, hostOps0_2, hostOps0_3, hostOps0_4]) _ _ = _
  simp only [hostOps0, hostOps0_1, hostOps0_2, hostOps0_3, hostOps0_4, List.flatten, List.append, StableHlo.TRef.binary, StableHlo.TRef.unary, StableHlo.TRef.toBuf, StableHlo.TRef.ofBuf, cast_eq]
  after_results <;> rfl
theorem V_w : V m c main_v8 = parts (wide (m (c, main_arg5)) (m (c, main_arg7))) := by
  show StableHlo.after (List.flatten [hostOps0, hostOps0_1, hostOps0_2, hostOps0_3, hostOps0_4]) _ _ = _
  simp only [hostOps0, hostOps0_1, hostOps0_2, hostOps0_3, hostOps0_4, List.flatten, List.append, StableHlo.TRef.binary, StableHlo.TRef.unary, StableHlo.TRef.toBuf, StableHlo.TRef.ofBuf, cast_eq]
  after_results <;> rfl
theorem V_c : V m c main_v11 = wideBias (m (c, main_arg6)) (m (c, main_arg8)) := by
  show StableHlo.after (List.flatten [hostOps0, hostOps0_1, hostOps0_2, hostOps0_3, hostOps0_4]) _ _ = _
  simp only [hostOps0, hostOps0_1, hostOps0_2, hostOps0_3, hostOps0_4, List.flatten, List.append, StableHlo.TRef.binary, StableHlo.TRef.unary, StableHlo.TRef.toBuf, StableHlo.TRef.ofBuf, cast_eq]
  after_results <;> rfl

end Cert.Route
end
-- ==== Proof.RouteAgree.lean ====
module

public import proofs.«01_k».proof.Proof.RouteHost
public import proofs.«01_k».proof.Proof.Tame
public import proofs.«01_k».proof.Proof.Gen.Pre_finite

@[expose] public section

/-! The router: on finite arguments the call and the reference end with the same records. -/

noncomputable section
namespace Cert.Route
open Idealize.ShloMosaic Idealize.ShloMosaic.TcCoe Idealize.SL.Sem

set_option maxRecDepth 16384

section Arguments
open Reference5Ideal Reference5Ideal.Read
variable (x0 x1 : FVec Ideal S16384x1024 .bf16) (x2 : FVec Ideal S4x4096x2048 .f32) (x3 : FVec Ideal S2048x2048 .f32) (x4 : FVec Ideal S2048 .f32)
  (x5 : FVec Ideal S2048x64 .f32) (x6 : FVec Ideal S64 .f32) (x7 : FVec Ideal S2048x8 .f32) (x8 : FVec Ideal S8 .f32)

/-- The arguments' entries are real. -/
structure RealArgs : Prop where
  a : ∀ q k, IsReal (x0 (ix2 q k))
  b : ∀ q k, IsReal (x1 (ix2 q k))
  x : ∀ i q k, IsReal (x2 (ix3 i q k))
  w : ∀ n k, IsReal (x3 (ix2 n k))
  g : ∀ k, IsReal (x4 (ix1 k))
  we : ∀ n k, IsReal (x5 (ix2 n k))
  be : ∀ k, IsReal (x6 (ix1 k))
  wg : ∀ n k, IsReal (x7 (ix2 n k))
  bg : ∀ k, IsReal (x8 (ix1 k))

/-- What the precondition says. -/
theorem real_args (hp : Cert.Pre_finite.fn (F := Ideal) x0 x1 x2 x3 x4 x5 x6 x7 x8 = fun _ => 1#1) : RealArgs x0 x1 x2 x3 x4 x5 x6 x7 x8 := by
  have h := congrFun hp (fun k => k.elim0)
  dsimp only [Cert.Pre_finite.fn, Cert.Pre_finite.fn_part1, Cert.Pre_finite.fn_part2] at h
  obtain ⟨h, h8⟩ := S5.both h
  obtain ⟨h, h7⟩ := S5.both h
  obtain ⟨h, h6⟩ := S5.both h
  obtain ⟨h, h5⟩ := S5.both h
  obtain ⟨h, h4⟩ := S5.both h
  obtain ⟨h, h3⟩ := S5.both h
  obtain ⟨h, h2⟩ := S5.both h
  obtain ⟨h, h1⟩ := S5.both h
  obtain ⟨-, h0⟩ := S5.both h
  exact ⟨fun q k => ⟨_, S5.real_of (Host.reduce_andi_all _ _ _ _ _ h0 (ix2 q k))⟩, fun q k => ⟨_, S5.real_of (Host.reduce_andi_all _ _ _ _ _ h1 (ix2 q k))⟩,
    fun i q k => ⟨_, S5.real_of (Host.reduce_andi_all _ _ _ _ _ h2 (ix3 i q k))⟩, fun n k => ⟨_, S5.real_of (Host.reduce_andi_all _ _ _ _ _ h3 (ix2 n k))⟩,
    fun k => ⟨_, S5.real_of (Host.reduce_andi_all _ _ _ _ _ h4 (ix1 k))⟩, fun n k => ⟨_, S5.real_of (Host.reduce_andi_all _ _ _ _ _ h5 (ix2 n k))⟩,
    fun k => ⟨_, S5.real_of (Host.reduce_andi_all _ _ _ _ _ h6 (ix1 k))⟩, fun n k => ⟨_, S5.real_of (Host.reduce_andi_all _ _ _ _ _ h7 (ix2 n k))⟩,
    fun k => ⟨_, S5.real_of (Host.reduce_andi_all _ _ _ _ _ h8 (ix1 k))⟩⟩

/-- A row after the norm, from the arguments. -/
def argRow (q : Fin 16384) (k : Fin 2048) : EReal := Proj.normed (OutProj.resid x0 x1 x2 x3 q) (x4 (ix1 k)) k
/-- A row's group logits, from the arguments. -/
def argGroups (q : Fin 16384) (k : Fin 8) : EReal := logit (argRow x0 x1 x2 x3 x4 q) (fun n => x7 (ix2 n k)) (x8 (ix1 k))
/-- A row's expert logits, from the arguments. -/
def argExperts (q : Fin 16384) (i k : Fin 8) : EReal :=
  logit (argRow x0 x1 x2 x3 x4 q) (fun n => x5 (ix2 n ⟨8 * i.val + k.val, by omega⟩)) (x6 (ix1 ⟨8 * i.val + k.val, by omega⟩))

theorem ref_norm_row (q : Fin 16384) (k : Fin 2048) : (val_main_v18 (F := Ideal) x0 x1 x2 x3 x4 (ix2 q k) : EReal) = argRow x0 x1 x2 x3 x4 q k := by
  have hm : ∀ n, (val_main_v5 (F := Ideal) x0 x1 x2 x3 (ix2 q n) : EReal) = OutProj.resid x0 x1 x2 x3 q n := fun n => by
    pointwise [val_main_v5, val_main_v4, val_main_v3, val_main_v2, val_main_v1, val_main_v0, OutProj.resid, OutProj.mixed]
  have e : OutProj.resid x0 x1 x2 x3 q = fun n => (val_main_v5 (F := Ideal) x0 x1 x2 x3 (ix2 q n) : EReal) := funext fun n => (hm n).symm
  unfold argRow
  rw [e]
  unfold val_main_v18 val_main_v17 val_main_v16 val_main_v15 val_main_v14 val_main_v13 val_main_v12 val_main_v11 val_main_v10 val_main_v9 val_main_v8 val_main_v7 val_main_v6 val_main_cst val_main_cst_0 val_main_cst_1
  generalize val_main_v5 (F := Ideal) x0 x1 x2 x3 = h
  pointwise [Proj.normed]

theorem ref_groups (q : Fin 16384) : refGroups x0 x1 x2 x3 x4 x7 x8 q = argGroups x0 x1 x2 x3 x4 x7 x8 q := by
  funext k
  have hr := ref_norm_row x0 x1 x2 x3 x4 q
  revert hr
  unfold refGroups argGroups logit val_main_v22 val_main_v21 val_main_v20 val_main_v19
  generalize val_main_v18 (F := Ideal) x0 x1 x2 x3 x4 = g
  intro hr
  pointwise
  simp only [hr]

theorem ref_experts (q : Fin 16384) : refExperts x0 x1 x2 x3 x4 x5 x6 q = argExperts x0 x1 x2 x3 x4 x5 x6 q := by
  funext i k
  have hr := ref_norm_row x0 x1 x2 x3 x4 q
  revert hr
  unfold refExperts argExperts logit val_main_v38 val_main_v37 val_main_v36 val_main_v35 val_main_v34
  generalize val_main_v18 (F := Ideal) x0 x1 x2 x3 x4 = g
  intro hr
  pointwise
  simp only [hr, Nat.mul_comm]

variable {x0 x1 x2 x3 x4 x5 x6 x7 x8} (R : RealArgs x0 x1 x2 x3 x4 x5 x6 x7 x8) (q : Fin 16384)
include R

theorem row_real (k : Fin 2048) : IsReal (argRow x0 x1 x2 x3 x4 q k) :=
  normed_real (fun _ => (R.x _ _ _).add ((IsReal.sum fun _ => (R.a _ _).mul (R.w _ _)).add (IsReal.sum fun _ => (R.b _ _).mul (R.w _ _)))) (R.g k) k
theorem groups_real (k : Fin 8) : IsReal (argGroups x0 x1 x2 x3 x4 x7 x8 q k) :=
  logit_real (row_real R q) (fun _ => R.wg _ _) (R.bg _)
theorem experts_real (i k : Fin 8) : IsReal (argExperts x0 x1 x2 x3 x4 x5 x6 q i k) :=
  logit_real (row_real R q) (fun _ => R.we _ _) (R.be _)

/-- The reference's record of a row, on real arguments. -/
theorem ref_final_at (j : Fin 128) : (val_main_v65 (F := Ideal) x0 x1 x2 x3 x4 x5 x6 x7 x8 (ix2 q j) : EReal)
    = record (argGroups x0 x1 x2 x3 x4 x7 x8 q) (argExperts x0 x1 x2 x3 x4 x5 x6 q) j := by
  rw [ref_record, ref_groups, ref_experts, record_eq (groups_real R q) (experts_real R q)]

theorem ref_final : val_main_v65 (F := Ideal) x0 x1 x2 x3 x4 x5 x6 x7 x8
    = fun i : S16384x128.Idx => record (argGroups x0 x1 x2 x3 x4 x7 x8 (i 0)) (argExperts x0 x1 x2 x3 x4 x5 x6 (i 0)) (i 1) :=
  funext fun i => (congrArg (val_main_v65 (F := Ideal) x0 x1 x2 x3 x4 x5 x6 x7 x8) (eq_ix2 i)).trans (ref_final_at R (i 0) (i 1))
end Arguments

section Kernel
open Kernel5Ideal Kernel5Ideal.Gen
variable (m : (ℓ : Loc nD τ sig) → Buf (Elt Ideal) ℓ) (c : Dev nD)

theorem row_eq (q : Fin 16384) : rowOf m c q = argRow (m (c, main_arg0)) (m (c, main_arg1)) (m (c, main_arg2)) (m (c, main_arg3)) (m (c, main_arg4)) q := by
  have he : ∀ n, OutProj.entry (V m c main_v0) (V m c main_arg0) (V m c main_arg1) (V m c main_v12) (V m c main_v13) q n
      = OutProj.resid (m (c, main_arg0)) (m (c, main_arg1)) (m (c, main_arg2)) (m (c, main_arg3)) q n := fun n => by
    rw [V_x, V_u, V_v, V_main_arg0, V_main_arg1]
    unfold OutProj.entry OutProj.resid
    exact congr (congr (congr (congrArg₂ OutProj.mixed (Proj.fold_rows _ q n) rfl) rfl) (funext fun k => OutProj.upper _ k n)) (funext fun k => OutProj.lower _ k n)
  funext k
  unfold rowOf argRow
  rw [funext he, V_g]
  exact congrArg (fun z => Proj.normed _ z k) (Proj.as_row _ k)

variable (R : RealArgs (m (c, main_arg0)) (m (c, main_arg1)) (m (c, main_arg2)) (m (c, main_arg3)) (m (c, main_arg4)) (m (c, main_arg5)) (m (c, main_arg6))
  (m (c, main_arg7)) (m (c, main_arg8)))
include R

/-- A lane's logit, where the lane's weights are real. -/
theorem logit_eq (q : Fin 16384) (j : Fin 128) (hw : ∀ n, IsReal (wide (m (c, main_arg5)) (m (c, main_arg7)) (ix2 n j))) : logitOf m c q j
    = logit (argRow (m (c, main_arg0)) (m (c, main_arg1)) (m (c, main_arg2)) (m (c, main_arg3)) (m (c, main_arg4)) q)
        (fun n => wide (m (c, main_arg5)) (m (c, main_arg7)) (ix2 n j)) (wideBias (m (c, main_arg6)) (m (c, main_arg8)) (ix2 0 j)) := by
  unfold logitOf
  rw [row_eq, V_w, V_c]
  refine Eq.trans ?_ (split_eq _ (row_real R q) hw)
  exact congrArg₂ (fun u v => split _ u v _) (funext fun n => parts_high _ n j) (funext fun n => parts_low _ n j)

theorem kernel_final : (dats m 0 c).arrAt 10 cfg0.N = fun i : S16384x128.Idx =>
    record (argGroups (m (c, main_arg0)) (m (c, main_arg1)) (m (c, main_arg2)) (m (c, main_arg3)) (m (c, main_arg4)) (m (c, main_arg7)) (m (c, main_arg8)) (i 0))
      (argExperts (m (c, main_arg0)) (m (c, main_arg1)) (m (c, main_arg2)) (m (c, main_arg3)) (m (c, main_arg4)) (m (c, main_arg5)) (m (c, main_arg6)) (i 0)) (i 1) := by
  refine (arr_record m c).trans (funext fun i => ?_)
  unfold recordOf
  refine congrArg₂ (fun g e => record g e (i 1)) (funext fun k => ?_) (funext fun a => funext fun k => ?_)
  · have hw := wide_group (m (c, main_arg5)) (m (c, main_arg7))
    refine (logit_eq m c R (i 0) (groupLane k) fun n => ?_).trans ?_
    · rw [hw]; exact R.wg n k
    · exact congrArg₂ (logit _) (funext fun n => hw n k) (bias_group _ _ k)
  · have hw := wide_expert (m (c, main_arg5)) (m (c, main_arg7))
    refine (logit_eq m c R (i 0) (expertLane a k) fun n => ?_).trans ?_
    · rw [hw]; exact R.we n _
    · exact congrArg₂ (logit _) (funext fun n => hw n a k) (bias_expert _ _ a k)
end Kernel

/-- The value claim. -/
theorem algebraic : algebraic_Kernel5Ideal_Reference5Ideal_pre_finite := by
  intro m ρ m' ρ' hp ha
  refine ⟨fun c => (Kernel5Ideal.Gen.dats m 0 c).arrAt 10 Kernel5Ideal.cfg0.N,
    (θ_run _ _ _).mono (fun r h c => ⟨(h c).2.2.1, (h c).2.2.2⟩) (Kernel5Ideal.Value.run_blocks m ρ), ?_⟩
  refine (θ_run _ _ _).mono (fun r h c => ?_) (Reference5Ideal.Value.run m' ρ')
  obtain ⟨h0, h1, h2, h3, h4, h5, h6, h7, h8⟩ := ha c
  have R := real_args _ _ _ _ _ _ _ _ _ (hp c)
  refine ⟨(h c).1.trans ((Reference5Ideal.Read.val_main_v65_eq (StableHlo.launchContents m' c)).trans ?_), (h c).2⟩
  show Reference5Ideal.Read.val_main_v65 (F := Ideal) (m' ((c.tc : Thread Reference5Ideal.nD Reference5Ideal.τ).loc Reference5Ideal.main_arg0)) (m' ((c.tc : Thread Reference5Ideal.nD Reference5Ideal.τ).loc Reference5Ideal.main_arg1)) (m' ((c.tc : Thread Reference5Ideal.nD Reference5Ideal.τ).loc Reference5Ideal.main_arg2)) (m' ((c.tc : Thread Reference5Ideal.nD Reference5Ideal.τ).loc Reference5Ideal.main_arg3)) (m' ((c.tc : Thread Reference5Ideal.nD Reference5Ideal.τ).loc Reference5Ideal.main_arg4)) (m' ((c.tc : Thread Reference5Ideal.nD Reference5Ideal.τ).loc Reference5Ideal.main_arg5)) (m' ((c.tc : Thread Reference5Ideal.nD Reference5Ideal.τ).loc Reference5Ideal.main_arg6)) (m' ((c.tc : Thread Reference5Ideal.nD Reference5Ideal.τ).loc Reference5Ideal.main_arg7)) (m' ((c.tc : Thread Reference5Ideal.nD Reference5Ideal.τ).loc Reference5Ideal.main_arg8)) = _
  rw [h0, h1, h2, h3, h4, h5, h6, h7, h8]
  exact (ref_final R).trans (kernel_final m c R).symm

/-- The reference's frame. -/
theorem frame_ref : quiescent_Reference5Ideal :=
  fun m ρ _ => (θ_run _ _ _).mono (fun r h => ⟨fun c => (h c).2, sem_eq_zero_of_no_sems (by decide) _⟩) (Reference5Ideal.Value.run m ρ)

end Cert.Route
end
-- ==== Proof.RankBlock.lean ====
module

public import proofs.«01_k».proof.Proof.Gen.Kernel6Ideal.Value
public import Idealize.ShloMosaic.Lib.Pointwise
public import Idealize.ShloMosaic.Lib.VecWindow
public import Idealize.ShloMosaic.Lib.StableHlo.Predicate

@[expose] public section

/-! The slots' places: what the kernel leaves of one block of rows. -/

noncomputable section
namespace Cert.Rank
open Idealize.ShloMosaic Idealize.ShloMosaic.TcCoe Cert.Kernel6Ideal Cert.Kernel6Ideal.Gen

set_option maxRecDepth 16384

/-- A truth value as a number. -/
theorem bit_num (b : BitVec 1) : (FloatOps.sitofp (F := Ideal) .f32 (BitVec.setWidth 32 b) : EReal) = if b = 1#1 then 1 else 0 := by
  have h : b = 0#1 ∨ b = 1#1 := by revert b; decide
  rcases h with rfl | rfl
  · show (((BitVec.setWidth 32 0#1).toInt : ℝ) : EReal) = _
    simp
  · show (((BitVec.setWidth 32 1#1).toInt : ℝ) : EReal) = _
    simp

theorem select_yes {α : Type} {b : BitVec 1} (h : b = 1#1) (y z : α) : Scalar.select b y z = y := if_pos h
theorem select_no {α : Type} {b : BitVec 1} (h : ¬ b = 1#1) (y z : α) : Scalar.select b y z = z := if_neg h

/-- The expert a number of the record names. -/
def named (v : EReal) : ℕ := (Ideal.fptosi 32 v).toNat

theorem lane_eq (j : Fin 128) (w : BitVec 32) : IntOp.cmpi .eq (BitVec.ofNat 32 j.val) w = 1#1 ↔ w.toNat = j.val := by
  rw [StableHlo.Predicate.cmpi_eq_iff]
  have := j.isLt
  constructor
  · rintro rfl
    rw [BitVec.toNat_ofNat]; omega
  · intro h
    rw [← h, BitVec.ofNat_toNat, BitVec.setWidth_eq]

theorem hot_first (x : Vec Ideal S1024x128 .f32) (r : Fin 1024) (j : Fin 128) : (k0_pay5 x (ix2 r j) : EReal) = if named (x (ix2 r 0)) = j.val then 1 else 0 := by
  pointwise [k0_pay5]
  rw [bit_num]
  exact if_congr (lane_eq j _) rfl rfl
theorem hot_second (x : Vec Ideal S1024x128 .f32) (r : Fin 1024) (j : Fin 128) : (k0_pay6 x (ix2 r j) : EReal) = if named (x (ix2 r 1)) = j.val then 1 else 0 := by
  pointwise [k0_pay6]
  rw [bit_num]
  exact if_congr (lane_eq j _) rfl rfl

/-- How many of a row's two numbers name an expert. -/
def both (x : Vec Ideal S1024x128 .f32) (r : Fin 1024) (g : ℕ) : ℕ := (if named (x (ix2 r 0)) = g then 1 else 0) + (if named (x (ix2 r 1)) = g then 1 else 0)

theorem hot_both (x : Vec Ideal S1024x128 .f32) (r : Fin 1024) (j : Fin 128) : (k0_pay7 x (ix2 r j) : EReal) = (both x r j.val : ℕ) := by
  have e : (k0_pay7 x (ix2 r j) : EReal) = k0_pay5 x (ix2 r j) + k0_pay6 x (ix2 r j) := by
    unfold k0_pay7
    generalize k0_pay5 x = a
    generalize k0_pay6 x = b
    pointwise
  rw [e, hot_first, hot_second]
  unfold both
  push_cast
  rfl

theorem add_row (x : Vec Ideal S1024x128 .f32) (b : Vec Ideal S1x128 .f32) (n : ℕ) (j : Fin 128) (hb : (b (ix2 0 j) : EReal) = (n : ℕ)) :
    (k0_pay1 (k0_pay7 x) b (ix2 0 j) : EReal) = (n + ∑ r : Fin 1024, both x r j.val : ℕ) := by
  have e : (k0_pay1 (k0_pay7 x) b (ix2 0 j) : EReal) = b (ix2 0 j) + ∑ r : Fin 1024, (k0_pay7 x (ix2 r j) : EReal) := by
    generalize k0_pay7 x = v
    pointwise [k0_pay1]
  rw [e, hb, Nat.cast_add, Nat.cast_sum]
  exact congrArg _ (Finset.sum_congr rfl fun r _ => hot_both x r j)

theorem row_stored (v : Vec Ideal S1024x128 .f32) (b : Vec Ideal S1x128 .f32) (j : Fin 128) : (k0_pay2 v b (ix2 0 j) : EReal) = k0_pay1 v b (ix2 0 j) := by
  unfold k0_pay2
  generalize k0_pay1 (F := Ideal) v b = z
  pointwise
theorem row_spread (v : Vec Ideal S1024x128 .f32) (b : Vec Ideal S1x128 .f32) (k : Fin 8) (j : Fin 128) : (k0_pay3 v b (ix2 k j) : EReal) = k0_pay1 v b (ix2 0 j) := by
  unfold k0_pay3
  generalize k0_pay1 (F := Ideal) v b = z
  pointwise
theorem zero_row (k : Fin 8) (j : Fin 128) : (k0_pay4 (F := Ideal) (ix2 k j) : EReal) = 0 := by
  pointwise [k0_pay4]

/-- The sum against a lane's mark picks the lane. -/
theorem pick (f : Fin 128 → EReal) (g : ℕ) (hg : g < 128) : (∑ l : Fin 128, (if g = l.val then 1 else 0) * f l) = f ⟨g, hg⟩ := by
  refine (Finset.sum_congr rfl fun l _ => ?_).trans (Finset.sum_ite_eq' Finset.univ (⟨g, hg⟩ : Fin 128) f |>.trans (if_pos (Finset.mem_univ _)))
  rw [ite_mul, one_mul, zero_mul]
  exact if_congr ⟨fun h => Fin.ext h.symm, fun h => congrArg Fin.val h.symm⟩ rfl rfl

/-- A row's count of an expert over the block's earlier rows, on top of a lane's number. -/
theorem earlier_rows (x : Vec Ideal S1024x128 .f32) (b : Vec Ideal S1x128 .f32) (n : ℕ) (r : Fin 1024) (j : Fin 128) (hb : (b (ix2 0 j) : EReal) = (n : ℕ)) :
    (∑ a : Fin 1024, (FloatOps.sitofp (F := Ideal) .f32 (BitVec.setWidth 32 (IntOp.cmpi .sgt (BitVec.ofNat 32 r.val) (BitVec.ofNat 32 a.val))) : EReal) * (k0_pay7 x (ix2 a j) : EReal)) + b (ix2 0 j)
      = ((∑ a : Fin 1024, if a.val < r.val then both x a j.val else 0) + n : ℕ) := by
  rw [hb, Nat.cast_add, Nat.cast_sum]
  refine congrArg (· + ((n : ℕ) : EReal)) (Finset.sum_congr rfl fun a _ => ?_)
  have ha := a.isLt
  have hr := r.isLt
  have hi : IntOp.cmpi .sgt (BitVec.ofNat 32 r.val) (BitVec.ofNat 32 a.val) = 1#1 ↔ a.val < r.val := by
    refine (StableHlo.Predicate.sgt_iff_toNat ?_ ?_).trans ?_ <;> simp only [BitVec.toNat_ofNat] <;> omega
  rw [bit_num, hot_both]
  by_cases h : a.val < r.val
  · rw [if_pos (hi.mpr h), if_pos h, one_mul]
  · rw [if_neg fun h' => h (hi.mp h'), if_neg h, zero_mul, Nat.cast_zero]

/-- The places a block of rows gets, the numbers of the lanes being what the rows before it count. -/
theorem rank_block (x : Vec Ideal S1024x128 .f32) (b : Vec Ideal S1x128 .f32) (n : ℕ → ℕ) (hb : ∀ l : Fin 128, (b (ix2 0 l) : EReal) = (n l.val : ℕ))
    (hx : ∀ (r : Fin 1024) (k : Fin 128), k.val < 2 → named (x (ix2 r k)) < 128) (r : Fin 1024) (j : Fin 128) :
    (k0_pay8 x b (ix2 r j) : EReal) = if j.val < 2 then
      (((∑ a : Fin 1024, if a.val < r.val then both x a (named (x (ix2 r j))) else 0) + n (named (x (ix2 r j))) : ℕ) : EReal) else 0 := by
  have e5 := fun l => hot_first x r l
  have e6 := fun l => hot_second x r l
  have e7 := fun l => earlier_rows x b _ r l (hb l)
  unfold k0_pay8
  revert e5 e6 e7
  generalize k0_pay5 x = v5
  generalize k0_pay6 x = v6
  generalize k0_pay7 x = v7
  intro e5 e6 e7
  pointwise
  simp only [e5, e6, e7]
  have c0 : IntOp.cmpi .eq (BitVec.ofNat 32 j.val) 0#32 = 1#1 ↔ j.val = 0 := (lane_eq j _).trans eq_comm
  have c1 : IntOp.cmpi .eq (BitVec.ofNat 32 j.val) 1#32 = 1#1 ↔ j.val = 1 := (lane_eq j _).trans eq_comm
  by_cases h0 : j.val = 0
  · obtain rfl : j = 0 := Fin.ext h0
    rw [select_yes (c0.mpr rfl), if_pos (by decide)]
    exact pick (fun l => ((((∑ a : Fin 1024, if a.val < r.val then both x a l.val else 0) + n l.val : ℕ)) : EReal)) _ (hx r 0 (by decide))
  · rw [select_no fun h => h0 (c0.mp h)]
    by_cases h1 : j.val = 1
    · obtain rfl : j = 1 := Fin.ext h1
      rw [select_yes (c1.mpr rfl), if_pos (by decide)]
      exact pick (fun l => ((((∑ a : Fin 1024, if a.val < r.val then both x a l.val else 0) + n l.val : ℕ)) : EReal)) _ (hx r 1 (by decide))
    · rw [select_no fun h => h1 (c1.mp h), if_neg (by omega)]

/-! What the buffers hold after one point. -/

/-- The first row of the counts the points hand on. -/
def top (s : Vec Ideal S8x128 .f32) : Vec Ideal S1x128 .f32 := fun y => s (ix2 0 (y 1))

theorem load_top (v : View sig .tc .vmem S8x128 .f32) (f : v.ty.Contents (Elt Ideal)) :
    v.readAt (Elt Ideal) (Rect.unit ![0, 0] ![1, 128] inb_S8x128_S1x128_0_0).toLoadRect f = top (v.read (Elt Ideal) f) := by
  refine (v.readAt_unit f _ rfl inb_S8x128_S1x128_0_0).trans (funext fun y => congrArg (v.read (Elt Ideal) f) (funext fun a => Fin.ext ?_))
  match a with
  | ⟨0, _⟩ =>
    have : (y (0 : Fin 2)).val < 1 := (y 0).isLt
    show 0 + 1 * (y (0 : Fin 2)).val = 0
    omega
  | ⟨1, _⟩ => show 0 + 1 * (y (1 : Fin 2)).val = (y 1).val; omega

theorem store_top (v : View sig .tc .vmem S8x128 .f32) (f : v.ty.Contents (Elt Ideal)) (w : Vec Ideal S1x128 .f32) (L : List (View.Piece (Elt Ideal) S8x128 .f32)) :
    top (v.read (Elt Ideal) (v.writes (Elt Ideal) f (⟨Rect.unit ![0, 0] ![1, 128] inb_S8x128_S1x128_0_0, w⟩ :: L))) = w := by
  funext y
  refine (v.read_writes_cons_unit_of_mem f inb_S8x128_S1x128_0_0 w L (ix2 0 (y 1)) y rfl fun a => ?_)
  match a with
  | ⟨0, _⟩ =>
    have : (y (0 : Fin 2)).val < 1 := (y 0).isLt
    show 0 = 0 + (y (0 : Fin 2)).val
    omega
  | ⟨1, _⟩ => show (y 1).val = 0 + (y (1 : Fin 2)).val; omega

section Points
variable (c : Dev nD) (i : grid0.Coords) (a1 : Memref sig .tc .vmem S1024x128 .f32) (h1 : a1.IsWhole) (a2 : Memref sig .tc .vmem S1024x128 .f32) (h2 : a2.IsWhole)
  (a3 : Memref sig .tc .vmem S8x128 .f32) (h3 : a3.IsWhole) (a4 : Memref sig .tc .vmem S8x128 .f32) (h4 : a4.IsWhole) (x : Vec Ideal S1024x128 .f32) (s : Vec Ideal S8x128 .f32)

theorem load_rec : View.readAt (Elt Ideal) a1.view (Rect.unit ![0, 0] S1024x128.size inb_S1024x128_S1024x128_0_0).toLoadRect (h1.unread x) = x :=
  (View.readAt_full _ _ _).trans (h1.read_unread x)

theorem first_load : kernelRun0_A.sl.v26 (F := Ideal) c a4 = top (k0_pay4 (F := Ideal)) := by
  unfold kernelRun0_A.sl.v26 kernelRun0_A.sl.HS0_1
  exact (load_top _ _).trans (congrArg top (View.read_writes_full _ _ _ _ _))

theorem first_load' : kernelRun0_A.sl.v47 (F := Ideal) c a4 = top (k0_pay4 (F := Ideal)) := by
  unfold kernelRun0_A.sl.v47 kernelRun0_A.sl.HS0_1
  exact (load_top _ _).trans (congrArg top (View.read_writes_full _ _ _ _ _))

theorem first_rank (hc) : out0_A_1 (F := Ideal) c i a1 h1 a2 h2 a3 h3 a4 h4 hc x = k0_pay8 x (top (k0_pay4 (F := Ideal))) := by
  unfold out0_A_1
  dsimp only [kernelRun0_A]
  refine (View.read_writes_full _ _ _ _ _).trans ?_
  unfold kernelRun0_A.sl.r_1
  exact congrArg₂ k0_pay8 (load_rec a1 h1 x) (first_load c a4)
theorem first_count (hc) : out0_A_2 (F := Ideal) c i a1 h1 a2 h2 a3 h3 a4 h4 hc x = k0_pay3 (k0_pay7 x) (top (k0_pay4 (F := Ideal))) := by
  unfold out0_A_2
  dsimp only [kernelRun0_A]
  refine (View.read_writes_full _ _ _ _ _).trans ?_
  unfold kernelRun0_A.sl.r
  exact congrArg₂ k0_pay3 (congrArg k0_pay7 (load_rec a1 h1 x)) (first_load' c a4)
theorem first_kept (hc) : top (sout0_A_0 (F := Ideal) c i a1 h1 a2 h2 a3 h3 a4 h4 hc x) = k0_pay2 (k0_pay7 x) (top (k0_pay4 (F := Ideal))) := by
  unfold sout0_A_0
  dsimp only [kernelRun0_A]
  refine (store_top _ _ _ _).trans ?_
  unfold kernelRun0_A.sl.r
  exact congrArg₂ k0_pay2 (congrArg k0_pay7 (load_rec a1 h1 x)) (first_load' c a4)

theorem later_load : View.readAt (Elt Ideal) a4.view (Rect.unit ![0, 0] ![1, 128] inb_S8x128_S1x128_0_0).toLoadRect (h4.unread s) = top s :=
  (load_top _ _).trans (congrArg top (h4.read_unread s))

theorem later_rank (hc) : out0_B_1 (F := Ideal) c i a1 h1 a2 h2 a3 h3 a4 h4 hc x s = k0_pay8 x (top s) := by
  unfold out0_B_1
  dsimp only [kernelRun0_B]
  refine (View.read_writes_full _ _ _ _ _).trans ?_
  unfold kernelRun0_B.sl.r_1
  exact congrArg₂ k0_pay8 (load_rec a1 h1 x) (later_load a4 h4 s)
theorem later_count (hc) : out0_B_2 (F := Ideal) c i a1 h1 a2 h2 a3 h3 a4 h4 hc x s = k0_pay3 (k0_pay7 x) (top s) := by
  unfold out0_B_2
  dsimp only [kernelRun0_B]
  refine (View.read_writes_full _ _ _ _ _).trans ?_
  unfold kernelRun0_B.sl.r
  exact congrArg₂ k0_pay3 (congrArg k0_pay7 (load_rec a1 h1 x)) (later_load a4 h4 s)
theorem later_kept (hc) : top (sout0_B_0 (F := Ideal) c i a1 h1 a2 h2 a3 h3 a4 h4 hc x s) = k0_pay2 (k0_pay7 x) (top s) := by
  unfold sout0_B_0
  dsimp only [kernelRun0_B]
  refine (store_top _ _ _ _).trans ?_
  unfold kernelRun0_B.sl.r
  exact congrArg₂ k0_pay2 (congrArg k0_pay7 (load_rec a1 h1 x)) (later_load a4 h4 s)
end Points

end Cert.Rank
end
-- ==== Proof.RankCount.lean ====
module

public import Idealize.ShloMosaic.Lib.PlanTiles.StableSort
public import Idealize.ShloMosaic.Lib.Pipeline.Value
public import Idealize.ShloMosaic.Lib.Pointwise

@[expose] public section

/-! Counting the slots that name an expert: a slot's place after the sort, and the counts it is made of. -/

noncomputable section
namespace Cert.Rank
open Idealize.ShloMosaic

variable (N : ℕ) (e : ℕ → ℕ)

/-- The slots in the order of their experts, slots of one expert in their own order. -/
def sorted : Fin N → Fin N := sortedFrom fun a b => decide (e a.val < e b.val)

variable {e} (he : ∀ i, e i < 64)
include he

theorem sorted_lt {k l : Fin N} (h : k < l) : e (sorted N e k).val < e (sorted N e l).val
    ∨ (e (sorted N e k).val = e (sorted N e l).val ∧ sorted N e k < sorted N e l) := by
  have eq : (fun a b : Fin N => decide (e a.val < e b.val)) = fun a b => decide (63 - e b.val < 63 - e a.val) := by
    funext a b
    have := he a.val
    have := he b.val
    exact decide_eq_decide.mpr (by omega)
  have hp : (sortPositions N fun a b => decide (e a.val < e b.val)).Pairwise (PlanTiles.Lex (fun a : Fin N => 63 - e a.val) (· < ·)) := by
    rw [eq]
    exact PlanTiles.pairwise_stableSort_lex (fun a : Fin N => 63 - e a.val) (· < ·) _ (List.pairwise_lt_finRange N)
  have := List.pairwise_iff_getElem.mp hp k.val l.val (by rw [length_sortPositions]; exact k.isLt) (by rw [length_sortPositions]; exact l.isLt) h
  have hk := he (sorted N e k).val
  have hl := he (sorted N e l).val
  rcases this with h | ⟨h, h'⟩
  · refine Or.inl ?_
    change 63 - e (sorted N e l).val < 63 - e (sorted N e k).val at h
    omega
  · refine Or.inr ⟨?_, h'⟩
    change 63 - e (sorted N e k).val = 63 - e (sorted N e l).val at h
    omega

/-- A slot's place in the sorted order: the slots of lower experts, and its own expert's slots before it. -/
theorem place (p : Fin N) : p.val = Nat.count (fun j => e j < e (sorted N e p).val) N
    + Nat.count (fun j => e j = e (sorted N e p).val) (sorted N e p).val := by
  rw [Nat.count_eq_card_filter_range, Nat.count_eq_card_filter_range, ← Finset.card_union_of_disjoint]
  · refine (Finset.card_range p.val).symm.trans ?_
    refine Finset.card_bij (fun l hl => (sorted N e ⟨l, (Finset.mem_range.mp hl).trans p.isLt⟩).val) ?_ ?_ ?_
    · intro l hl
      rcases sorted_lt N he (k := ⟨l, (Finset.mem_range.mp hl).trans p.isLt⟩) (l := p) (Finset.mem_range.mp hl) with h | ⟨h, h'⟩
      · exact Finset.mem_union_left _ (Finset.mem_filter.mpr ⟨Finset.mem_range.mpr (Fin.isLt _), h⟩)
      · exact Finset.mem_union_right _ (Finset.mem_filter.mpr ⟨Finset.mem_range.mpr h', h⟩)
    · intro a ha b hb hab
      exact congrArg Fin.val (sortedFrom_injective _ (Fin.ext hab))
    · intro j hj
      have hjN : j < N := by
        rcases Finset.mem_union.mp hj with h | h
        · exact Finset.mem_range.mp (Finset.mem_filter.mp h).1
        · exact (Finset.mem_range.mp (Finset.mem_filter.mp h).1).trans (Fin.isLt _)
      obtain ⟨l, hl⟩ := sortedFrom_surjective (fun a b : Fin N => decide (e a.val < e b.val)) ⟨j, hjN⟩
      have hl' : (sorted N e l).val = j := congrArg Fin.val hl
      refine ⟨l.val, Finset.mem_range.mpr ?_, hl'⟩
      by_contra hc
      rcases Finset.mem_union.mp hj with h | h
      · have hlt := (Finset.mem_filter.mp h).2
        rcases Nat.eq_or_lt_of_le (not_lt.mp hc) with hp | hp
        · rw [Fin.ext hp, hl'] at hlt
          exact lt_irrefl _ hlt
        · rcases sorted_lt N he (k := p) (l := l) hp with h2 | ⟨h2, -⟩ <;> rw [hl'] at h2 <;> omega
      · have h1 := (Finset.mem_filter.mp h).2
        have h3 := Finset.mem_range.mp (Finset.mem_filter.mp h).1
        rcases Nat.eq_or_lt_of_le (not_lt.mp hc) with hp | hp
        · rw [Fin.ext hp, hl'] at h3
          exact lt_irrefl _ h3
        · rcases sorted_lt N he (k := p) (l := l) hp with h2 | ⟨-, h2⟩
          · rw [hl'] at h2; omega
          · have : (sorted N e p).val < (sorted N e l).val := h2
            omega
  · refine Finset.disjoint_left.mpr fun j h h' => ?_
    have h1 := (Finset.mem_filter.mp h).2
    have h2 := (Finset.mem_filter.mp h').2
    omega

omit he

theorem count_lt_succ (g : ℕ) : Nat.count (fun i => e i < g + 1) N = Nat.count (fun i => e i < g) N + Nat.count (fun i => e i = g) N := by
  induction N with
  | zero => simp
  | succ n ih =>
    rw [Nat.count_succ, Nat.count_succ, Nat.count_succ, ih]
    split <;> split <;> split <;> omega

/-- The counts of the experts below one add up to the slots of lower experts. -/
theorem sum_count (g : ℕ) : ((List.range g).map fun a => Nat.count (fun i => e i = a) N).sum = Nat.count (fun i => e i < g) N := by
  induction g with
  | zero => simp
  | succ g ih => rw [List.range_succ, List.map_append, List.sum_append, ih, count_lt_succ]; simp

/-- How many of a row's two slots name an expert. -/
def pair (e : ℕ → ℕ) (g q : ℕ) : ℕ := (if e (2 * q) = g then 1 else 0) + (if e (2 * q + 1) = g then 1 else 0)

theorem count_rows (g q : ℕ) : Nat.count (fun j => e j = g) (2 * q) = ∑ a ∈ Finset.range q, pair e g a := by
  induction q with
  | zero => simp
  | succ q ih =>
    rw [Finset.sum_range_succ, ← ih, show 2 * (q + 1) = 2 * q + 1 + 1 by omega, Nat.count_succ, Nat.count_succ]
    unfold pair
    omega

/-- A slot's place among its expert's slots is the count over the rows before it, where a row's two experts differ. -/
theorem count_slot (q k : ℕ) (hk : k < 2) (hd : e (2 * q) ≠ e (2 * q + 1)) :
    Nat.count (fun j => e j = e (2 * q + k)) (2 * q + k) = ∑ a ∈ Finset.range q, pair e (e (2 * q + k)) a := by
  rw [← count_rows]
  have : k = 0 ∨ k = 1 := by omega
  rcases this with rfl | rfl
  · rfl
  · rw [Nat.count_succ, if_neg hd, Nat.add_zero]

end Cert.Rank
end
-- ==== Proof.RankCall.lean ====
module

public import proofs.«01_k».proof.Proof.RankBlock
public import proofs.«01_k».proof.Proof.RankCount

@[expose] public section

/-! The slots' places: what the kernel leaves of the whole arrays. -/

noncomputable section
namespace Cert.Rank
open Idealize.ShloMosaic Idealize.ShloMosaic.TcCoe Cert.Kernel6Ideal Cert.Kernel6Ideal.Gen

set_option maxRecDepth 16384

variable (m : (ℓ : Loc nD τ sig) → Buf (Elt Ideal) ℓ) (c : Dev nD)

theorem idx : ∀ t : Fin grid0.N, win0_0.index t 0 = t.val ∧ win0_0.index t 1 = 0 ∧ win0_1.index t 0 = t.val ∧ win0_1.index t 1 = 0
    ∧ win0_2.index t 0 = 0 ∧ win0_2.index t 1 = 0 := by
  decide +kernel

theorem lt16 (t : Fin cfg0.N) : t.val < 16 := lt_of_lt_of_eq t.isLt N_0

theorem rec_at (t : Fin cfg0.N) (r : Fin 1024) (k : Fin 128) (q : Fin 16384) (hq : q.val = 1024 * t.val + r.val) :
    (iblk m c 0 t (ix2 r k) : EReal) = V m c main_arg0 (ix2 q k) := by
  refine congrArg (V m c main_arg0) (funext fun a => Fin.ext ((win0_0.rect_emb_val t (ix2 r k) a).trans ?_))
  obtain ⟨e0, e1, -⟩ := idx t
  match a with
  | ⟨0, _⟩ => show win0_0.index t 0 * 1024 + r.val = q.val; rw [e0, hq]; omega
  | ⟨1, _⟩ => show win0_0.index t 1 * 128 + k.val = k.val; rw [e1]; omega

theorem sum_upto (f : ℕ → ℕ) (r : ℕ) (hr : r ≤ 1024) : (∑ a : Fin 1024, if a.val < r then f a.val else 0) = ∑ a ∈ Finset.range r, f a := by
  rw [Fin.sum_univ_eq_sum_range (fun a => if a < r then f a else 0) 1024, ← Finset.sum_filter]
  refine Finset.sum_congr (Finset.ext fun a => ?_) fun _ _ => rfl
  rw [Finset.mem_filter, Finset.mem_range, Finset.mem_range]
  omega

theorem at_first (t : Fin cfg0.N) (h : t.val % 16 = 0) : (outsAt0 m c t.val t.isLt).1 = k0_pay8 (iblk m c 0 t) (top (k0_pay4 (F := Ideal)))
    ∧ (outsAt0 m c t.val t.isLt).2.1 = k0_pay3 (k0_pay7 (iblk m c 0 t)) (top (k0_pay4 (F := Ideal)))
    ∧ top (outsAt0 m c t.val t.isLt).2.2 = k0_pay2 (k0_pay7 (iblk m c 0 t)) (top (k0_pay4 (F := Ideal))) := by
  rw [outsAt0_A m c t h]
  dsimp only
  rw [first_rank, first_count, first_kept]
  exact ⟨rfl, rfl, rfl⟩

/-- The scratch a later point starts from. -/
def before (t : Fin cfg0.N) : Vec Ideal S8x128 .f32 := (outsAt0 m c (t.val - 1) (Nat.lt_of_le_of_lt (Nat.sub_le _ _) t.isLt)).2.2

theorem at_later (t : Fin cfg0.N) (h : ¬ t.val % 16 = 0) : (outsAt0 m c t.val t.isLt).1 = k0_pay8 (iblk m c 0 t) (top (before m c t))
    ∧ (outsAt0 m c t.val t.isLt).2.1 = k0_pay3 (k0_pay7 (iblk m c 0 t)) (top (before m c t))
    ∧ top (outsAt0 m c t.val t.isLt).2.2 = k0_pay2 (k0_pay7 (iblk m c 0 t)) (top (before m c t)) := by
  rw [outsAt0_B m c t h]
  unfold before
  generalize (outsAt0 m c (t.val - 1) (Nat.lt_of_le_of_lt (Nat.sub_le _ _) t.isLt)).2.2 = s
  dsimp only
  rw [later_rank, later_count, later_kept]
  exact ⟨rfl, rfl, rfl⟩

variable {m c} {e : ℕ → ℕ} (he : ∀ (q : Fin 16384) (k : Fin 128), k.val < 2 → named (V m c main_arg0 (ix2 q k)) = e (2 * q.val + k.val))
include he

theorem named_at (t : Fin cfg0.N) (r : Fin 1024) (k : Fin 128) (hk : k.val < 2) : named (iblk m c 0 t (ix2 r k)) = e (2 * (1024 * t.val + r.val) + k.val) := by
  have := lt16 t
  rw [rec_at m c t r k ⟨1024 * t.val + r.val, by omega⟩ rfl, he _ k hk]

theorem both_at (t : Fin cfg0.N) (r : Fin 1024) (g : ℕ) : both (iblk m c 0 t) r g = pair e g (1024 * t.val + r.val) := by
  unfold both pair
  rw [named_at he t r 0 (by decide), named_at he t r 1 (by decide)]
  rfl

/-- The rows before a block and the block's own make the rows before the next. -/
theorem rows_next (t : Fin cfg0.N) (g : ℕ) : (∑ a ∈ Finset.range (1024 * t.val), pair e g a) + ∑ r : Fin 1024, both (iblk m c 0 t) r g
    = ∑ a ∈ Finset.range (1024 * (t.val + 1)), pair e g a := by
  rw [show 1024 * (t.val + 1) = 1024 * t.val + 1024 by omega, Finset.sum_range_add]
  exact congrArg _ ((Finset.sum_congr rfl fun r _ => both_at he t r g).trans (Fin.sum_univ_eq_sum_range (fun a => pair e g (1024 * t.val + a)) 1024))

/-- The row a point starts from, the counts over the rows before its block, and what the point makes of it. -/
def Base (e : ℕ → ℕ) (t : ℕ) (b : Vec Ideal S1x128 .f32) : Prop := ∀ j : Fin 128, (b (ix2 0 j) : EReal) = (∑ a ∈ Finset.range (1024 * t), pair e j.val a : ℕ)

theorem base_next (t : Fin cfg0.N) {b : Vec Ideal S1x128 .f32} (hb : Base e t.val b) : Base e (t.val + 1) (k0_pay2 (k0_pay7 (iblk m c 0 t)) b) := fun j =>
  (row_stored _ _ j).trans ((add_row _ _ _ j (hb j)).trans (congrArg Nat.cast (rows_next he t j.val)))

omit he in
theorem base_zero : Base e 0 (top (k0_pay4 (F := Ideal))) := fun j => (zero_row 0 j).trans (by simp)

/-- The row each point hands on. -/
theorem kept (n : ℕ) (hn : n < cfg0.N) : Base e (n + 1) (top (outsAt0 m c n hn).2.2) := by
  induction n with
  | zero =>
    refine Eq.mpr (congrArg (Base e 1) (at_first m c ⟨0, hn⟩ rfl).2.2) ?_
    exact base_next he ⟨0, hn⟩ base_zero
  | succ n ih =>
    have h16 : n + 1 < 16 := lt16 ⟨n + 1, hn⟩
    have hc : ¬ (n + 1) % 16 = 0 := by omega
    refine Eq.mpr (congrArg (Base e (n + 2)) (at_later m c ⟨n + 1, hn⟩ hc).2.2) ?_
    exact base_next he ⟨n + 1, hn⟩ (ih (Nat.lt_of_succ_lt hn))

/-- What each point leaves: the places and the counts over the row it starts from. -/
theorem point (t : Fin cfg0.N) : ∃ b, Base e t.val b ∧ (outsAt0 m c t.val t.isLt).1 = k0_pay8 (iblk m c 0 t) b
    ∧ (outsAt0 m c t.val t.isLt).2.1 = k0_pay3 (k0_pay7 (iblk m c 0 t)) b := by
  have h16 := lt16 t
  by_cases h : t.val % 16 = 0
  · have h0 : t.val = 0 := by omega
    obtain ⟨h1, h2, -⟩ := at_first m c t h
    exact ⟨_, Eq.mpr (congrArg (fun n => Base e n (top (k0_pay4 (F := Ideal)))) h0) base_zero, h1, h2⟩
  · obtain ⟨h1, h2, -⟩ := at_later m c t h
    have hn : t.val - 1 + 1 = t.val := by omega
    exact ⟨_, Eq.mp (congrArg (fun n => Base e n (top (before m c t))) hn) (kept he (t.val - 1) _), h1, h2⟩

variable (hs : ∀ i, e i < 64)
include hs

/-- The places' block at each point. -/
theorem rank_at (t : Fin cfg0.N) (r : Fin 1024) (j : Fin 128) (q : Fin 16384) (hq : q.val = 1024 * t.val + r.val) :
    ((outsAt0 m c t.val t.isLt).1 (ix2 r j) : EReal) = if j.val < 2 then ((∑ a ∈ Finset.range q.val, pair e (e (2 * q.val + j.val)) a : ℕ) : EReal) else 0 := by
  obtain ⟨b, hb, h, -⟩ := point he t
  rw [h, rank_block _ b (fun g => ∑ a ∈ Finset.range (1024 * t.val), pair e g a) hb fun r k hk => by
    rw [named_at he t r k hk]; exact lt_trans (hs _) (by decide)]
  by_cases hj : j.val < 2
  · rw [if_pos hj, if_pos hj, named_at he t r j hj, ← hq]
    refine congrArg Nat.cast ?_
    rw [hq, Finset.sum_range_add, Nat.add_comm]
    refine congrArg _ (Eq.trans ?_ (sum_upto (fun a => pair e (e (2 * (1024 * t.val + r.val) + j.val)) (1024 * t.val + a)) r.val r.isLt.le))
    exact Finset.sum_congr rfl fun a _ => by rw [both_at he]
  · rw [if_neg hj, if_neg hj]

omit hs

/-- The counts' block after each point. -/
theorem count_at (t : Fin cfg0.N) (k : Fin 8) (j : Fin 128) :
    ((outsAt0 m c t.val t.isLt).2.1 (ix2 k j) : EReal) = (∑ a ∈ Finset.range (1024 * (t.val + 1)), pair e j.val a : ℕ) := by
  obtain ⟨b, hb, -, h⟩ := point he t
  rw [h, row_spread, ← row_stored]
  exact base_next he t hb j

/-- The places' array after the run. -/
theorem arr_rank (hs : ∀ i, e i < 64) : (dats m 0 c).arrAt 1 cfg0.N
    = fun i : S16384x128.Idx => if (i 1).val < 2 then ((∑ a ∈ Finset.range (i 0).val, pair e (e (2 * (i 0).val + (i 1).val)) a : ℕ) : EReal) else 0 := by
  refine (dats m 0 c).arrAt_eq_of_cover 1 _ (fun t _ => ?_) (fun i => (Value.covered_iff1 i).2 ?_)
  · rw [Value.flushed1]
    funext y
    obtain ⟨r, n, rfl⟩ : ∃ (r : Fin 1024) (n : Fin 128), y = ix2 r n := ⟨y 0, y 1, by funext a; fin_cases a <;> rfl⟩
    obtain ⟨-, -, e0, e1, -, -⟩ := idx t
    have h0 := (win0_1.rect_emb_val t (ix2 r n) 0)
    have h1 := (win0_1.rect_emb_val t (ix2 r n) 1)
    change _ = win0_1.index t 0 * 1024 + r.val at h0
    change _ = win0_1.index t 1 * 128 + n.val at h1
    rw [e0] at h0
    rw [e1] at h1
    have hn : (win0_1.rect t).emb (ix2 r n) 1 = n := Fin.ext (h1.trans (by omega))
    refine (rank_at he hs t r n ((win0_1.rect t).emb (ix2 r n) 0) (h0.trans (by omega))).trans ?_
    exact congrArg (fun k : Fin 128 => if k.val < 2 then ((∑ a ∈ Finset.range ((win0_1.rect t).emb (ix2 r n) 0).val, pair e (e (2 * ((win0_1.rect t).emb (ix2 r n) 0).val + k.val)) a : ℕ) : EReal) else 0) hn.symm
  · have h0 : (i 0).val < 16384 := (i 0).isLt
    have h1 : (i 1).val < 128 := (i 1).isLt
    omega

/-- The counts' array after the run. -/
theorem arr_count : (dats m 0 c).arrAt 2 cfg0.N
    = fun i : S8x128.Idx => ((∑ a ∈ Finset.range 16384, pair e (i 1).val a : ℕ) : EReal) := by
  refine (dats m 0 c).arrAt_eq_of_cover 2 _ (fun t hf => ?_) (fun i => (Value.covered_iff2 i).2 ?_)
  · rw [Value.flushed2]
    funext y
    obtain ⟨k, n, rfl⟩ : ∃ (k : Fin 8) (n : Fin 128), y = ix2 k n := ⟨y 0, y 1, by funext a; fin_cases a <;> rfl⟩
    obtain ⟨-, -, -, -, e0, e1⟩ := idx t
    have h1 := (win0_2.rect_emb_val t (ix2 k n) 1)
    change _ = win0_2.index t 1 * 128 + n.val at h1
    rw [e1] at h1
    have hn : (win0_2.rect t).emb (ix2 k n) 1 = n := Fin.ext (h1.trans (by omega))
    have ht : t.val = 15 := by
      have := (flush0_2 t).mp hf
      have := lt16 t
      omega
    refine (count_at he t k n).trans ?_
    rw [ht]
    exact congrArg (fun k : Fin 128 => ((∑ a ∈ Finset.range 16384, pair e k.val a : ℕ) : EReal)) hn.symm
  · have h0 : (i 0).val < 8 := (i 0).isLt
    have h1 : (i 1).val < 128 := (i 1).isLt
    omega

end Cert.Rank
end
-- ==== Proof.RankRef.lean ====
module

public import proofs.«01_k».proof.Proof.RankCount
public import proofs.«01_k».proof.Proof.Gen.Reference6Ideal.Read
public import Idealize.ShloMosaic.Lib.Routing.OpsSet
public import Idealize.ShloMosaic.Lib.Routing.OpsPair

@[expose] public section

/-! The slots' places: what the reference's sort, counts and scatter hold. -/

noncomputable section
namespace Cert.Rank
open Idealize.ShloMosaic hiding ix1 ix2
open Idealize.ShloMosaic.ValueIdx Idealize.ShloMosaic.TcCoe Cert.Reference6Ideal Cert.Reference6Ideal.Gen Cert.Reference6Ideal.Read
open Idealize.ShloMosaic.StableHlo.Predicate (toInt_ofNat_small slt_ofNat_iff)

set_option maxRecDepth 16384

attribute [local irreducible] Nat.count sortedFrom

/-! Words that hold small numbers. -/

theorem slt_word (a b : ℕ) (ha : a < 2 ^ 31) (hb : b < 2 ^ 31) : IntOp.cmpi .slt (BitVec.ofNat 32 a) (BitVec.ofNat 32 b) = 1#1 ↔ a < b := by
  unfold IntOp.cmpi
  exact slt_ofNat_iff a b ha hb

/-- An index that is not negative stays as it is. -/
theorem wrap {a : ℕ} (ha : a < 2 ^ 31) (y : BitVec 32) : Scalar.select (IntOp.cmpi .slt (BitVec.ofNat 32 a) 0#32) y (BitVec.ofNat 32 a) = BitVec.ofNat 32 a := by
  unfold Scalar.select
  exact if_neg fun h => Nat.not_lt_zero _ ((slt_word a 0 ha (by decide)).mp h)

theorem max_word {a : ℕ} (ha : a < 2 ^ 31) : IntOp.maxsi 0#32 (BitVec.ofNat 32 a) = BitVec.ofNat 32 a := by
  unfold IntOp.maxsi
  simp only [BitVec.slt, toInt_ofNat_small a ha]
  rcases Nat.eq_zero_or_pos a with rfl | h
  · simp
  · simp [h]

theorem sub_word {a b : ℕ} (h : b ≤ a) (ha : a < 2 ^ 31) : IntOp.subi (BitVec.ofNat 32 a) (BitVec.ofNat 32 b) = BitVec.ofNat 32 (a - b) := by
  unfold IntOp.subi
  apply BitVec.eq_of_toNat_eq
  simp only [BitVec.toNat_sub, BitVec.toNat_ofNat]
  omega

theorem count_small (P : ℕ → Prop) [DecidablePred P] {n : ℕ} (hn : n ≤ 32768) : Nat.count P n < 2 ^ 31 :=
  lt_of_le_of_lt (Nat.count_le (p := P)) (by omega)

/-- A sort of a vector that carries a second one: what the second holds. -/
theorem sort2_second {α β : Type} {n : ℕ} (cmp : α × β → α × β → BitVec 1) (y : (⟨1, ![n]⟩ : Shape).Idx → α) (z : (⟨1, ![n]⟩ : Shape).Idx → β) (p : Fin n) :
    (Host.sort2 ⟨1, ![n]⟩ 0 cmp y z).2 (ix1 p) = z (ix1 (sortedFrom (fun k k' => cmp (y (ix1 k), z (ix1 k)) (y (ix1 k'), z (ix1 k')) == 1#1) p)) := by
  have ha : ∀ c : Fin n, (ix1 p : (⟨1, ![n]⟩ : Shape).Idx).along (0 : Fin 1) c = ix1 c := fun c => by
    funext a; fin_cases a; rfl
  have hd : 0 < (⟨1, ![n]⟩ : Shape).rank := Nat.one_pos
  unfold Host.sort2
  simp only [dif_pos hd]
  refine (congrArg z (ha _)).trans (congrArg (fun f : Fin n → Fin n => z (ix1 (f p))) (congrArg sortedFrom (funext fun k => funext fun k' => ?_)))
  exact congrArg₂ (fun i j => cmp (y i, z i) (y j, z j) == 1#1) (ha k) (ha k')

/-- The expert a slot of the record names; slots after the last name none. -/
def slot (x : S16384x128.Idx → EReal) (i : ℕ) : ℕ :=
  if h : i < 32768 then (Ideal.fptosi 32 (x (Idealize.ShloMosaic.ix2 ⟨i / 2, by omega⟩ ⟨i % 2, by omega⟩))).toNat else 0

variable (x : FVec Ideal S16384x128 .f32)

theorem ids_at (i : Fin 32768) : val_main_v2 (F := Ideal) x (ix1 i) = BitVec.ofNat 32 (slot x i.val) := by
  unfold slot
  rw [dif_pos i.isLt, BitVec.ofNat_toNat, BitVec.setWidth_eq]
  refine (val_main_v2_apply (F := Ideal) x _).trans ((val_main_v1_apply (F := Ideal) x _).trans ?_)
  refine congrArg (Ideal.fptosi 32) ((val_main_v0_apply (F := Ideal) x _).trans (congrArg x (funext fun a => Fin.ext ?_)))
  match a with
  | ⟨0, _⟩ => rfl
  | ⟨1, _⟩ => rfl

variable {x} (hs : ∀ i, slot x i < 64)
include hs

theorem id_small (i : ℕ) : slot x i < 2 ^ 31 := lt_trans (hs i) (by decide)

/-- The slots in the order of their experts. -/
abbrev ordered (x : FVec Ideal S16384x128 .f32) (p : Fin 32768) : Fin 32768 := sorted 32768 (slot x) p

theorem sort_at (p : Fin 32768) : val_main_v3 (F := Ideal) x (ix1 p) = BitVec.ofNat 32 (ordered x p).val := by
  unfold val_main_v3
  refine (sort2_second (n := 32768) comparator_i32_i32_d0 (val_main_v2 (F := Ideal) x) (val_main_call0_v0 (F := Ideal)) p).trans ?_
  refine congrArg (fun f : Fin 32768 → Fin 32768 => BitVec.ofNat 32 (f p).val) (congrArg sortedFrom (funext fun k => funext fun k' => ?_))
  show (IntOp.cmpi .slt (val_main_v2 (F := Ideal) x (ix1 k)) (val_main_v2 (F := Ideal) x (ix1 k')) == 1#1) = _
  rw [ids_at, ids_at, Bool.eq_iff_iff, beq_iff_eq, slt_word _ _ (id_small hs _) (id_small hs _), decide_eq_true_iff]

theorem small (p : Fin 32768) : (ordered x p).val < 2 ^ 31 := lt_trans (ordered x p).isLt (by decide)

theorem sorted_ids (p : Fin 32768) : val_main_v10 (F := Ideal) x (ix1 p) = BitVec.ofNat 32 (slot x (ordered x p).val) := by
  refine (Routing.gather_take1 gather_S32768_S32768x1_S32768_n_0_n_n_0_1_1 rfl rfl rfl rfl _ _ p (ordered x p) ?_ (by decide)).trans (ids_at x _)
  refine (Routing.bcCol _ _ p).trans ?_
  rw [val_main_v8_apply, val_main_v5_apply, sort_at hs]
  exact wrap (small hs p) _

theorem bins_index (i : Fin 32768) : val_main_v18 (F := Ideal) x (ix2 i (0 : Fin 1)) = BitVec.ofNat 32 (slot x i.val) := by
  refine (Routing.bcCol _ _ i).trans ?_
  have e : val_main_v12 (F := Ideal) x (ix1 i) = BitVec.ofNat 32 (slot x i.val) := by
    rw [val_main_v12_apply, ids_at]
    exact max_word (id_small hs _)
  show Scalar.select (IntOp.cmpi .slt (val_main_v12 (F := Ideal) x (ix1 i)) _) _ (val_main_v12 (F := Ideal) x (ix1 i)) = _
  rw [e]
  exact wrap (id_small hs _) _

theorem bins_lands (i : Fin 32768) (g : Fin 64) : scatter_S64_S32768x1_S32768_n_0_0_1.resultIdx? (ix1 i) (val_main_v18 (F := Ideal) x) = some (ix1 g) ↔ slot x i.val = g.val := by
  rw [Routing.resultIdx?_ix1]
  have hw : scatter_S64_S32768x1_S32768_n_0_0_1.window (ix1 i) 0 = 0 := rfl
  have hst : scatter_S64_S32768x1_S32768_n_0_0_1.start (ix1 i) (val_main_v18 (F := Ideal) x) 0 = (val_main_v18 (F := Ideal) x (ix2 i (0 : Fin 1))).toInt := by
    refine congrArg (fun k => (val_main_v18 (F := Ideal) x k).toInt) (funext fun a => ?_)
    fin_cases a <;> rfl
  rw [hw, hst, bins_index hs, toInt_ofNat_small _ (id_small hs _)]
  omega

/-- An expert's count. -/
theorem bins (g : Fin 64) : val_main_v20 (F := Ideal) x (ix1 g) = BitVec.ofNat 32 (Nat.count (fun i => slot x i = g.val) 32768) := by
  have hc := (Routing.countP_finRange 32768 fun i => slot x i = g.val)
  unfold val_main_v20 Host.scatter
  refine (Routing.foldl_count _ (ix1 g) (fun n => decide (slot x n.val = g.val)) (fun r n => ?_) _ _ 0 rfl).trans ?_
  · rw [Routing.symm1]
    have hl := bins_lands hs (n.cast (Routing.numel1 32768)) g
    dsimp only [Fin.val_cast] at hl
    cases ho : scatter_S64_S32768x1_S32768_n_0_0_1.resultIdx? (ix1 (n.cast (Routing.numel1 32768))) (val_main_v18 (F := Ideal) x) with
    | none =>
      rw [ho] at hl
      have : ¬ slot x n.val = g.val := fun h => nomatch hl.mpr h
      simp [this]
    | some k =>
      rw [ho] at hl
      by_cases h : slot x n.val = g.val
      · have hk : k = ix1 g := Option.some.inj (hl.mpr h)
        subst hk
        simp only [h, decide_true, if_true]
        rfl
      · have hk : ¬ ix1 g = k := fun hk => h (hl.mp (congrArg some hk.symm))
        simp [h, hk]
  · rw [Nat.zero_add, ← hc]
    rfl

theorem starts (g : Fin 64) : val_main_v22 (F := Ideal) x (ix1 g) = BitVec.ofNat 32 (Nat.count (fun i => slot x i < g.val) 32768) := by
  have hsum : val_main_v21 (F := Ideal) x (ix1 g) = BitVec.ofNat 32 (Nat.count (fun i => slot x i < g.val + 1) 32768) :=
    (Routing.cumsum1 (by decide) _ (fun a => Nat.count (fun i => slot x i = a) 32768) (bins hs) _ rfl _ _ g).trans (congrArg _ (sum_count 32768 _))
  rw [val_main_v22_apply, hsum, bins hs, count_lt_succ, sub_word (Nat.le_add_left _ _), Nat.add_sub_cancel]
  rw [← count_lt_succ]
  exact count_small _ le_rfl

/-- A sorted slot's place among its expert's slots. -/
theorem places (p : Fin 32768) : val_main_v32 (F := Ideal) x (ix1 p) = BitVec.ofNat 32 (Nat.count (fun j => slot x j = slot x (ordered x p).val) (ordered x p).val) := by
  have hst : val_main_v31 (F := Ideal) x (ix1 p) = BitVec.ofNat 32 (Nat.count (fun j => slot x j < slot x (ordered x p).val) 32768) := by
    refine (Routing.gather_take1 gather_S64_S32768x1_S32768_n_0_n_n_0_1_1 rfl rfl rfl rfl _ _ p ⟨slot x (ordered x p).val, hs _⟩ ?_ (by decide)).trans (starts hs _)
    refine (Routing.bcCol _ _ p).trans ?_
    show Scalar.select (IntOp.cmpi .slt (val_main_v10 (F := Ideal) x (ix1 p)) _) _ (val_main_v10 (F := Ideal) x (ix1 p)) = _
    rw [sorted_ids hs]
    exact wrap (id_small hs _) _
  have hp : p.val = Nat.count (fun j => slot x j < slot x (ordered x p).val) 32768 + Nat.count (fun j => slot x j = slot x (ordered x p).val) (ordered x p).val := place 32768 hs p
  have hpl := p.isLt
  rw [val_main_v32_apply, hst]
  show IntOp.subi (BitVec.ofNat 32 p.val) _ = _
  rw [sub_word (by omega) (by omega)]
  exact congrArg _ (by omega)

/-- A slot's place among its expert's slots. -/
theorem ranks (i : Fin 32768) : val_main_v39 (F := Ideal) x (ix1 i) = BitVec.ofNat 32 (Nat.count (fun j => slot x j = slot x i.val) i.val) := by
  obtain ⟨p, hp⟩ := sortedFrom_surjective (fun a b : Fin 32768 => decide (slot x a.val < slot x b.val)) i
  have hi : ∀ q : Fin 32768, val_main_v38 (F := Ideal) x (ix2 q (0 : Fin 1)) = BitVec.ofNat 32 (ordered x q).val := fun q => by
    refine (Routing.bcCol _ _ q).trans ?_
    rw [val_main_v37_apply, val_main_v34_apply, sort_at hs]
    exact wrap (small hs q) _
  have ht : ∀ q : Fin 32768, (val_main_v38 (F := Ideal) x (ix2 q (0 : Fin 1))).toInt = (i.val : Int) ↔ ordered x q = i := fun q => by
    rw [hi, toInt_ofNat_small _ (small hs q), Fin.ext_iff]
    omega
  refine (Routing.scatter_set_signed scatter_S32768_S32768x1_S32768_n_0_0_1 rfl rfl rfl _ _ _ i _ fun q hq => ?_).1 ⟨p, (ht p).mpr hp⟩
  rw [places hs, (ht q).mp hq]

end Cert.Rank
end
-- ==== Proof.RankAgree.lean ====
module

public import proofs.«01_k».proof.Defs
public import proofs.«01_k».proof.Proof.RankCall
public import proofs.«01_k».proof.Proof.RankRef
public import proofs.«01_k».proof.Proof.Tame
public import proofs.«01_k».proof.Proof.Gen.Pre_routed
public import proofs.«01_k».proof.Proof.Gen.Kernel6Ideal.Value
public import proofs.«01_k».proof.Proof.Gen.Reference6Ideal.Run
public import Idealize.ShloMosaic.Lib.Quiescent

@[expose] public section

/-! The slots' places: on routed records the call and the reference end with the same places and the same counts. -/

noncomputable section
namespace Cert.Rank
open Idealize.ShloMosaic Idealize.ShloMosaic.TcCoe Idealize.SL.Sem
open Idealize.ShloMosaic.StableHlo.Predicate (toInt_ofNat_small)

set_option maxRecDepth 16384

attribute [local irreducible] Nat.count sortedFrom

/-! What the precondition says. -/

/-- A number from zero up to 64 converts to a word below 64. -/
theorem small_of {v : EReal} (h : IntOp.andi (Ideal.cmp .oge v (Ideal.ofBits .f32 0x00000000#32)) (Ideal.cmp .olt v (Ideal.ofBits .f32 0x42800000#32)) = 1#1) : named v < 64 := by
  have hz : Ideal.ofBits .f32 0x00000000#32 = ((0 : ℝ) : EReal) := by simp [Ideal.ofBits, Ideal.ieee]
  have hl : Ideal.ofBits .f32 0x42800000#32 = ((64 : ℝ) : EReal) := by simp [Ideal.ofBits, Ideal.ieee]; rw [← EReal.coe_mul]; norm_num
  obtain ⟨h0, h1⟩ := S5.both h
  rw [hz] at h0
  rw [hl] at h1
  induction v with
  | bot => simp [Ideal.cmp] at h0
  | top => simp [Ideal.cmp] at h1
  | coe r =>
    have hr : 0 ≤ r := by
      by_contra hn
      simp [Ideal.cmp, hn] at h0
    have hr' : r < 64 := by
      by_contra hn
      have : ¬ ((r : EReal) < ((64 : ℝ) : EReal)) := fun hh => hn (EReal.coe_lt_coe_iff.mp hh)
      simp [Ideal.cmp, this] at h1
    have hf : 0 ≤ ⌊r⌋ := Int.floor_nonneg.mpr hr
    have hf' : ⌊r⌋ < 64 := Int.floor_lt.mpr (by exact_mod_cast hr')
    unfold named
    rw [Ideal.fptosi, Ideal.toIntClamped_coe, BitVec.toNat_ofInt, if_pos hr]
    omega

/-- The records name experts below 64, and a row's two experts differ. -/
structure Routed (x : Kernel6Ideal.S16384x128.Idx → EReal) : Prop where
  small : ∀ (q : Fin 16384) (k : Fin 2), named (x (ix2 q ⟨k.val, by omega⟩)) < 64
  apart : ∀ q : Fin 16384, named (x (ix2 q 0)) ≠ named (x (ix2 q 1))

theorem routed_args (x : FVec Ideal Kernel6Ideal.S16384x128 .f32) (hp : Cert.Pre_routed.fn (F := Ideal) x = fun _ => 1#1) : Routed x := by
  have h := congrFun hp (fun k => k.elim0)
  dsimp only [Cert.Pre_routed.fn] at h
  obtain ⟨h7, h13⟩ := S5.both h
  refine ⟨fun q k => small_of ?_, fun q e => ?_⟩
  · have h := Host.reduce_andi_all _ _ _ _ _ h7 (ix2 q k)
    revert h
    pointwise
    exact id
  · have h := Host.reduce_andi_all _ _ _ _ _ h13 (ix1 q)
    revert h
    pointwise
    intro h
    have : IntOp.cmpi .ne (Ideal.fptosi 32 (x (ix2 q 0))) (Ideal.fptosi 32 (x (ix2 q 1))) = 1#1 := h
    rw [show Ideal.fptosi 32 (x (ix2 q 0)) = Ideal.fptosi 32 (x (ix2 q 1)) from BitVec.eq_of_toNat_eq e] at this
    simp [IntOp.cmpi] at this

section Slots
variable {x : Kernel6Ideal.S16384x128.Idx → EReal}

/-- The slot a row and a lane make. -/
theorem slot_at (q : Fin 16384) (k : Fin 128) (hk : k.val < 2) : named (x (ix2 q k)) = slot x (2 * q.val + k.val) := by
  have hq := q.isLt
  unfold slot named
  rw [dif_pos (by omega)]
  refine congrArg (fun i => (Ideal.fptosi 32 (x i)).toNat) (congrArg₂ ix2 (Fin.ext ?_) (Fin.ext ?_))
  · show q.val = (2 * q.val + k.val) / 2; omega
  · show k.val = (2 * q.val + k.val) % 2; omega

variable (R : Routed x)
include R

theorem slot_small (i : ℕ) : slot x i < 64 := by
  by_cases h : i < 32768
  · have := R.small ⟨i / 2, by omega⟩ ⟨i % 2, by omega⟩
    unfold slot
    rw [dif_pos h]
    exact this
  · unfold slot
    rw [dif_neg h]
    decide

theorem slot_apart (q : Fin 16384) : slot x (2 * q.val) ≠ slot x (2 * q.val + 1) := by
  have := R.apart q
  rwa [slot_at q 0 (by decide), slot_at q 1 (by decide)] at this
end Slots

/-- The counts over the rows. -/
theorem count_word {p : ℕ → Prop} [DecidablePred p] {n : ℕ} (hn : n ≤ 32768) : (((BitVec.ofNat 32 (Nat.count p n)).toInt : ℝ) : EReal) = (Nat.count p n : ℕ) := by
  rw [toInt_ofNat_small _ (count_small p hn)]
  simp

section Reference
open Reference6Ideal Reference6Ideal.Read
variable {x : FVec Ideal S16384x128 .f32} (R : Routed x)
include R

theorem ref_rank : val_main_v44 (F := Ideal) x
    = fun i : S16384x128.Idx => if (i 1).val < 2 then ((∑ a ∈ Finset.range (i 0).val, pair (slot x) (slot x (2 * (i 0).val + (i 1).val)) a : ℕ) : EReal) else 0 := by
  funext i
  obtain ⟨q, j, rfl⟩ : ∃ (q : Fin 16384) (j : Fin 128), i = ix2 q j := ⟨i 0, i 1, eq_ix2 i⟩
  have e : val_main_v41 (F := Ideal) x (ix2 q j) = if h : j.val < 2 then val_main_v40 (F := Ideal) x (ix2 q ⟨j.val, h⟩) else 0#32 := by
    unfold val_main_v41 val_main_call3_v0 val_main_c_11
    generalize val_main_v40 (F := Ideal) x = y
    pointwise
    split
    · rfl
    · rfl
  refine (congrArg (fun w : BitVec 32 => ((w.toInt : ℝ) : EReal)) e).trans ?_
  show _ = if j.val < 2 then ((∑ a ∈ Finset.range q.val, pair (slot x) (slot x (2 * q.val + j.val)) a : ℕ) : EReal) else 0
  by_cases hj : j.val < 2
  · have hq := q.isLt
    rw [dif_pos hj, if_pos hj, val_main_v40_apply,
      show idx_main_v40 (ix2 q ⟨j.val, hj⟩) = ValueIdx.ix1 ⟨2 * q.val + j.val, by omega⟩ from funext fun a => Fin.ext (by
        match a with
        | ⟨0, _⟩ => show q.val * 2 + j.val = 2 * q.val + j.val; omega),
      ranks (slot_small R)]
    refine (count_word (by show 2 * q.val + j.val ≤ 32768; omega)).trans (congrArg Nat.cast ?_)
    exact count_slot q.val j.val hj (slot_apart R q)
  · rw [dif_neg hj, if_neg hj]
    show (((0#32 : BitVec 32).toInt : ℝ) : EReal) = 0
    simp

theorem ref_count : val_main_v45 (F := Ideal) x = fun i : S8x128.Idx => ((∑ a ∈ Finset.range 16384, pair (slot x) (i 1).val a : ℕ) : EReal) := by
  funext i
  obtain ⟨k, j, rfl⟩ : ∃ (k : Fin 8) (j : Fin 128), i = ix2 k j := ⟨i 0, i 1, eq_ix2 i⟩
  have e : val_main_v43 (F := Ideal) x (ix2 k j) = if h : j.val < 64 then val_main_v20 (F := Ideal) x (ix1 ⟨j.val, h⟩) else 0#32 := by
    unfold val_main_v43 val_main_v42 val_main_call4_v0 val_main_c_12
    generalize val_main_v20 (F := Ideal) x = y
    pointwise
    split
    · rfl
    · rfl
  refine (congrArg (fun w : BitVec 32 => ((w.toInt : ℝ) : EReal)) e).trans ?_
  show _ = ((∑ a ∈ Finset.range 16384, pair (slot x) j.val a : ℕ) : EReal)
  rw [← count_rows]
  by_cases hj : j.val < 64
  · rw [dif_pos hj, ix1_eq_valueIdx, bins (slot_small R)]
    exact count_word (le_refl _)
  · rw [dif_neg hj]
    have h0 : Nat.count (fun i => slot x i = j.val) (2 * 16384) = 0 := by
      rw [Nat.count_eq_card_filter_range, Finset.card_eq_zero, Finset.filter_eq_empty_iff]
      intro a _ h
      have := slot_small R a
      omega
    rw [h0]
    show (((0#32 : BitVec 32).toInt : ℝ) : EReal) = ((0 : ℕ) : EReal)
    simp
end Reference

/-- The value claim. -/
theorem algebraic : algebraic_Kernel6Ideal_Reference6Ideal_pre_routed := by
  intro m ρ m' ρ' hp ha
  refine ⟨fun c => (Kernel6Ideal.Gen.dats m 0 c).arrAt 1 Kernel6Ideal.cfg0.N, fun c => (Kernel6Ideal.Gen.dats m 0 c).arrAt 2 Kernel6Ideal.cfg0.N,
    Kernel6Ideal.Value.run_blocks m ρ, ?_⟩
  refine (θ_run _ _ _).mono (fun r h c => ?_) (Reference6Ideal.Value.run m' ρ')
  have R := routed_args _ (hp c)
  have he := fun (q : Fin 16384) (k : Fin 128) (hk : k.val < 2) => (congrArg (fun X => named (X (ix2 q k))) (Kernel6Ideal.Gen.V_main_arg0 m c)).trans (slot_at q k hk)
  refine ⟨(h c).1.trans ((Reference6Ideal.Read.val_main_v44_eq m' c).trans ?_), (h c).2.1.trans ?_, (h c).2.2⟩
  · rw [ha c]
    exact (ref_rank R).trans (arr_rank he (slot_small R)).symm
  · refine Eq.trans (?_ : _ = Reference6Ideal.Read.val_main_v45 (F := Ideal) (m' ((c.tc : Thread Reference6Ideal.nD Reference6Ideal.τ).loc Reference6Ideal.main_arg0))) ?_
    · rfl
    · rw [ha c]
      exact (ref_count R).trans (arr_count he).symm

/-- The reference's frame. -/
theorem frame_ref : quiescent_Reference6Ideal :=
  fun m ρ _ => (θ_run _ _ _).mono (fun r h => ⟨fun c => (h c).2.2, sem_eq_zero_of_no_sems (by decide) _⟩) (Reference6Ideal.Value.run m ρ)

end Cert.Rank
end
-- ==== Proof.lean ====
/- The proof of the claims: the frames of the kernels are the generated runs, the references' frames and the value claims are those of Proof/Agree.lean, Proof/ProjAgree.lean, Proof/GluAgree.lean, Proof/OutProjAgree.lean, Proof/RouteAgree.lean and Proof/RankAgree.lean. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2Ideal.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5Ideal.Value
public import proofs.«01_k».proof.Proof.Gen.Pre_finite
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel6Ideal.Value
public import proofs.«01_k».proof.Proof.Gen.Pre_routed
public import proofs.«01_k».proof.Proof.Agree
public import proofs.«01_k».proof.Proof.ProjAgree
public import proofs.«01_k».proof.Proof.GluAgree
public import proofs.«01_k».proof.Proof.OutProjAgree
public import proofs.«01_k».proof.Proof.RouteAgree
public import proofs.«01_k».proof.Proof.RankAgree
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_tame.Gen.facts, Cert.Pre_finite.Gen.facts, Cert.Pre_routed.Gen.facts,
  fun m ρ _ => Cert.Kernel.Gen.frame m ρ, fun m ρ _ => Cert.KernelIdeal.Gen.frame m ρ, fun m ρ _ => Cert.KernelIdeal.Gen.frame m ρ,
  Cert.S5.frame_ref, fun m ρ _ => Cert.S5.frame_ref m ρ trivial,
  fun m ρ _ => Cert.Kernel2.Gen.frame m ρ, fun m ρ _ => Cert.Kernel2Ideal.Gen.frame m ρ, Cert.Proj.frame_ref,
  fun m ρ _ => Cert.Kernel3.Gen.frame m ρ, fun m ρ _ => Cert.Kernel3Ideal.Gen.frame m ρ, Cert.Glu.frame_ref,
  fun m ρ _ => Cert.Kernel4.Gen.frame m ρ, fun m ρ _ => Cert.Kernel4Ideal.Gen.frame m ρ, Cert.OutProj.frame_ref,
  fun m ρ _ => Cert.Kernel5.Gen.frame m ρ, fun m ρ _ => Cert.Kernel5Ideal.Gen.frame m ρ, fun m ρ _ => Cert.Kernel5Ideal.Gen.frame m ρ,
  Cert.Route.frame_ref, fun m ρ _ => Cert.Route.frame_ref m ρ trivial,
  fun m ρ _ => Cert.Kernel6.Gen.frame m ρ, fun m ρ _ => Cert.Kernel6Ideal.Gen.frame m ρ, fun m ρ _ => Cert.Kernel6Ideal.Gen.frame m ρ,
  Cert.Rank.frame_ref, fun m ρ _ => Cert.Rank.frame_ref m ρ trivial,
  trivial, Cert.S5.algebraic, trivial, Cert.Proj.algebraic, trivial, Cert.Glu.algebraic, trivial, Cert.OutProj.algebraic,
  trivial, Cert.Route.algebraic, trivial, Cert.Rank.algebraic⟩

end Cert.Proof

end
